-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 1024]⟩ ⟨2, ![8192, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S2x128x1024 : Shape := ⟨3, ![2, 128, 1024]⟩
abbrev S2x256x1024 : Shape := ⟨3, ![2, 256, 1024]⟩
abbrev S3x64x1024 : Shape := ⟨3, ![3, 64, 1024]⟩
abbrev S14 : Shape := ⟨1, ![14]⟩
abbrev S2 : Shape := ⟨1, ![2]⟩
abbrev S8 : Shape := ⟨1, ![8]⟩
abbrev S3 : Shape := ⟨1, ![3]⟩
abbrev S_ : Shape := ⟨0, ![]⟩
abbrev S128x512 : Shape := ⟨2, ![128, 512]⟩
abbrev S128x1024 : Shape := ⟨2, ![128, 1024]⟩
abbrev S1 : Shape := ⟨1, ![1]⟩
abbrev S1x128x1024 : Shape := ⟨3, ![1, 128, 1024]⟩
abbrev S256x512 : Shape := ⟨2, ![256, 512]⟩
abbrev S256x1024 : Shape := ⟨2, ![256, 1024]⟩
abbrev S1x64x1024 : Shape := ⟨3, ![1, 64, 1024]⟩
abbrev S64x1024 : Shape := ⟨2, ![64, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S1024x1024, .bf16⟩
  | .local _ .vmem, ⟨4, _⟩ => ⟨S2x128x1024, .bf16⟩
  | .local _ .vmem, ⟨5, _⟩ => ⟨S2x256x1024, .bf16⟩
  | .local _ .vmem, ⟨6, _⟩ => ⟨S3x64x1024, .bf16⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_50 : BitVec 32 := 1#32
  let v96 : BitVec 32 := Scalar.muli v55 c1_i32_50
  let v97 : BitVec 32 := Scalar.addi c0_i32_51 v96
  v97.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_53 : BitVec 32 := 1#32
  let v98 : BitVec 32 := Scalar.muli v42 c1_i32_53
  let v99 : BitVec 32 := Scalar.addi c0_i32_54 v98
  v99.toNat
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_56 : BitVec 32 := 1#32
  let v100 : BitVec 32 := Scalar.muli v68 c1_i32_56
  let v101 : BitVec 32 := Scalar.addi c0_i32_57 v100
  v101.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v69 : BitVec 32 := Scalar.addi v19 c2_i32
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_59 : BitVec 32 := 1#32
  let v102 : BitVec 32 := Scalar.muli v81 c1_i32_59
  let v103 : BitVec 32 := Scalar.addi c0_i32_60 v102
  v103.toNat
def k0_dev5 (d0 : Dev nD) : Nat :=
  let c0_i32_63 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v82 : BitVec 32 := Scalar.addi v19 c3_i32
  let c4_i32_42 : BitVec 32 := 4#32
  let c0_i32_43 : BitVec 32 := 0#32
  let v83 : BitVec 1 := Scalar.cmpi .eq c4_i32_42 c0_i32_43
  let c1_i32_44 : BitVec 32 := 1#32
  let v84 : BitVec 32 := Scalar.select v83 c1_i32_44 c4_i32_42
  let v85 : BitVec 32 := Scalar.remsi v82 v84
  let c0_i32_46 : BitVec 32 := 0#32
  let v87 : BitVec 1 := Scalar.cmpi .slt v85 c0_i32_46
  let c0_i32_47 : BitVec 32 := 0#32
  let v88 : BitVec 1 := Scalar.cmpi .slt v84 c0_i32_47
  let v89 : BitVec 1 := Scalar.xori v87 v88
  let c0_i32_45 : BitVec 32 := 0#32
  let v86 : BitVec 1 := Scalar.cmpi .ne v85 c0_i32_45
  let v90 : BitVec 1 := Scalar.andi v89 v86
  let v91 : BitVec 32 := Scalar.addi v85 v84
  let v92 : BitVec 32 := Scalar.select v90 v91 v85
  let c4_i32_48 : BitVec 32 := 4#32
  let v93 : BitVec 32 := Scalar.muli v92 c4_i32_48
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v94 : BitVec 32 := Scalar.addi v93 v29
  let c1_i32_62 : BitVec 32 := 1#32
  let v104 : BitVec 32 := Scalar.muli v94 c1_i32_62
  let v105 : BitVec 32 := Scalar.addi c0_i32_63 v104
  v105.toNat
def k0_off1 (d0 : Dev nD) (c128_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_64 : BitVec 32 := 2#32
  let v106 : BitVec 32 := Scalar.addi v29 c2_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c256_i32 : BitVec 32 := 256#32
  let v117 : BitVec 32 := Scalar.muli v116 c256_i32
  let v118 : BitVec 32 := Scalar.addi v117 c128_i32
  let v119 : Index := Scalar.indexCast v118
  let c0 : Index := 0#32
  ![v119.toNat, 0]
def k0_off2 (d0 : Dev nD) (c2_i32_64 : BitVec 32) (c128_i32 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v106 : BitVec 32 := Scalar.addi v29 c2_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let c256_i32 : BitVec 32 := 256#32
  let v117 : BitVec 32 := Scalar.muli v116 c256_i32
  let v118 : BitVec 32 := Scalar.addi v117 c128_i32
  let v126 : Index := Scalar.indexCast v118
  let c0_73 : Index := 0#32
  ![v126.toNat, 0]
def k0_off2_at (r : Fin 3) : BitVec 32 × BitVec 32 :=
  if r.val < 1 then
    (2#32, 128#32)
  else
    if r.val < 2 then
      (2#32, 0#32)
    else
      (1#32, 128#32)
def k0_off3 (d0 : Dev nD) (c2_i32_74 : BitVec 32) (c128_i32_82 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v130 : BitVec 32 := Scalar.addi v29 c2_i32_74
  let c4_i32_75 : BitVec 32 := 4#32
  let c0_i32_76 : BitVec 32 := 0#32
  let v131 : BitVec 1 := Scalar.cmpi .eq c4_i32_75 c0_i32_76
  let c1_i32_77 : BitVec 32 := 1#32
  let v132 : BitVec 32 := Scalar.select v131 c1_i32_77 c4_i32_75
  let v133 : BitVec 32 := Scalar.remsi v130 v132
  let c0_i32_79 : BitVec 32 := 0#32
  let v135 : BitVec 1 := Scalar.cmpi .slt v133 c0_i32_79
  let c0_i32_80 : BitVec 32 := 0#32
  let v136 : BitVec 1 := Scalar.cmpi .slt v132 c0_i32_80
  let v137 : BitVec 1 := Scalar.xori v135 v136
  let c0_i32_78 : BitVec 32 := 0#32
  let v134 : BitVec 1 := Scalar.cmpi .ne v133 c0_i32_78
  let v138 : BitVec 1 := Scalar.andi v137 v134
  let v139 : BitVec 32 := Scalar.addi v133 v132
  let v140 : BitVec 32 := Scalar.select v138 v139 v133
  let c256_i32_81 : BitVec 32 := 256#32
  let v141 : BitVec 32 := Scalar.muli v140 c256_i32_81
  let v142 : BitVec 32 := Scalar.addi v141 c128_i32_82
  let c0_i32_90 : BitVec 32 := 0#32
  ![v142.toNat, 0]
def k0_off3_at (r : Fin 3) : BitVec 32 × BitVec 32 :=
  if r.val < 1 then
    (2#32, 128#32)
  else
    if r.val < 2 then
      (2#32, 0#32)
    else
      (1#32, 128#32)
def k0_dev6 (d0 : Dev nD) : Nat :=
  let c0_i32_87 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_86 : BitVec 32 := 1#32
  let v143 : BitVec 32 := Scalar.muli v42 c1_i32_86
  let v144 : BitVec 32 := Scalar.addi c0_i32_87 v143
  v144.toNat
def k0_dev7 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_117 : BitVec 32 := 1#32
  let v189 : BitVec 32 := Scalar.muli v55 c1_i32_117
  let v190 : BitVec 32 := Scalar.addi c0_i32_118 v189
  v190.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_122 : BitVec 32 := 1#32
  let v198 : BitVec 32 := Scalar.addi v29 c1_i32_122
  let c4_i32_123 : BitVec 32 := 4#32
  let c0_i32_124 : BitVec 32 := 0#32
  let v199 : BitVec 1 := Scalar.cmpi .eq c4_i32_123 c0_i32_124
  let c1_i32_125 : BitVec 32 := 1#32
  let v200 : BitVec 32 := Scalar.select v199 c1_i32_125 c4_i32_123
  let v201 : BitVec 32 := Scalar.remsi v198 v200
  let c0_i32_127 : BitVec 32 := 0#32
  let v203 : BitVec 1 := Scalar.cmpi .slt v201 c0_i32_127
  let c0_i32_128 : BitVec 32 := 0#32
  let v204 : BitVec 1 := Scalar.cmpi .slt v200 c0_i32_128
  let v205 : BitVec 1 := Scalar.xori v203 v204
  let c0_i32_126 : BitVec 32 := 0#32
  let v202 : BitVec 1 := Scalar.cmpi .ne v201 c0_i32_126
  let v206 : BitVec 1 := Scalar.andi v205 v202
  let v207 : BitVec 32 := Scalar.addi v201 v200
  let v208 : BitVec 32 := Scalar.select v206 v207 v201
  let c256_i32_129 : BitVec 32 := 256#32
  let v209 : BitVec 32 := Scalar.muli v208 c256_i32_129
  let v210 : Index := Scalar.indexCast v209
  let c0_130 : Index := 0#32
  ![v210.toNat, 0]
def k0_off5 (d0 : Dev nD) (c1_i32_122 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v198 : BitVec 32 := Scalar.addi v29 c1_i32_122
  let c4_i32_123 : BitVec 32 := 4#32
  let c0_i32_124 : BitVec 32 := 0#32
  let v199 : BitVec 1 := Scalar.cmpi .eq c4_i32_123 c0_i32_124
  let c1_i32_125 : BitVec 32 := 1#32
  let v200 : BitVec 32 := Scalar.select v199 c1_i32_125 c4_i32_123
  let v201 : BitVec 32 := Scalar.remsi v198 v200
  let c0_i32_127 : BitVec 32 := 0#32
  let v203 : BitVec 1 := Scalar.cmpi .slt v201 c0_i32_127
  let c0_i32_128 : BitVec 32 := 0#32
  let v204 : BitVec 1 := Scalar.cmpi .slt v200 c0_i32_128
  let v205 : BitVec 1 := Scalar.xori v203 v204
  let c0_i32_126 : BitVec 32 := 0#32
  let v202 : BitVec 1 := Scalar.cmpi .ne v201 c0_i32_126
  let v206 : BitVec 1 := Scalar.andi v205 v202
  let v207 : BitVec 32 := Scalar.addi v201 v200
  let v208 : BitVec 32 := Scalar.select v206 v207 v201
  let c256_i32_129 : BitVec 32 := 256#32
  let v209 : BitVec 32 := Scalar.muli v208 c256_i32_129
  let v217 : Index := Scalar.indexCast v209
  let c0_134 : Index := 0#32
  ![v217.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_135 : BitVec 32 := 1#32
  let v221 : BitVec 32 := Scalar.subi v29 c1_i32_135
  let c4_i32_136 : BitVec 32 := 4#32
  let c0_i32_137 : BitVec 32 := 0#32
  let v222 : BitVec 1 := Scalar.cmpi .eq c4_i32_136 c0_i32_137
  let c1_i32_138 : BitVec 32 := 1#32
  let v223 : BitVec 32 := Scalar.select v222 c1_i32_138 c4_i32_136
  let v224 : BitVec 32 := Scalar.remsi v221 v223
  let c0_i32_140 : BitVec 32 := 0#32
  let v226 : BitVec 1 := Scalar.cmpi .slt v224 c0_i32_140
  let c0_i32_141 : BitVec 32 := 0#32
  let v227 : BitVec 1 := Scalar.cmpi .slt v223 c0_i32_141
  let v228 : BitVec 1 := Scalar.xori v226 v227
  let c0_i32_139 : BitVec 32 := 0#32
  let v225 : BitVec 1 := Scalar.cmpi .ne v224 c0_i32_139
  let v229 : BitVec 1 := Scalar.andi v228 v225
  let v230 : BitVec 32 := Scalar.addi v224 v223
  let v231 : BitVec 32 := Scalar.select v229 v230 v224
  let c256_i32_142 : BitVec 32 := 256#32
  let v232 : BitVec 32 := Scalar.muli v231 c256_i32_142
  let v233 : Index := Scalar.indexCast v232
  let c0_143 : Index := 0#32
  ![v233.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_135 : BitVec 32 := 1#32
  let v221 : BitVec 32 := Scalar.subi v29 c1_i32_135
  let c4_i32_136 : BitVec 32 := 4#32
  let c0_i32_137 : BitVec 32 := 0#32
  let v222 : BitVec 1 := Scalar.cmpi .eq c4_i32_136 c0_i32_137
  let c1_i32_138 : BitVec 32 := 1#32
  let v223 : BitVec 32 := Scalar.select v222 c1_i32_138 c4_i32_136
  let v224 : BitVec 32 := Scalar.remsi v221 v223
  let c0_i32_140 : BitVec 32 := 0#32
  let v226 : BitVec 1 := Scalar.cmpi .slt v224 c0_i32_140
  let c0_i32_141 : BitVec 32 := 0#32
  let v227 : BitVec 1 := Scalar.cmpi .slt v223 c0_i32_141
  let v228 : BitVec 1 := Scalar.xori v226 v227
  let c0_i32_139 : BitVec 32 := 0#32
  let v225 : BitVec 1 := Scalar.cmpi .ne v224 c0_i32_139
  let v229 : BitVec 1 := Scalar.andi v228 v225
  let v230 : BitVec 32 := Scalar.addi v224 v223
  let v231 : BitVec 32 := Scalar.select v229 v230 v224
  let c256_i32_142 : BitVec 32 := 256#32
  let v232 : BitVec 32 := Scalar.muli v231 c256_i32_142
  let v240 : Index := Scalar.indexCast v232
  let c0_147 : Index := 0#32
  ![v240.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_201 : BitVec 32 := 1#32
  let v303 : BitVec 32 := Scalar.subi v29 c1_i32_201
  let c4_i32_202 : BitVec 32 := 4#32
  let c0_i32_203 : BitVec 32 := 0#32
  let v304 : BitVec 1 := Scalar.cmpi .eq c4_i32_202 c0_i32_203
  let c1_i32_204 : BitVec 32 := 1#32
  let v305 : BitVec 32 := Scalar.select v304 c1_i32_204 c4_i32_202
  let v306 : BitVec 32 := Scalar.remsi v303 v305
  let c0_i32_206 : BitVec 32 := 0#32
  let v308 : BitVec 1 := Scalar.cmpi .slt v306 c0_i32_206
  let c0_i32_207 : BitVec 32 := 0#32
  let v309 : BitVec 1 := Scalar.cmpi .slt v305 c0_i32_207
  let v310 : BitVec 1 := Scalar.xori v308 v309
  let c0_i32_205 : BitVec 32 := 0#32
  let v307 : BitVec 1 := Scalar.cmpi .ne v306 c0_i32_205
  let v311 : BitVec 1 := Scalar.andi v310 v307
  let v312 : BitVec 32 := Scalar.addi v306 v305
  let v313 : BitVec 32 := Scalar.select v311 v312 v306
  let c256_i32_208 : BitVec 32 := 256#32
  let v314 : BitVec 32 := Scalar.muli v313 c256_i32_208
  let c0_i32_209 : BitVec 32 := 0#32
  let v315 : BitVec 32 := Scalar.addi v314 c0_i32_209
  let v316 : Index := Scalar.indexCast v315
  let c0_210 : Index := 0#32
  ![v316.toNat, 0]
def k0_off9 (d0 : Dev nD) (c0_i32_238 : BitVec 32) : Fin 3 → Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v363 : BitVec 32 := Scalar.addi v19 c0_i32_238
  let c4_i32_239 : BitVec 32 := 4#32
  let c0_i32_240 : BitVec 32 := 0#32
  let v364 : BitVec 1 := Scalar.cmpi .eq c4_i32_239 c0_i32_240
  let c1_i32_241 : BitVec 32 := 1#32
  let v365 : BitVec 32 := Scalar.select v364 c1_i32_241 c4_i32_239
  let v366 : BitVec 32 := Scalar.remsi v363 v365
  let c0_i32_243 : BitVec 32 := 0#32
  let v368 : BitVec 1 := Scalar.cmpi .slt v366 c0_i32_243
  let c0_i32_244 : BitVec 32 := 0#32
  let v369 : BitVec 1 := Scalar.cmpi .slt v365 c0_i32_244
  let v370 : BitVec 1 := Scalar.xori v368 v369
  let c0_i32_242 : BitVec 32 := 0#32
  let v367 : BitVec 1 := Scalar.cmpi .ne v366 c0_i32_242
  let v371 : BitVec 1 := Scalar.andi v370 v367
  let v372 : BitVec 32 := Scalar.addi v366 v365
  let v373 : BitVec 32 := Scalar.select v371 v372 v366
  let c64_i32_245 : BitVec 32 := 64#32
  let v374 : BitVec 32 := Scalar.muli v373 c64_i32_245
  let c0_i32_275 : BitVec 32 := 0#32
  ![0, v374.toNat, 0]
def k0_off10 (d0 : Dev nD) (c0_i32_224 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_223 : BitVec 32 := 1#32
  let v338 : BitVec 32 := Scalar.addi v29 c1_i32_223
  let c4_i32_225 : BitVec 32 := 4#32
  let c0_i32_226 : BitVec 32 := 0#32
  let v340 : BitVec 1 := Scalar.cmpi .eq c4_i32_225 c0_i32_226
  let c1_i32_227 : BitVec 32 := 1#32
  let v341 : BitVec 32 := Scalar.select v340 c1_i32_227 c4_i32_225
  let v342 : BitVec 32 := Scalar.remsi v338 v341
  let c0_i32_229 : BitVec 32 := 0#32
  let v344 : BitVec 1 := Scalar.cmpi .slt v342 c0_i32_229
  let c0_i32_230 : BitVec 32 := 0#32
  let v345 : BitVec 1 := Scalar.cmpi .slt v341 c0_i32_230
  let v346 : BitVec 1 := Scalar.xori v344 v345
  let c0_i32_228 : BitVec 32 := 0#32
  let v343 : BitVec 1 := Scalar.cmpi .ne v342 c0_i32_228
  let v347 : BitVec 1 := Scalar.andi v346 v343
  let v348 : BitVec 32 := Scalar.addi v342 v341
  let v349 : BitVec 32 := Scalar.select v347 v348 v342
  let c256_i32_231 : BitVec 32 := 256#32
  let v350 : BitVec 32 := Scalar.muli v349 c256_i32_231
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v339 : BitVec 32 := Scalar.addi v19 c0_i32_224
  let c4_i32_232 : BitVec 32 := 4#32
  let c0_i32_233 : BitVec 32 := 0#32
  let v351 : BitVec 1 := Scalar.cmpi .eq c4_i32_232 c0_i32_233
  let c1_i32_234 : BitVec 32 := 1#32
  let v352 : BitVec 32 := Scalar.select v351 c1_i32_234 c4_i32_232
  let v353 : BitVec 32 := Scalar.remsi v339 v352
  let c0_i32_236 : BitVec 32 := 0#32
  let v355 : BitVec 1 := Scalar.cmpi .slt v353 c0_i32_236
  let c0_i32_237 : BitVec 32 := 0#32
  let v356 : BitVec 1 := Scalar.cmpi .slt v352 c0_i32_237
  let v357 : BitVec 1 := Scalar.xori v355 v356
  let c0_i32_235 : BitVec 32 := 0#32
  let v354 : BitVec 1 := Scalar.cmpi .ne v353 c0_i32_235
  let v358 : BitVec 1 := Scalar.andi v357 v354
  let v359 : BitVec 32 := Scalar.addi v353 v352
  let v360 : BitVec 32 := Scalar.select v358 v359 v353
  let c64_i32 : BitVec 32 := 64#32
  let v361 : BitVec 32 := Scalar.muli v360 c64_i32
  let v362 : BitVec 32 := Scalar.addi v350 v361
  let c0_i32_276 : BitVec 32 := 0#32
  ![v362.toNat, 0]
def k0_dev8 (d0 : Dev nD) : Nat :=
  let c0_i32_274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_273 : BitVec 32 := 1#32
  let v412 : BitVec 32 := Scalar.muli v42 c1_i32_273
  let v413 : BitVec 32 := Scalar.addi c0_i32_274 v412
  v413.toNat
def k0_off11 (d0 : Dev nD) (c0_i32_262 : BitVec 32) : Fin 3 → Nat :=
  let c1_i32_277 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v400 : BitVec 32 := Scalar.addi v19 c0_i32_262
  let c4_i32_263 : BitVec 32 := 4#32
  let c0_i32_264 : BitVec 32 := 0#32
  let v401 : BitVec 1 := Scalar.cmpi .eq c4_i32_263 c0_i32_264
  let c1_i32_265 : BitVec 32 := 1#32
  let v402 : BitVec 32 := Scalar.select v401 c1_i32_265 c4_i32_263
  let v403 : BitVec 32 := Scalar.remsi v400 v402
  let c0_i32_267 : BitVec 32 := 0#32
  let v405 : BitVec 1 := Scalar.cmpi .slt v403 c0_i32_267
  let c0_i32_268 : BitVec 32 := 0#32
  let v406 : BitVec 1 := Scalar.cmpi .slt v402 c0_i32_268
  let v407 : BitVec 1 := Scalar.xori v405 v406
  let c0_i32_266 : BitVec 32 := 0#32
  let v404 : BitVec 1 := Scalar.cmpi .ne v403 c0_i32_266
  let v408 : BitVec 1 := Scalar.andi v407 v404
  let v409 : BitVec 32 := Scalar.addi v403 v402
  let v410 : BitVec 32 := Scalar.select v408 v409 v403
  let c64_i32_269 : BitVec 32 := 64#32
  let v411 : BitVec 32 := Scalar.muli v410 c64_i32_269
  let c0_i32_281 : BitVec 32 := 0#32
  ![1, v411.toNat, 0]
def k0_off12 (d0 : Dev nD) (c0_i32_247 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_246 : BitVec 32 := 1#32
  let v375 : BitVec 32 := Scalar.subi v29 c1_i32_246
  let c4_i32_248 : BitVec 32 := 4#32
  let c0_i32_249 : BitVec 32 := 0#32
  let v377 : BitVec 1 := Scalar.cmpi .eq c4_i32_248 c0_i32_249
  let c1_i32_250 : BitVec 32 := 1#32
  let v378 : BitVec 32 := Scalar.select v377 c1_i32_250 c4_i32_248
  let v379 : BitVec 32 := Scalar.remsi v375 v378
  let c0_i32_252 : BitVec 32 := 0#32
  let v381 : BitVec 1 := Scalar.cmpi .slt v379 c0_i32_252
  let c0_i32_253 : BitVec 32 := 0#32
  let v382 : BitVec 1 := Scalar.cmpi .slt v378 c0_i32_253
  let v383 : BitVec 1 := Scalar.xori v381 v382
  let c0_i32_251 : BitVec 32 := 0#32
  let v380 : BitVec 1 := Scalar.cmpi .ne v379 c0_i32_251
  let v384 : BitVec 1 := Scalar.andi v383 v380
  let v385 : BitVec 32 := Scalar.addi v379 v378
  let v386 : BitVec 32 := Scalar.select v384 v385 v379
  let c256_i32_254 : BitVec 32 := 256#32
  let v387 : BitVec 32 := Scalar.muli v386 c256_i32_254
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v376 : BitVec 32 := Scalar.addi v19 c0_i32_247
  let c4_i32_255 : BitVec 32 := 4#32
  let c0_i32_256 : BitVec 32 := 0#32
  let v388 : BitVec 1 := Scalar.cmpi .eq c4_i32_255 c0_i32_256
  let c1_i32_257 : BitVec 32 := 1#32
  let v389 : BitVec 32 := Scalar.select v388 c1_i32_257 c4_i32_255
  let v390 : BitVec 32 := Scalar.remsi v376 v389
  let c0_i32_259 : BitVec 32 := 0#32
  let v392 : BitVec 1 := Scalar.cmpi .slt v390 c0_i32_259
  let c0_i32_260 : BitVec 32 := 0#32
  let v393 : BitVec 1 := Scalar.cmpi .slt v389 c0_i32_260
  let v394 : BitVec 1 := Scalar.xori v392 v393
  let c0_i32_258 : BitVec 32 := 0#32
  let v391 : BitVec 1 := Scalar.cmpi .ne v390 c0_i32_258
  let v395 : BitVec 1 := Scalar.andi v394 v391
  let v396 : BitVec 32 := Scalar.addi v390 v389
  let v397 : BitVec 32 := Scalar.select v395 v396 v390
  let c64_i32_261 : BitVec 32 := 64#32
  let v398 : BitVec 32 := Scalar.muli v397 c64_i32_261
  let v399 : BitVec 32 := Scalar.addi v387 v398
  let c0_i32_282 : BitVec 32 := 0#32
  ![v399.toNat, 0]
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_279 : BitVec 32 := 1#32
  let v421 : BitVec 32 := Scalar.muli v55 c1_i32_279
  let v422 : BitVec 32 := Scalar.addi c0_i32_280 v421
  v422.toNat
def k0_dev10 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_334 : BitVec 32 := 1#32
  let v504 : BitVec 32 := Scalar.muli v42 c1_i32_334
  let v505 : BitVec 32 := Scalar.addi c0_i32_335 v504
  v505.toNat
def k0_dev11 (d0 : Dev nD) : Nat :=
  let c0_i32_341 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_340 : BitVec 32 := 1#32
  let v513 : BitVec 32 := Scalar.muli v55 c1_i32_340
  let v514 : BitVec 32 := Scalar.addi c0_i32_341 v513
  v514.toNat
def k0_dev12 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_395 : BitVec 32 := 1#32
  let v596 : BitVec 32 := Scalar.muli v42 c1_i32_395
  let v597 : BitVec 32 := Scalar.addi c0_i32_396 v596
  v597.toNat
def k0_dev13 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_401 : BitVec 32 := 1#32
  let v605 : BitVec 32 := Scalar.muli v55 c1_i32_401
  let v606 : BitVec 32 := Scalar.addi c0_i32_402 v605
  v606.toNat
def k0_dev14 (d0 : Dev nD) : Nat :=
  let c0_i32_457 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_456 : BitVec 32 := 1#32
  let v688 : BitVec 32 := Scalar.muli v42 c1_i32_456
  let v689 : BitVec 32 := Scalar.addi c0_i32_457 v688
  v689.toNat
def k0_dev15 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_462 : BitVec 32 := 1#32
  let v697 : BitVec 32 := Scalar.muli v55 c1_i32_462
  let v698 : BitVec 32 := Scalar.addi c0_i32_463 v697
  v698.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_466 : BitVec 32 := 4#32
  let c0_i32_467 : BitVec 32 := 0#32
  let v706 : BitVec 1 := Scalar.cmpi .eq c4_i32_466 c0_i32_467
  let c1_i32_468 : BitVec 32 := 1#32
  let v707 : BitVec 32 := Scalar.select v706 c1_i32_468 c4_i32_466
  let v708 : BitVec 32 := Scalar.remsi v29 v707
  let c0_i32_470 : BitVec 32 := 0#32
  let v710 : BitVec 1 := Scalar.cmpi .slt v708 c0_i32_470
  let c0_i32_471 : BitVec 32 := 0#32
  let v711 : BitVec 1 := Scalar.cmpi .slt v707 c0_i32_471
  let v712 : BitVec 1 := Scalar.xori v710 v711
  let c0_i32_469 : BitVec 32 := 0#32
  let v709 : BitVec 1 := Scalar.cmpi .ne v708 c0_i32_469
  let v713 : BitVec 1 := Scalar.andi v712 v709
  let v714 : BitVec 32 := Scalar.addi v708 v707
  let v715 : BitVec 32 := Scalar.select v713 v714 v708
  let c256_i32_472 : BitVec 32 := 256#32
  let v716 : BitVec 32 := Scalar.muli v715 c256_i32_472
  let v717 : Index := Scalar.indexCast v716
  let c0_473 : Index := 0#32
  ![v717.toNat, 0]
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_466 : BitVec 32 := 4#32
  let c0_i32_467 : BitVec 32 := 0#32
  let v706 : BitVec 1 := Scalar.cmpi .eq c4_i32_466 c0_i32_467
  let c1_i32_468 : BitVec 32 := 1#32
  let v707 : BitVec 32 := Scalar.select v706 c1_i32_468 c4_i32_466
  let v708 : BitVec 32 := Scalar.remsi v29 v707
  let c0_i32_470 : BitVec 32 := 0#32
  let v710 : BitVec 1 := Scalar.cmpi .slt v708 c0_i32_470
  let c0_i32_471 : BitVec 32 := 0#32
  let v711 : BitVec 1 := Scalar.cmpi .slt v707 c0_i32_471
  let v712 : BitVec 1 := Scalar.xori v710 v711
  let c0_i32_469 : BitVec 32 := 0#32
  let v709 : BitVec 1 := Scalar.cmpi .ne v708 c0_i32_469
  let v713 : BitVec 1 := Scalar.andi v712 v709
  let v714 : BitVec 32 := Scalar.addi v708 v707
  let v715 : BitVec 32 := Scalar.select v713 v714 v708
  let c256_i32_472 : BitVec 32 := 256#32
  let v716 : BitVec 32 := Scalar.muli v715 c256_i32_472
  let v724 : Index := Scalar.indexCast v716
  let c0_477 : Index := 0#32
  ![v724.toNat, 0]
def k0_off15 (d0 : Dev nD) (c0_i32_504 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_505 : BitVec 32 := 4#32
  let c0_i32_506 : BitVec 32 := 0#32
  let v753 : BitVec 1 := Scalar.cmpi .eq c4_i32_505 c0_i32_506
  let c1_i32_507 : BitVec 32 := 1#32
  let v754 : BitVec 32 := Scalar.select v753 c1_i32_507 c4_i32_505
  let v755 : BitVec 32 := Scalar.remsi v29 v754
  let c0_i32_509 : BitVec 32 := 0#32
  let v757 : BitVec 1 := Scalar.cmpi .slt v755 c0_i32_509
  let c0_i32_510 : BitVec 32 := 0#32
  let v758 : BitVec 1 := Scalar.cmpi .slt v754 c0_i32_510
  let v759 : BitVec 1 := Scalar.xori v757 v758
  let c0_i32_508 : BitVec 32 := 0#32
  let v756 : BitVec 1 := Scalar.cmpi .ne v755 c0_i32_508
  let v760 : BitVec 1 := Scalar.andi v759 v756
  let v761 : BitVec 32 := Scalar.addi v755 v754
  let v762 : BitVec 32 := Scalar.select v760 v761 v755
  let c256_i32_511 : BitVec 32 := 256#32
  let v763 : BitVec 32 := Scalar.muli v762 c256_i32_511
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v752 : BitVec 32 := Scalar.addi v19 c0_i32_504
  let c4_i32_512 : BitVec 32 := 4#32
  let c0_i32_513 : BitVec 32 := 0#32
  let v764 : BitVec 1 := Scalar.cmpi .eq c4_i32_512 c0_i32_513
  let c1_i32_514 : BitVec 32 := 1#32
  let v765 : BitVec 32 := Scalar.select v764 c1_i32_514 c4_i32_512
  let v766 : BitVec 32 := Scalar.remsi v752 v765
  let c0_i32_516 : BitVec 32 := 0#32
  let v768 : BitVec 1 := Scalar.cmpi .slt v766 c0_i32_516
  let c0_i32_517 : BitVec 32 := 0#32
  let v769 : BitVec 1 := Scalar.cmpi .slt v765 c0_i32_517
  let v770 : BitVec 1 := Scalar.xori v768 v769
  let c0_i32_515 : BitVec 32 := 0#32
  let v767 : BitVec 1 := Scalar.cmpi .ne v766 c0_i32_515
  let v771 : BitVec 1 := Scalar.andi v770 v767
  let v772 : BitVec 32 := Scalar.addi v766 v765
  let v773 : BitVec 32 := Scalar.select v771 v772 v766
  let c64_i32_518 : BitVec 32 := 64#32
  let v774 : BitVec 32 := Scalar.muli v773 c64_i32_518
  let v775 : BitVec 32 := Scalar.addi v763 v774
  let v776 : Index := Scalar.indexCast v775
  let c0_519 : Index := 0#32
  ![v776.toNat, 0]
def k0_off16 (d0 : Dev nD) (c0_i32_520 : BitVec 32) : Fin 3 → Nat :=
  let c0_528 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v778 : BitVec 32 := Scalar.addi v19 c0_i32_520
  let c4_i32_521 : BitVec 32 := 4#32
  let c0_i32_522 : BitVec 32 := 0#32
  let v779 : BitVec 1 := Scalar.cmpi .eq c4_i32_521 c0_i32_522
  let c1_i32_523 : BitVec 32 := 1#32
  let v780 : BitVec 32 := Scalar.select v779 c1_i32_523 c4_i32_521
  let v781 : BitVec 32 := Scalar.remsi v778 v780
  let c0_i32_525 : BitVec 32 := 0#32
  let v783 : BitVec 1 := Scalar.cmpi .slt v781 c0_i32_525
  let c0_i32_526 : BitVec 32 := 0#32
  let v784 : BitVec 1 := Scalar.cmpi .slt v780 c0_i32_526
  let v785 : BitVec 1 := Scalar.xori v783 v784
  let c0_i32_524 : BitVec 32 := 0#32
  let v782 : BitVec 1 := Scalar.cmpi .ne v781 c0_i32_524
  let v786 : BitVec 1 := Scalar.andi v785 v782
  let v787 : BitVec 32 := Scalar.addi v781 v780
  let v788 : BitVec 32 := Scalar.select v786 v787 v781
  let c64_i32_527 : BitVec 32 := 64#32
  let v789 : BitVec 32 := Scalar.muli v788 c64_i32_527
  let v790 : Index := Scalar.indexCast v789
  let c0_529 : Index := 0#32
  ![0, v790.toNat, 0]
def k0_off17 (d0 : Dev nD) (c0_i32_530 : BitVec 32) : Fin 3 → Nat :=
  let c1_538 : Index := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v794 : BitVec 32 := Scalar.addi v19 c0_i32_530
  let c4_i32_531 : BitVec 32 := 4#32
  let c0_i32_532 : BitVec 32 := 0#32
  let v795 : BitVec 1 := Scalar.cmpi .eq c4_i32_531 c0_i32_532
  let c1_i32_533 : BitVec 32 := 1#32
  let v796 : BitVec 32 := Scalar.select v795 c1_i32_533 c4_i32_531
  let v797 : BitVec 32 := Scalar.remsi v794 v796
  let c0_i32_535 : BitVec 32 := 0#32
  let v799 : BitVec 1 := Scalar.cmpi .slt v797 c0_i32_535
  let c0_i32_536 : BitVec 32 := 0#32
  let v800 : BitVec 1 := Scalar.cmpi .slt v796 c0_i32_536
  let v801 : BitVec 1 := Scalar.xori v799 v800
  let c0_i32_534 : BitVec 32 := 0#32
  let v798 : BitVec 1 := Scalar.cmpi .ne v797 c0_i32_534
  let v802 : BitVec 1 := Scalar.andi v801 v798
  let v803 : BitVec 32 := Scalar.addi v797 v796
  let v804 : BitVec 32 := Scalar.select v802 v803 v797
  let c64_i32_537 : BitVec 32 := 64#32
  let v805 : BitVec 32 := Scalar.muli v804 c64_i32_537
  let v806 : Index := Scalar.indexCast v805
  let c0_539 : Index := 0#32
  ![1, v806.toNat, 0]
def k0_off18 (d0 : Dev nD) (c1_i32_567 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_568 : BitVec 32 := 4#32
  let c0_i32_569 : BitVec 32 := 0#32
  let v839 : BitVec 1 := Scalar.cmpi .eq c4_i32_568 c0_i32_569
  let c1_i32_570 : BitVec 32 := 1#32
  let v840 : BitVec 32 := Scalar.select v839 c1_i32_570 c4_i32_568
  let v841 : BitVec 32 := Scalar.remsi v29 v840
  let c0_i32_572 : BitVec 32 := 0#32
  let v843 : BitVec 1 := Scalar.cmpi .slt v841 c0_i32_572
  let c0_i32_573 : BitVec 32 := 0#32
  let v844 : BitVec 1 := Scalar.cmpi .slt v840 c0_i32_573
  let v845 : BitVec 1 := Scalar.xori v843 v844
  let c0_i32_571 : BitVec 32 := 0#32
  let v842 : BitVec 1 := Scalar.cmpi .ne v841 c0_i32_571
  let v846 : BitVec 1 := Scalar.andi v845 v842
  let v847 : BitVec 32 := Scalar.addi v841 v840
  let v848 : BitVec 32 := Scalar.select v846 v847 v841
  let c256_i32_574 : BitVec 32 := 256#32
  let v849 : BitVec 32 := Scalar.muli v848 c256_i32_574
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v838 : BitVec 32 := Scalar.addi v19 c1_i32_567
  let c4_i32_575 : BitVec 32 := 4#32
  let c0_i32_576 : BitVec 32 := 0#32
  let v850 : BitVec 1 := Scalar.cmpi .eq c4_i32_575 c0_i32_576
  let c1_i32_577 : BitVec 32 := 1#32
  let v851 : BitVec 32 := Scalar.select v850 c1_i32_577 c4_i32_575
  let v852 : BitVec 32 := Scalar.remsi v838 v851
  let c0_i32_579 : BitVec 32 := 0#32
  let v854 : BitVec 1 := Scalar.cmpi .slt v852 c0_i32_579
  let c0_i32_580 : BitVec 32 := 0#32
  let v855 : BitVec 1 := Scalar.cmpi .slt v851 c0_i32_580
  let v856 : BitVec 1 := Scalar.xori v854 v855
  let c0_i32_578 : BitVec 32 := 0#32
  let v853 : BitVec 1 := Scalar.cmpi .ne v852 c0_i32_578
  let v857 : BitVec 1 := Scalar.andi v856 v853
  let v858 : BitVec 32 := Scalar.addi v852 v851
  let v859 : BitVec 32 := Scalar.select v857 v858 v852
  let c64_i32_581 : BitVec 32 := 64#32
  let v860 : BitVec 32 := Scalar.muli v859 c64_i32_581
  let v861 : BitVec 32 := Scalar.addi v849 v860
  let c0_i32_610 : BitVec 32 := 0#32
  ![v861.toNat, 0]
def k0_dev16 (d0 : Dev nD) : Nat :=
  let c0_i32_607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_606 : BitVec 32 := 1#32
  let v900 : BitVec 32 := Scalar.muli v68 c1_i32_606
  let v901 : BitVec 32 := Scalar.addi c0_i32_607 v900
  v901.toNat
def k0_dev17 (d0 : Dev nD) : Nat :=
  let c0_i32_677 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v69 : BitVec 32 := Scalar.addi v19 c2_i32
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_676 : BitVec 32 := 1#32
  let v995 : BitVec 32 := Scalar.muli v81 c1_i32_676
  let v996 : BitVec 32 := Scalar.addi c0_i32_677 v995
  v996.toNat
def k0_dev18 (d0 : Dev nD) : Nat :=
  let c0_i32_747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v82 : BitVec 32 := Scalar.addi v19 c3_i32
  let c4_i32_42 : BitVec 32 := 4#32
  let c0_i32_43 : BitVec 32 := 0#32
  let v83 : BitVec 1 := Scalar.cmpi .eq c4_i32_42 c0_i32_43
  let c1_i32_44 : BitVec 32 := 1#32
  let v84 : BitVec 32 := Scalar.select v83 c1_i32_44 c4_i32_42
  let v85 : BitVec 32 := Scalar.remsi v82 v84
  let c0_i32_46 : BitVec 32 := 0#32
  let v87 : BitVec 1 := Scalar.cmpi .slt v85 c0_i32_46
  let c0_i32_47 : BitVec 32 := 0#32
  let v88 : BitVec 1 := Scalar.cmpi .slt v84 c0_i32_47
  let v89 : BitVec 1 := Scalar.xori v87 v88
  let c0_i32_45 : BitVec 32 := 0#32
  let v86 : BitVec 1 := Scalar.cmpi .ne v85 c0_i32_45
  let v90 : BitVec 1 := Scalar.andi v89 v86
  let v91 : BitVec 32 := Scalar.addi v85 v84
  let v92 : BitVec 32 := Scalar.select v90 v91 v85
  let c4_i32_48 : BitVec 32 := 4#32
  let v93 : BitVec 32 := Scalar.muli v92 c4_i32_48
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v94 : BitVec 32 := Scalar.addi v93 v29
  let c1_i32_746 : BitVec 32 := 1#32
  let v1090 : BitVec 32 := Scalar.muli v94 c1_i32_746
  let v1091 : BitVec 32 := Scalar.addi c0_i32_747 v1090
  v1091.toNat
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_796 : BitVec 32 := 4#32
  let c0_i32_797 : BitVec 32 := 0#32
  let v1135 : BitVec 1 := Scalar.cmpi .eq c4_i32_796 c0_i32_797
  let c1_i32_798 : BitVec 32 := 1#32
  let v1136 : BitVec 32 := Scalar.select v1135 c1_i32_798 c4_i32_796
  let v1137 : BitVec 32 := Scalar.remsi v29 v1136
  let c0_i32_800 : BitVec 32 := 0#32
  let v1139 : BitVec 1 := Scalar.cmpi .slt v1137 c0_i32_800
  let c0_i32_801 : BitVec 32 := 0#32
  let v1140 : BitVec 1 := Scalar.cmpi .slt v1136 c0_i32_801
  let v1141 : BitVec 1 := Scalar.xori v1139 v1140
  let c0_i32_799 : BitVec 32 := 0#32
  let v1138 : BitVec 1 := Scalar.cmpi .ne v1137 c0_i32_799
  let v1142 : BitVec 1 := Scalar.andi v1141 v1138
  let v1143 : BitVec 32 := Scalar.addi v1137 v1136
  let v1144 : BitVec 32 := Scalar.select v1142 v1143 v1137
  let c256_i32_802 : BitVec 32 := 256#32
  let v1145 : BitVec 32 := Scalar.muli v1144 c256_i32_802
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_803 : BitVec 32 := 4#32
  let c0_i32_804 : BitVec 32 := 0#32
  let v1146 : BitVec 1 := Scalar.cmpi .eq c4_i32_803 c0_i32_804
  let c1_i32_805 : BitVec 32 := 1#32
  let v1147 : BitVec 32 := Scalar.select v1146 c1_i32_805 c4_i32_803
  let v1148 : BitVec 32 := Scalar.remsi v19 v1147
  let c0_i32_807 : BitVec 32 := 0#32
  let v1150 : BitVec 1 := Scalar.cmpi .slt v1148 c0_i32_807
  let c0_i32_808 : BitVec 32 := 0#32
  let v1151 : BitVec 1 := Scalar.cmpi .slt v1147 c0_i32_808
  let v1152 : BitVec 1 := Scalar.xori v1150 v1151
  let c0_i32_806 : BitVec 32 := 0#32
  let v1149 : BitVec 1 := Scalar.cmpi .ne v1148 c0_i32_806
  let v1153 : BitVec 1 := Scalar.andi v1152 v1149
  let v1154 : BitVec 32 := Scalar.addi v1148 v1147
  let v1155 : BitVec 32 := Scalar.select v1153 v1154 v1148
  let c64_i32_809 : BitVec 32 := 64#32
  let v1156 : BitVec 32 := Scalar.muli v1155 c64_i32_809
  let v1157 : BitVec 32 := Scalar.addi v1145 v1156
  let v1158 : Index := Scalar.indexCast v1157
  let c0_810 : Index := 0#32
  ![v1158.toNat, 0]
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_849 : BitVec 32 := 4#32
  let c0_i32_850 : BitVec 32 := 0#32
  let v1221 : BitVec 1 := Scalar.cmpi .eq c4_i32_849 c0_i32_850
  let c1_i32_851 : BitVec 32 := 1#32
  let v1222 : BitVec 32 := Scalar.select v1221 c1_i32_851 c4_i32_849
  let v1223 : BitVec 32 := Scalar.remsi v29 v1222
  let c0_i32_853 : BitVec 32 := 0#32
  let v1225 : BitVec 1 := Scalar.cmpi .slt v1223 c0_i32_853
  let c0_i32_854 : BitVec 32 := 0#32
  let v1226 : BitVec 1 := Scalar.cmpi .slt v1222 c0_i32_854
  let v1227 : BitVec 1 := Scalar.xori v1225 v1226
  let c0_i32_852 : BitVec 32 := 0#32
  let v1224 : BitVec 1 := Scalar.cmpi .ne v1223 c0_i32_852
  let v1228 : BitVec 1 := Scalar.andi v1227 v1224
  let v1229 : BitVec 32 := Scalar.addi v1223 v1222
  let v1230 : BitVec 32 := Scalar.select v1228 v1229 v1223
  let c256_i32_855 : BitVec 32 := 256#32
  let v1231 : BitVec 32 := Scalar.muli v1230 c256_i32_855
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_856 : BitVec 32 := 4#32
  let c0_i32_857 : BitVec 32 := 0#32
  let v1232 : BitVec 1 := Scalar.cmpi .eq c4_i32_856 c0_i32_857
  let c1_i32_858 : BitVec 32 := 1#32
  let v1233 : BitVec 32 := Scalar.select v1232 c1_i32_858 c4_i32_856
  let v1234 : BitVec 32 := Scalar.remsi v19 v1233
  let c0_i32_860 : BitVec 32 := 0#32
  let v1236 : BitVec 1 := Scalar.cmpi .slt v1234 c0_i32_860
  let c0_i32_861 : BitVec 32 := 0#32
  let v1237 : BitVec 1 := Scalar.cmpi .slt v1233 c0_i32_861
  let v1238 : BitVec 1 := Scalar.xori v1236 v1237
  let c0_i32_859 : BitVec 32 := 0#32
  let v1235 : BitVec 1 := Scalar.cmpi .ne v1234 c0_i32_859
  let v1239 : BitVec 1 := Scalar.andi v1238 v1235
  let v1240 : BitVec 32 := Scalar.addi v1234 v1233
  let v1241 : BitVec 32 := Scalar.select v1239 v1240 v1234
  let c64_i32_862 : BitVec 32 := 64#32
  let v1242 : BitVec 32 := Scalar.muli v1241 c64_i32_862
  let v1243 : BitVec 32 := Scalar.addi v1231 v1242
  let c0_i32_867 : BitVec 32 := 0#32
  ![v1243.toNat, 0]
def k0_dev19 (d0 : Dev nD) : Nat :=
  let c0_i32_866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_27 : BitVec 32 := 1#32
  let v56 : BitVec 32 := Scalar.addi v19 c1_i32_27
  let c4_i32_28 : BitVec 32 := 4#32
  let c0_i32_29 : BitVec 32 := 0#32
  let v57 : BitVec 1 := Scalar.cmpi .eq c4_i32_28 c0_i32_29
  let c1_i32_30 : BitVec 32 := 1#32
  let v58 : BitVec 32 := Scalar.select v57 c1_i32_30 c4_i32_28
  let v59 : BitVec 32 := Scalar.remsi v56 v58
  let c0_i32_32 : BitVec 32 := 0#32
  let v61 : BitVec 1 := Scalar.cmpi .slt v59 c0_i32_32
  let c0_i32_33 : BitVec 32 := 0#32
  let v62 : BitVec 1 := Scalar.cmpi .slt v58 c0_i32_33
  let v63 : BitVec 1 := Scalar.xori v61 v62
  let c0_i32_31 : BitVec 32 := 0#32
  let v60 : BitVec 1 := Scalar.cmpi .ne v59 c0_i32_31
  let v64 : BitVec 1 := Scalar.andi v63 v60
  let v65 : BitVec 32 := Scalar.addi v59 v58
  let v66 : BitVec 32 := Scalar.select v64 v65 v59
  let c4_i32_34 : BitVec 32 := 4#32
  let v67 : BitVec 32 := Scalar.muli v66 c4_i32_34
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v68 : BitVec 32 := Scalar.addi v67 v29
  let c1_i32_865 : BitVec 32 := 1#32
  let v1244 : BitVec 32 := Scalar.muli v68 c1_i32_865
  let v1245 : BitVec 32 := Scalar.addi c0_i32_866 v1244
  v1245.toNat
def k0_dev20 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v69 : BitVec 32 := Scalar.addi v19 c2_i32
  let c4_i32_35 : BitVec 32 := 4#32
  let c0_i32_36 : BitVec 32 := 0#32
  let v70 : BitVec 1 := Scalar.cmpi .eq c4_i32_35 c0_i32_36
  let c1_i32_37 : BitVec 32 := 1#32
  let v71 : BitVec 32 := Scalar.select v70 c1_i32_37 c4_i32_35
  let v72 : BitVec 32 := Scalar.remsi v69 v71
  let c0_i32_39 : BitVec 32 := 0#32
  let v74 : BitVec 1 := Scalar.cmpi .slt v72 c0_i32_39
  let c0_i32_40 : BitVec 32 := 0#32
  let v75 : BitVec 1 := Scalar.cmpi .slt v71 c0_i32_40
  let v76 : BitVec 1 := Scalar.xori v74 v75
  let c0_i32_38 : BitVec 32 := 0#32
  let v73 : BitVec 1 := Scalar.cmpi .ne v72 c0_i32_38
  let v77 : BitVec 1 := Scalar.andi v76 v73
  let v78 : BitVec 32 := Scalar.addi v72 v71
  let v79 : BitVec 32 := Scalar.select v77 v78 v72
  let c4_i32_41 : BitVec 32 := 4#32
  let v80 : BitVec 32 := Scalar.muli v79 c4_i32_41
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v81 : BitVec 32 := Scalar.addi v80 v29
  let c1_i32_899 : BitVec 32 := 1#32
  let v1298 : BitVec 32 := Scalar.muli v81 c1_i32_899
  let v1299 : BitVec 32 := Scalar.addi c0_i32_900 v1298
  v1299.toNat
def k0_dev21 (d0 : Dev nD) : Nat :=
  let c0_i32_934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v82 : BitVec 32 := Scalar.addi v19 c3_i32
  let c4_i32_42 : BitVec 32 := 4#32
  let c0_i32_43 : BitVec 32 := 0#32
  let v83 : BitVec 1 := Scalar.cmpi .eq c4_i32_42 c0_i32_43
  let c1_i32_44 : BitVec 32 := 1#32
  let v84 : BitVec 32 := Scalar.select v83 c1_i32_44 c4_i32_42
  let v85 : BitVec 32 := Scalar.remsi v82 v84
  let c0_i32_46 : BitVec 32 := 0#32
  let v87 : BitVec 1 := Scalar.cmpi .slt v85 c0_i32_46
  let c0_i32_47 : BitVec 32 := 0#32
  let v88 : BitVec 1 := Scalar.cmpi .slt v84 c0_i32_47
  let v89 : BitVec 1 := Scalar.xori v87 v88
  let c0_i32_45 : BitVec 32 := 0#32
  let v86 : BitVec 1 := Scalar.cmpi .ne v85 c0_i32_45
  let v90 : BitVec 1 := Scalar.andi v89 v86
  let v91 : BitVec 32 := Scalar.addi v85 v84
  let v92 : BitVec 32 := Scalar.select v90 v91 v85
  let c4_i32_48 : BitVec 32 := 4#32
  let v93 : BitVec 32 := Scalar.muli v92 c4_i32_48
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v94 : BitVec 32 := Scalar.addi v93 v29
  let c1_i32_933 : BitVec 32 := 1#32
  let v1352 : BitVec 32 := Scalar.muli v94 c1_i32_933
  let v1353 : BitVec 32 := Scalar.addi c0_i32_934 v1352
  v1353.toNat
def k0_off21 (d0 : Dev nD) (c0_i32_937 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_938 : BitVec 32 := 4#32
  let c0_i32_939 : BitVec 32 := 0#32
  let v1361 : BitVec 1 := Scalar.cmpi .eq c4_i32_938 c0_i32_939
  let c1_i32_940 : BitVec 32 := 1#32
  let v1362 : BitVec 32 := Scalar.select v1361 c1_i32_940 c4_i32_938
  let v1363 : BitVec 32 := Scalar.remsi v29 v1362
  let c0_i32_942 : BitVec 32 := 0#32
  let v1365 : BitVec 1 := Scalar.cmpi .slt v1363 c0_i32_942
  let c0_i32_943 : BitVec 32 := 0#32
  let v1366 : BitVec 1 := Scalar.cmpi .slt v1362 c0_i32_943
  let v1367 : BitVec 1 := Scalar.xori v1365 v1366
  let c0_i32_941 : BitVec 32 := 0#32
  let v1364 : BitVec 1 := Scalar.cmpi .ne v1363 c0_i32_941
  let v1368 : BitVec 1 := Scalar.andi v1367 v1364
  let v1369 : BitVec 32 := Scalar.addi v1363 v1362
  let v1370 : BitVec 32 := Scalar.select v1368 v1369 v1363
  let c256_i32_944 : BitVec 32 := 256#32
  let v1371 : BitVec 32 := Scalar.muli v1370 c256_i32_944
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1360 : BitVec 32 := Scalar.subi v19 c0_i32_937
  let c4_i32_945 : BitVec 32 := 4#32
  let c0_i32_946 : BitVec 32 := 0#32
  let v1372 : BitVec 1 := Scalar.cmpi .eq c4_i32_945 c0_i32_946
  let c1_i32_947 : BitVec 32 := 1#32
  let v1373 : BitVec 32 := Scalar.select v1372 c1_i32_947 c4_i32_945
  let v1374 : BitVec 32 := Scalar.remsi v1360 v1373
  let c0_i32_949 : BitVec 32 := 0#32
  let v1376 : BitVec 1 := Scalar.cmpi .slt v1374 c0_i32_949
  let c0_i32_950 : BitVec 32 := 0#32
  let v1377 : BitVec 1 := Scalar.cmpi .slt v1373 c0_i32_950
  let v1378 : BitVec 1 := Scalar.xori v1376 v1377
  let c0_i32_948 : BitVec 32 := 0#32
  let v1375 : BitVec 1 := Scalar.cmpi .ne v1374 c0_i32_948
  let v1379 : BitVec 1 := Scalar.andi v1378 v1375
  let v1380 : BitVec 32 := Scalar.addi v1374 v1373
  let v1381 : BitVec 32 := Scalar.select v1379 v1380 v1374
  let c64_i32_951 : BitVec 32 := 64#32
  let v1382 : BitVec 32 := Scalar.muli v1381 c64_i32_951
  let v1383 : BitVec 32 := Scalar.addi v1371 v1382
  let c0_i32_956 : BitVec 32 := 0#32
  ![v1383.toNat, 0]
def k0_dev22 (d0 : Dev nD) : Nat :=
  let c0_i32_955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_954 : BitVec 32 := 1#32
  let v1384 : BitVec 32 := Scalar.muli v42 c1_i32_954
  let v1385 : BitVec 32 := Scalar.addi c0_i32_955 v1384
  v1385.toNat
def k0_dev23 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_960 : BitVec 32 := 1#32
  let v1392 : BitVec 32 := Scalar.muli v55 c1_i32_960
  let v1393 : BitVec 32 := Scalar.addi c0_i32_961 v1392
  v1393.toNat
def k0_dev24 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_992 : BitVec 32 := 1#32
  let v1434 : BitVec 32 := Scalar.muli v42 c1_i32_992
  let v1435 : BitVec 32 := Scalar.addi c0_i32_993 v1434
  v1435.toNat
def k0_dev25 (d0 : Dev nD) : Nat :=
  let c0_i32_998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_997 : BitVec 32 := 1#32
  let v1442 : BitVec 32 := Scalar.muli v55 c1_i32_997
  let v1443 : BitVec 32 := Scalar.addi c0_i32_998 v1442
  v1443.toNat
def k0_dev26 (d0 : Dev nD) : Nat :=
  let c0_i32_1030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1029 : BitVec 32 := 1#32
  let v1484 : BitVec 32 := Scalar.muli v42 c1_i32_1029
  let v1485 : BitVec 32 := Scalar.addi c0_i32_1030 v1484
  v1485.toNat
def k0_dev27 (d0 : Dev nD) : Nat :=
  let c0_i32_1036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1035 : BitVec 32 := 1#32
  let v1492 : BitVec 32 := Scalar.muli v55 c1_i32_1035
  let v1493 : BitVec 32 := Scalar.addi c0_i32_1036 v1492
  v1493.toNat
def k0_dev28 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1067 : BitVec 32 := 1#32
  let v1534 : BitVec 32 := Scalar.muli v42 c1_i32_1067
  let v1535 : BitVec 32 := Scalar.addi c0_i32_1068 v1534
  v1535.toNat
def k0_dev29 (d0 : Dev nD) : Nat :=
  let c0_i32_1074 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1073 : BitVec 32 := 1#32
  let v1542 : BitVec 32 := Scalar.muli v55 c1_i32_1073
  let v1543 : BitVec 32 := Scalar.addi c0_i32_1074 v1542
  v1543.toNat
def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_1183 : BitVec 32 := 1#32
  let v1659 : BitVec 32 := Scalar.subi v29 c1_i32_1183
  let c4_i32_1184 : BitVec 32 := 4#32
  let c0_i32_1185 : BitVec 32 := 0#32
  let v1660 : BitVec 1 := Scalar.cmpi .eq c4_i32_1184 c0_i32_1185
  let c1_i32_1186 : BitVec 32 := 1#32
  let v1661 : BitVec 32 := Scalar.select v1660 c1_i32_1186 c4_i32_1184
  let v1662 : BitVec 32 := Scalar.remsi v1659 v1661
  let c0_i32_1188 : BitVec 32 := 0#32
  let v1664 : BitVec 1 := Scalar.cmpi .slt v1662 c0_i32_1188
  let c0_i32_1189 : BitVec 32 := 0#32
  let v1665 : BitVec 1 := Scalar.cmpi .slt v1661 c0_i32_1189
  let v1666 : BitVec 1 := Scalar.xori v1664 v1665
  let c0_i32_1187 : BitVec 32 := 0#32
  let v1663 : BitVec 1 := Scalar.cmpi .ne v1662 c0_i32_1187
  let v1667 : BitVec 1 := Scalar.andi v1666 v1663
  let v1668 : BitVec 32 := Scalar.addi v1662 v1661
  let v1669 : BitVec 32 := Scalar.select v1667 v1668 v1662
  let c256_i32_1190 : BitVec 32 := 256#32
  let v1670 : BitVec 32 := Scalar.muli v1669 c256_i32_1190
  let c0_i32_1191 : BitVec 32 := 0#32
  let v1671 : BitVec 32 := Scalar.addi v1670 c0_i32_1191
  let c0_i32_1214 : BitVec 32 := 0#32
  ![v1671.toNat, 0]
def k0_dev30 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_11 : BitVec 32 := 4#32
  let v30 : BitVec 32 := Scalar.muli v19 c4_i32_11
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1212 : BitVec 32 := 1#32
  let v1698 : BitVec 32 := Scalar.muli v42 c1_i32_1212
  let v1699 : BitVec 32 := Scalar.addi c0_i32_1213 v1698
  v1699.toNat
def k0_dev31 (d0 : Dev nD) : Nat :=
  let c0_i32_1219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_19 : BitVec 32 := 4#32
  let v43 : BitVec 32 := Scalar.muli v19 c4_i32_19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1218 : BitVec 32 := 1#32
  let v1706 : BitVec 32 := Scalar.muli v55 c1_i32_1218
  let v1707 : BitVec 32 := Scalar.addi c0_i32_1219 v1706
  v1707.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x8192 : Shape := ⟨2, ![1024, 8192]⟩
abbrev S8192x1024 : Shape := ⟨2, ![8192, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S8192x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Geom.lean ====
/-
# Where things are

The sixteen devices form a grid of four planes and four columns: device `d` is in plane `d / 4` and column
`d % 4`. Within a plane the four devices form a ring (`up`, `dn`); `zr k` is the device `k + 1` planes on in
the same column. The accumulator's 1024 rows are four quarters of 256 rows, each four pieces of 64 rows.

Closed forms of every device number and offset the program computes, the row sets its views cover, and what
it means to read and write through one.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Devices -/

section
set_option backward.proofsInPublic true

/-- The next device round the plane's ring. -/
def up (c : Dev nD) : Dev nD := ⟨4 * (c.val / 4) + (c.val % 4 + 1) % 4, by have h : c.val < 16 := c.isLt; show _ < 16; omega⟩
/-- The device before it round the plane's ring. -/
def dn (c : Dev nD) : Dev nD := ⟨4 * (c.val / 4) + (c.val % 4 + 3) % 4, by have h : c.val < 16 := c.isLt; show _ < 16; omega⟩
/-- The device `k + 1` planes on. -/
def zr (k : Fin 3) (c : Dev nD) : Dev nD := ⟨(c.val + 4 * (k.val + 1)) % 16, Nat.mod_lt _ (by decide)⟩
/-- The accumulator's index at row `r`, lane `k`. -/
def rc (r k : ℕ) : S1024x1024.Idx := ix2 (n0 := 1024) (n1 := 1024) ⟨r % 1024, Nat.mod_lt _ (by decide)⟩ ⟨k % 1024, Nat.mod_lt _ (by decide)⟩
/-- The device that finishes row `r`. -/
def own (r : ℕ) : Dev nD := ⟨(4 * (r % 256 / 64) + r / 256) % 16, Nat.mod_lt _ (by decide)⟩

end

theorem up_dn (c : Dev nD) : up (dn c) = c := by revert c; decide
theorem dn_up (c : Dev nD) : dn (up c) = c := by revert c; decide
theorem zr_zr (k : Fin 3) (c : Dev nD) : zr k (zr (2 - k) c) = c := by revert c k; decide
theorem zr_zr' (k : Fin 3) (c : Dev nD) : zr (2 - k) (zr k c) = c := by revert c k; decide

theorem rc_0 {r k : ℕ} (h : r < 1024) : ((rc r k 0 : Fin 1024) : ℕ) = r := Nat.mod_eq_of_lt h
theorem rc_1 {r k : ℕ} (h : k < 1024) : ((rc r k 1 : Fin 1024) : ℕ) = k := Nat.mod_eq_of_lt h
theorem rc_eta (i : S1024x1024.Idx) : rc (i 0).val (i 1).val = i := by
  refine Shape.idx_ext₂ ?_ ?_
  · exact rc_0 (i 0).isLt
  · exact rc_1 (i 1).isLt

/-! ## The program's device numbers -/

/-- What each of the program's device numbers denotes: the five of the handshake, then message by message. -/
theorem devs (c : Dev nD) :
    (k0_dev1 c = (dn c).val ∧ k0_dev2 c = (up c).val ∧ k0_dev3 c = (zr 0 c).val ∧ k0_dev4 c = (zr 1 c).val ∧ k0_dev5 c = (zr 2 c).val)
    ∧ (k0_dev6 c = (up c).val ∧ k0_dev7 c = (dn c).val)
    ∧ (k0_dev8 c = (up c).val ∧ k0_dev9 c = (dn c).val ∧ k0_dev10 c = (up c).val ∧ k0_dev11 c = (dn c).val
      ∧ k0_dev12 c = (up c).val ∧ k0_dev13 c = (dn c).val ∧ k0_dev14 c = (up c).val ∧ k0_dev15 c = (dn c).val)
    ∧ (k0_dev16 c = (zr 0 c).val ∧ k0_dev17 c = (zr 1 c).val ∧ k0_dev18 c = (zr 2 c).val)
    ∧ (k0_dev19 c = (zr 0 c).val ∧ k0_dev20 c = (zr 1 c).val ∧ k0_dev21 c = (zr 2 c).val)
    ∧ (k0_dev22 c = (up c).val ∧ k0_dev23 c = (dn c).val ∧ k0_dev24 c = (up c).val ∧ k0_dev25 c = (dn c).val
      ∧ k0_dev26 c = (up c).val ∧ k0_dev27 c = (dn c).val ∧ k0_dev28 c = (up c).val ∧ k0_dev29 c = (dn c).val)
    ∧ (k0_dev30 c = (up c).val ∧ k0_dev31 c = (dn c).val) := by
  revert c; decide +kernel

/-! ## The program's offsets -/

/-- The first row of quarter `c + k`. -/
abbrev qr (c : Dev nD) (k : ℕ) : ℕ := 256 * ((c.val % 4 + k) % 4)
/-- The first row, within a quarter, of piece `c`'s plane `+ k`. -/
abbrev pr (c : Dev nD) (k : ℕ) : ℕ := 64 * ((c.val / 4 + k) % 4)

theorem off1_0 (c : Dev nD) : k0_off1 c 0#32 = ![qr c 2, 0] := by revert c; decide +kernel
theorem off1_1 (c : Dev nD) : k0_off1 c 128#32 = ![qr c 2 + 128, 0] := by revert c; decide +kernel
theorem off2_0 (c : Dev nD) : k0_off2 c 2#32 128#32 = ![qr c 2 + 128, 0] := by revert c; decide +kernel
theorem off2_1 (c : Dev nD) : k0_off2 c 2#32 0#32 = ![qr c 2, 0] := by revert c; decide +kernel
theorem off2_2 (c : Dev nD) : k0_off2 c 1#32 128#32 = ![qr c 1 + 128, 0] := by revert c; decide +kernel
theorem off3_0 (c : Dev nD) : k0_off3 c 2#32 128#32 = ![qr c 2 + 128, 0] := by revert c; decide +kernel
theorem off3_1 (c : Dev nD) : k0_off3 c 2#32 0#32 = ![qr c 2, 0] := by revert c; decide +kernel
theorem off3_2 (c : Dev nD) : k0_off3 c 1#32 128#32 = ![qr c 1 + 128, 0] := by revert c; decide +kernel
theorem off4 (c : Dev nD) : k0_off4 c = ![qr c 1, 0] := by revert c; decide +kernel
theorem off5_0 (c : Dev nD) : k0_off5 c 1#32 = ![qr c 1, 0] := by revert c; decide +kernel
theorem off5_1 (c : Dev nD) : k0_off5 c 2#32 = ![qr c 2, 0] := by revert c; decide +kernel
theorem off6 (c : Dev nD) : k0_off6 c = ![qr c 3, 0] := by revert c; decide +kernel
theorem off7 (c : Dev nD) : k0_off7 c = ![qr c 3, 0] := by revert c; decide +kernel
theorem off8 (c : Dev nD) : k0_off8 c = ![qr c 3, 0] := by revert c; decide +kernel
theorem off9 (c : Dev nD) (i : Fin 4) : k0_off9 c (BitVec.ofNat 32 i.val) = ![0, pr c i.val, 0] := by revert c i; decide +kernel
theorem off10 (c : Dev nD) (i : Fin 4) : k0_off10 c (BitVec.ofNat 32 i.val) = ![qr c 1 + pr c i.val, 0] := by revert c i; decide +kernel
theorem off11 (c : Dev nD) (i : Fin 4) : k0_off11 c (BitVec.ofNat 32 i.val) = ![1, pr c i.val, 0] := by revert c i; decide +kernel
theorem off12 (c : Dev nD) (i : Fin 4) : k0_off12 c (BitVec.ofNat 32 i.val) = ![qr c 3 + pr c i.val, 0] := by revert c i; decide +kernel
theorem off13 (c : Dev nD) : k0_off13 c = ![qr c 0, 0] := by revert c; decide +kernel
theorem off14 (c : Dev nD) : k0_off14 c = ![qr c 0, 0] := by revert c; decide +kernel
theorem off15 (c : Dev nD) (i : Fin 4) : k0_off15 c (BitVec.ofNat 32 i.val) = ![qr c 0 + pr c i.val, 0] := by revert c i; decide +kernel
theorem off16 (c : Dev nD) (i : Fin 4) : k0_off16 c (BitVec.ofNat 32 i.val) = ![0, pr c i.val, 0] := by revert c i; decide +kernel
theorem off17 (c : Dev nD) (i : Fin 4) : k0_off17 c (BitVec.ofNat 32 i.val) = ![1, pr c i.val, 0] := by revert c i; decide +kernel
theorem off18 (c : Dev nD) (i : Fin 3) : k0_off18 c (BitVec.ofNat 32 (1 + i.val)) = ![qr c 0 + pr c (1 + i.val), 0] := by revert c i; decide +kernel
theorem off19 (c : Dev nD) : k0_off19 c = ![qr c 0 + pr c 0, 0] := by revert c; decide +kernel
theorem off20 (c : Dev nD) : k0_off20 c = ![qr c 0 + pr c 0, 0] := by revert c; decide +kernel
theorem off21 (c : Dev nD) (i : Fin 4) : k0_off21 c (BitVec.ofNat 32 i.val) = ![qr c 0 + pr c (4 - i.val), 0] := by revert c i; decide +kernel
theorem off22 (c : Dev nD) : k0_off22 c = ![qr c 3, 0] := by revert c; decide +kernel

/-! ## Row sets -/

/-- Rows `a` to `a + n - 1` of a buffer of 1024 rows. -/
def R (a n : ℕ) : Finset S1024x1024.Idx := Finset.univ.filter fun i => a ≤ (i 0).val ∧ (i 0).val < a + n
/-- Rows `a` to `a + n - 1` of block `s` of a buffer of `m` blocks of `h` rows. -/
def B3 {m h : ℕ} (s a n : ℕ) : Finset (⟨3, ![m, h, 1024]⟩ : Shape).Idx :=
  Finset.univ.filter fun i => (i 0).val = s ∧ a ≤ (i 1).val ∧ (i 1).val < a + n

theorem mem_R {a n : ℕ} {i : S1024x1024.Idx} : i ∈ R a n ↔ a ≤ (i 0).val ∧ (i 0).val < a + n := by
  unfold R; rw [Finset.mem_filter]; exact and_iff_right (Finset.mem_univ _)
theorem mem_B3 {m h s a n : ℕ} {i : (⟨3, ![m, h, 1024]⟩ : Shape).Idx} :
    i ∈ B3 (m := m) (h := h) s a n ↔ (i 0).val = s ∧ a ≤ (i 1).val ∧ (i 1).val < a + n := by
  unfold B3; rw [Finset.mem_filter]; exact and_iff_right (Finset.mem_univ _)

theorem R_disjoint {a n b k : ℕ} (h : a + n ≤ b ∨ b + k ≤ a) : Disjoint (R a n) (R b k) :=
  Finset.disjoint_left.mpr fun i hi hj => by rw [mem_R] at hi hj; omega
theorem R_union (a n k : ℕ) : R a (n + k) = R a n ∪ R (a + n) k := by
  ext i; rw [Finset.mem_union, mem_R, mem_R, mem_R]; omega
theorem B3_disjoint {m h s t a n b k : ℕ} (hd : s ≠ t ∨ a + n ≤ b ∨ b + k ≤ a) :
    Disjoint (B3 (m := m) (h := h) s a n) (B3 (m := m) (h := h) t b k) :=
  Finset.disjoint_left.mpr fun i hi hj => by rw [mem_B3] at hi hj; omega
theorem B3_union {m h : ℕ} (s a n k : ℕ) : B3 (m := m) (h := h) s a (n + k) = B3 s a n ∪ B3 s (a + n) k := by
  ext i; rw [Finset.mem_union, mem_B3, mem_B3, mem_B3]; omega

/-- The rectangle of `n` whole rows from row `a`. -/
theorem rect2_set {n a : ℕ} {o : Fin 2 → ℕ} (ho : o = ![a, 0]) (inb : ∀ x, o x + (![n, 1024] : Fin 2 → ℕ) x ≤ S1024x1024.size x) :
    (Rect.unit (s := S1024x1024) o ![n, 1024] inb).set = R a n := by
  subst ho; ext i
  rw [Rect.mem_set_unit, mem_R]
  constructor
  · intro h; exact h 0
  · intro h x
    match x with
    | ⟨0, _⟩ => exact h
    | ⟨1, _⟩ => exact ⟨Nat.zero_le _, by show (i 1).val < 0 + 1024; have h' : (i 1).val < 1024 := (i 1).isLt; omega⟩

theorem rect2_emb {n a : ℕ} {o : Fin 2 → ℕ} (ho : o = ![a, 0]) (inb : ∀ x, o x + (![n, 1024] : Fin 2 → ℕ) x ≤ S1024x1024.size x)
    (j : (⟨2, ![n, 1024]⟩ : Shape).Idx) : (Rect.unit (s := S1024x1024) o ![n, 1024] inb).emb j = rc (a + (j 0).val) (j 1).val := by
  subst ho
  have h0 : a + n ≤ 1024 := inb 0
  have hj0 : (j 0).val < n := (j 0).isLt
  have hj1 : (j 1).val < 1024 := (j 1).isLt
  refine Shape.idx_ext₂ ?_ ?_
  · rw [Rect.emb_apply, rc_0 (by omega)]; show a + 1 * (j 0).val = _; omega
  · rw [Rect.emb_apply, rc_1 (by omega)]; show 0 + 1 * (j 1).val = _; omega

/-- The rectangle of `n` whole rows of block `t` from row `a`. -/
theorem rect3_set {m h n t a : ℕ} {o : Fin 3 → ℕ} (ho : o = ![t, a, 0])
    (inb : ∀ x, o x + (![1, n, 1024] : Fin 3 → ℕ) x ≤ (⟨3, ![m, h, 1024]⟩ : Shape).size x) :
    (Rect.unit (s := ⟨3, ![m, h, 1024]⟩) o ![1, n, 1024] inb).set = B3 t a n := by
  subst ho; ext i
  rw [Rect.mem_set_unit, mem_B3]
  constructor
  · intro h'
    have h0 : t ≤ (i 0).val ∧ (i 0).val < t + 1 := h' 0
    have h1 : a ≤ (i 1).val ∧ (i 1).val < a + n := h' 1
    omega
  · intro h' x
    match x with
    | ⟨0, _⟩ => show t ≤ (i 0).val ∧ (i 0).val < t + 1; omega
    | ⟨1, _⟩ => show a ≤ (i 1).val ∧ (i 1).val < a + n; omega
    | ⟨2, _⟩ => exact ⟨Nat.zero_le _, by show (i 2).val < 0 + 1024; have h' : (i 2).val < 1024 := (i 2).isLt; omega⟩

end Cert.Allred

end
-- ==== Proof.Contents.lean ====
/-
# What the buffers hold

Every buffer's contents at every stage as a function of all devices' operands: `PP c` is device `c`'s own
product, `GG c` that with the first exchange's halves added, `SS c` the plane's sum, `TT c` the sum of all
sixteen after the rectifier, `FIN` the finished accumulator, the same on every device.

Every message moves rows of the accumulator to the same rows, or to a landing block read back beside the same
rows, so each is a function of the accumulator's row; the landing blocks' contents name the sender.
-/
module

public import proofs.«01_k».proof.Proof.Geom

@[expose] public section

noncomputable section

namespace Cert.Allred

open Cert.KernelIdeal Cert.KernelIdeal.Gen
open Idealize.ShloMosaic Idealize.ShloMosaic.TcCoe Idealize.ShloMosaic.ValueIdx

variable {F : FTy → Type} [FloatOps F]

/-- Rows `a` to `a + n - 1` of a buffer of 1024 rows, as a block. -/
def rows {α : Type} (n a : ℕ) (g : S1024x1024.Idx → α) : (⟨2, ![n, 1024]⟩ : Shape).Idx → α := fun j => g (rc (a + (j 0).val) (j 1).val)

/-- Rows of the left operand's buffer. -/
def arows (n a : ℕ) (g : S1024x512.Idx → F .f32) : (⟨2, ![n, 512]⟩ : Shape).Idx → F .f32 :=
  fun j => g (ix2 (n0 := 1024) (n1 := 512) ⟨(a + (j 0).val) % 1024, Nat.mod_lt _ (by decide)⟩ (j 1))

/-- Rows of block `t` of a buffer of landing blocks. -/
def rows3 {α : Type} {m h : ℕ} [NeZero m] [NeZero h] (n t a : ℕ) (g : (⟨3, ![m, h, 1024]⟩ : Shape).Idx → α) : (⟨3, ![1, n, 1024]⟩ : Shape).Idx → α :=
  fun j => g (ix3 (n0 := m) (n1 := h) (n2 := 1024) ⟨t % m, Nat.mod_lt _ (NeZero.pos m)⟩ ⟨(a + (j 1).val) % h, Nat.mod_lt _ (NeZero.pos h)⟩ (j 2))

section
variable (A : Dev nD → S1024x512.Idx → F .f32) (B : Dev nD → S512x1024.Idx → F .f32)

/-- Device `c`'s own product. The quarter it computes first it computes in halves. -/
def PP (c : Dev nD) (i : S1024x1024.Idx) : F .bf16 :=
  if (i 0).val / 256 = (c.val % 4 + 2) % 4 then
    k0_pay1 (F := F) (arows 128 (128 * ((i 0).val / 128)) (A c)) (B c) (ix2 (n0 := 128) (n1 := 1024) ⟨(i 0).val % 128, Nat.mod_lt _ (by decide)⟩ (i 1))
  else
    k0_pay4 (F := F) (arows 256 (256 * ((i 0).val / 256)) (A c)) (B c) (ix2 (n0 := 256) (n1 := 1024) ⟨(i 0).val % 256, Nat.mod_lt _ (by decide)⟩ (i 1))

/-- With the halves the first exchange brought. -/
def GG (c : Dev nD) (i : S1024x1024.Idx) : F .bf16 :=
  if (i 0).val / 256 = (c.val % 4 + 1) % 4 ∧ 128 ≤ (i 0).val % 256 then FloatOps.addf (PP A B c i) (PP A B (dn c) i)
  else if (i 0).val / 256 = (c.val % 4 + 3) % 4 ∧ (i 0).val % 256 < 128 then FloatOps.addf (PP A B c i) (PP A B (up c) i)
  else PP A B c i

/-- The plane's sum, on the quarter device `c` gathers. -/
def SS (c : Dev nD) (i : S1024x1024.Idx) : F .bf16 :=
  FloatOps.addf (FloatOps.addf (GG A B c i) (GG A B (dn c) i)) (GG A B (up c) i)

/-- The sum of all sixteen, rectified. -/
def TT (c : Dev nD) (i : S1024x1024.Idx) : F .bf16 :=
  FloatOps.maximumf (FloatOps.addf (FloatOps.addf (FloatOps.addf (SS A B c i) (SS A B (zr 2 c) i)) (SS A B (zr 1 c) i)) (SS A B (zr 0 c) i)) (Scalar.ofBits .bf16 0x0000#16)

/-- The finished accumulator: each row from the device that finishes it. -/
def FIN (i : S1024x1024.Idx) : F .bf16 := TT A B (own (i 0).val) i

/-- The result: the finished accumulator widened. -/
def outAt (i : S1024x1024.Idx) : F .f32 := FloatOps.extf .f32 bitsLt_bf16_f32 (FIN A B i)

/-- First exchange's landing blocks: block 0 the half before's, block 1 the half after's. -/
def t1C (c : Dev nD) (j : S2x128x1024.Idx) : F .bf16 :=
  if (j 0).val = 0 then PP A B (dn c) (rc (qr c 1 + 128 + (j 1).val) (j 2).val) else PP A B (up c) (rc (qr c 3 + (j 1).val) (j 2).val)
/-- Second exchange's landing blocks. -/
def t2C (c : Dev nD) (j : S2x256x1024.Idx) : F .bf16 :=
  GG A B (if (j 0).val = 0 then dn c else up c) (rc (qr c 0 + (j 1).val) (j 2).val)
/-- The other planes' landing blocks: block `k` is filled by the device `k + 1` planes back. -/
def zC (c : Dev nD) (j : S3x64x1024.Idx) : F .bf16 :=
  SS A B (zr (2 - ⟨(j 0).val % 3, Nat.mod_lt _ (by decide)⟩) c) (rc (qr c 0 + pr c 0 + (j 1).val) (j 2).val)

end

/-! ## The stored values, element by element -/

section
variable (A : Dev nD → S1024x512.Idx → F .f32) (B : Dev nD → S512x1024.Idx → F .f32)

theorem shapeCast_drop {n : ℕ} {α : Type} (v : (⟨3, ![1, n, 1024]⟩ : Shape).Idx → α) (h) (j : (⟨2, ![n, 1024]⟩ : Shape).Idx) :
    shapeCast (⟨2, ![n, 1024]⟩ : Shape) v h j = v (ix3 (⟨0, Nat.one_pos⟩ : Fin 1) (j 0) (j 1)) := by
  conv_lhs => rw [show j = ix2 (j 0) (j 1) from eq_ix2 j]
  exact congrArg v (reshapeEquiv_ix2_1ab h (j 0) (j 1))

theorem pay1_PP (c : Dev nD) (j : S128x1024.Idx) {a : ℕ} (ha : a = qr c 2 ∨ a = qr c 2 + 128) :
    k0_pay1 (arows 128 a (A c)) (B c) j = PP A B c (rc (a + (j 0).val) (j 1).val) := by
  have hj : (j 0).val < 128 := (j 0).isLt
  have hj1 : (j 1).val < 1024 := (j 1).isLt
  have hq : qr c 2 ≤ 768 := by dsimp only [qr]; omega
  have h0 : ((rc (a + (j 0).val) (j 1).val 0 : Fin 1024) : ℕ) = a + (j 0).val := rc_0 (by omega)
  have h1 : (rc (a + (j 0).val) (j 1).val 1 : Fin 1024) = j 1 := Fin.ext (rc_1 hj1)
  have h128 : 128 * ((a + (j 0).val) / 128) = a := by dsimp only [qr] at ha; omega
  have hm : (a + (j 0).val) % 128 = (j 0).val := by dsimp only [qr] at ha; omega
  unfold PP
  rw [if_pos (by rw [h0]; dsimp only [qr] at ha; omega)]
  simp only [h0, h1, h128]
  congr 1
  refine Shape.idx_ext₂ ?_ ?_
  · exact hm.symm
  · rfl

theorem pay4_PP (c : Dev nD) (j : S256x1024.Idx) {a k : ℕ} (hk : k = 0 ∨ k = 1 ∨ k = 3) (ha : a = qr c k) :
    k0_pay4 (arows 256 a (A c)) (B c) j = PP A B c (rc (a + (j 0).val) (j 1).val) := by
  have hj : (j 0).val < 256 := (j 0).isLt
  have hj1 : (j 1).val < 1024 := (j 1).isLt
  have hq : qr c k ≤ 768 := by dsimp only [qr]; omega
  have h0 : ((rc (a + (j 0).val) (j 1).val 0 : Fin 1024) : ℕ) = a + (j 0).val := rc_0 (by omega)
  have h1 : (rc (a + (j 0).val) (j 1).val 1 : Fin 1024) = j 1 := Fin.ext (rc_1 hj1)
  have h128 : 256 * ((a + (j 0).val) / 256) = a := by dsimp only [qr] at ha; omega
  have hm : (a + (j 0).val) % 256 = (j 0).val := by dsimp only [qr] at ha; omega
  unfold PP
  rw [if_neg (by rw [h0]; dsimp only [qr] at ha; omega)]
  simp only [h0, h1, h128]
  congr 1
  refine Shape.idx_ext₂ ?_ ?_
  · exact hm.symm
  · rfl

theorem GG_eq_PP (c : Dev nD) {a n : ℕ} (h : (a = qr c 0 ∧ n = 256) ∨ (a = qr c 1 ∧ n = 128) ∨ (a = qr c 3 + 128 ∧ n = 128)) {i : S1024x1024.Idx}
    (hi : i ∈ R a n) : PP A B c i = GG A B c i := by
  rw [mem_R] at hi
  unfold GG
  dsimp only [qr] at h
  rw [if_neg (by omega), if_neg (by omega)]

theorem pay6_GG (c : Dev nD) (j : S128x1024.Idx) :
    k0_pay6 (rows 128 (qr c 1 + 128) (PP A B c)) (rows3 128 0 0 (t1C A B c)) j = GG A B c (rc (qr c 1 + 128 + (j 0).val) (j 1).val) := by
  have hj : (j 0).val < 128 := (j 0).isLt
  have hj1 : (j 1).val < 1024 := (j 1).isLt
  have h0 : ((rc (qr c 1 + 128 + (j 0).val) (j 1).val 0 : Fin 1024) : ℕ) = qr c 1 + 128 + (j 0).val := rc_0 (by dsimp only [qr]; omega)
  unfold GG
  rw [if_pos (by rw [h0]; dsimp only [qr]; omega)]
  show shapeCast S128x1024 (addf _ (shapeCast S128x1024 _ _)) _ j = _
  rw [shapeCast_self]
  show FloatOps.addf _ (shapeCast S128x1024 _ _ j) = _
  rw [shapeCast_drop]
  refine congrArg₂ FloatOps.addf rfl ?_
  show t1C A B c _ = _
  unfold t1C
  rw [if_pos rfl]
  show PP A B (dn c) (rc (qr c 1 + 128 + (0 + (j 0).val) % 128) (j 1).val) = _
  rw [show (0 + (j 0).val) % 128 = (j 0).val by omega]

theorem pay7_GG (c : Dev nD) (j : S128x1024.Idx) :
    k0_pay7 (rows 128 (qr c 3) (PP A B c)) (rows3 128 1 0 (t1C A B c)) j = GG A B c (rc (qr c 3 + (j 0).val) (j 1).val) := by
  have hj : (j 0).val < 128 := (j 0).isLt
  have hj1 : (j 1).val < 1024 := (j 1).isLt
  have h0 : ((rc (qr c 3 + (j 0).val) (j 1).val 0 : Fin 1024) : ℕ) = qr c 3 + (j 0).val := rc_0 (by dsimp only [qr]; omega)
  unfold GG
  rw [if_neg (by rw [h0]; dsimp only [qr]; omega), if_pos (by rw [h0]; dsimp only [qr]; omega)]
  show shapeCast S128x1024 (addf _ (shapeCast S128x1024 _ _)) _ j = _
  rw [shapeCast_self]
  show FloatOps.addf _ (shapeCast S128x1024 _ _ j) = _
  rw [shapeCast_drop]
  refine congrArg₂ FloatOps.addf rfl ?_
  show t1C A B c _ = _
  unfold t1C
  rw [if_neg (show ¬ (1 % 2 = 0) by decide)]
  show PP A B (up c) (rc (qr c 3 + (0 + (j 0).val) % 128) (j 1).val) = _
  rw [show (0 + (j 0).val) % 128 = (j 0).val by omega]

/-- The plane's sum, on one piece: own rows plus the two landed. -/
theorem pay11_SS (c : Dev nD) (k : ℕ) (j : S64x1024.Idx) :
    k0_pay11 (rows 64 (qr c 0 + pr c k) (GG A B c)) (rows3 64 0 (pr c k) (t2C A B c)) (rows3 64 1 (pr c k) (t2C A B c)) j
      = SS A B c (rc (qr c 0 + pr c k + (j 0).val) (j 1).val) := by
  have hj : (j 0).val < 64 := (j 0).isLt
  show shapeCast S64x1024 (addf (addf _ (shapeCast S64x1024 _ _)) (shapeCast S64x1024 _ _)) _ j = _
  rw [shapeCast_self]
  show FloatOps.addf (FloatOps.addf _ (shapeCast S64x1024 _ _ j)) (shapeCast S64x1024 _ _ j) = _
  rw [shapeCast_drop, shapeCast_drop]
  have hm : (pr c k + (j 0).val) % 256 = pr c k + (j 0).val := by dsimp only [pr]; omega
  have hx : ∀ d, GG A B d (rc (qr c 0 + (pr c k + (j 0).val) % 256) (j 1).val) = GG A B d (rc (qr c 0 + pr c k + (j 0).val) (j 1).val) := fun d => by
    rw [hm, Nat.add_assoc]
  unfold SS
  refine congrArg₂ FloatOps.addf (congrArg₂ FloatOps.addf rfl ?_) ?_
  · exact (congrArg (fun d => GG A B d _) (if_pos rfl)).trans (hx _)
  · exact (congrArg (fun d => GG A B d _) (if_neg (show ¬ (1 % 2 = 0) by decide))).trans (hx _)

/-- The sum of all sixteen, on the piece the device finishes. -/
theorem pay15_TT (c : Dev nD) (j : S64x1024.Idx) :
    k0_pay15 (k0_pay14 (rows 64 (qr c 0 + pr c 0) (SS A B c)) (rows3 64 0 0 (zC A B c)) (rows3 64 1 0 (zC A B c)) (rows3 64 2 0 (zC A B c))) j
      = FIN A B (rc (qr c 0 + pr c 0 + (j 0).val) (j 1).val) := by
  have hj : (j 0).val < 64 := (j 0).isLt
  have hc : c.val < 16 := c.isLt
  have h0 : ((rc (qr c 0 + pr c 0 + (j 0).val) (j 1).val 0 : Fin 1024) : ℕ) = qr c 0 + pr c 0 + (j 0).val := rc_0 (by dsimp only [qr, pr]; omega)
  have ho : own (qr c 0 + pr c 0 + (j 0).val) = c := by
    have e1 : (qr c 0 + pr c 0 + (j 0).val) / 256 = c.val % 4 := by dsimp only [qr, pr]; omega
    have e2 : (qr c 0 + pr c 0 + (j 0).val) % 256 / 64 = c.val / 4 := by dsimp only [qr, pr]; omega
    refine Fin.ext ?_
    show (4 * ((qr c 0 + pr c 0 + (j 0).val) % 256 / 64) + (qr c 0 + pr c 0 + (j 0).val) / 256) % 16 = c.val
    rw [e1, e2]; omega
  unfold FIN
  rw [h0, ho]
  show shapeCast S64x1024 (maximumf (addf (addf (addf _ (shapeCast S64x1024 _ _)) (shapeCast S64x1024 _ _)) (shapeCast S64x1024 _ _)) _) _ j = _
  rw [shapeCast_self]
  show FloatOps.maximumf (FloatOps.addf (FloatOps.addf (FloatOps.addf _ (shapeCast S64x1024 _ _ j)) (shapeCast S64x1024 _ _ j)) (shapeCast S64x1024 _ _ j)) _ = _
  rw [shapeCast_drop, shapeCast_drop, shapeCast_drop]
  have hx : ∀ d, SS A B d (rc (qr c 0 + pr c 0 + (0 + (j 0).val) % 64) (j 1).val) = SS A B d (rc (qr c 0 + pr c 0 + (j 0).val) (j 1).val) := fun d => by
    rw [show (0 + (j 0).val) % 64 = (j 0).val by omega]
  have hz : ∀ t : Fin 3, rows3 64 t.val 0 (zC A B c) (ix3 (⟨0, Nat.one_pos⟩ : Fin 1) (j 0) (j 1)) = SS A B (zr (2 - t) c) (rc (qr c 0 + pr c 0 + (j 0).val) (j 1).val) := fun t => by
    have ht : (⟨t.val % 3 % 3, Nat.mod_lt _ (by decide)⟩ : Fin 3) = t := Fin.ext (show t.val % 3 % 3 = t.val by omega)
    show SS A B (zr (2 - ⟨t.val % 3 % 3, _⟩) c) _ = _
    rw [ht]
    exact hx _
  unfold TT
  exact congrArg₂ FloatOps.maximumf (congrArg₂ FloatOps.addf (congrArg₂ FloatOps.addf (congrArg₂ FloatOps.addf rfl (hz 0)) (hz 1)) (hz 2)) rfl

/-- A widened quarter. -/
theorem pay16_out (a : ℕ) (j : S256x1024.Idx) : k0_pay16 (rows 256 a (FIN A B)) j = outAt A B (rc (a + (j 0).val) (j 1).val) := rfl

end

end Cert.Allred

end
-- ==== Proof.Schedule.lean ====
/-
# The messages and their schedule

Twenty-six messages leave every device and twenty-six arrive. Message `m` goes to `tgt m c`, is counted on
that device's receive cell `rs m` and on the sender's own send cell `ss m`; some send cells count two
messages, one a round. The tables below say when, in the order of the program's transfers and waits, each
message is sent, when its send is waited for and when its arrival is; every side condition of a step is read
off them.

Before anything is sent the devices meet at the barrier: the device `go d t`, signalling `t`, hands `t` the
landing blocks `t`'s messages in direction `d` go to.
-/
module

public import proofs.«01_k».proof.Proof.Contents

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## Directions and messages -/

/-- The device in direction `d`. -/
def go (d : Fin 5) (c : Dev nD) : Dev nD :=
  match d with | 0 => up c | 1 => dn c | 2 => zr 0 c | 3 => zr 1 c | 4 => zr 2 c
/-- The device from whose side `c` is in direction `d`. -/
def back (d : Fin 5) (c : Dev nD) : Dev nD :=
  match d with | 0 => dn c | 1 => up c | 2 => zr 2 c | 3 => zr 1 c | 4 => zr 0 c
theorem go_back (d : Fin 5) (c : Dev nD) : go d (back d c) = c := by revert d c; decide
theorem back_go (d : Fin 5) (c : Dev nD) : back d (go d c) = c := by revert d c; decide

/-- The direction a message goes. -/
def dir : Fin 26 → Fin 5 := ![0, 1, 0, 0, 0, 0, 1, 1, 1, 1, 2, 3, 4, 2, 3, 4, 0, 0, 0, 0, 1, 1, 1, 1, 0, 1]
abbrev tgt (m : Fin 26) (c : Dev nD) : Dev nD := go (dir m) c
abbrev frm (m : Fin 26) (c : Dev nD) : Dev nD := back (dir m) c
/-- The send cell a message is counted on, and in which of its rounds. -/
def sendIx : Fin 26 → Fin 14 := ![0, 1, 2, 3, 4, 5, 6, 7, 8, 9, 11, 12, 13, 2, 3, 4, 5, 6, 7, 8, 9, 10, 11, 12, 0, 1]
def sendRd : Fin 26 → ℕ := ![0, 0, 0, 0, 0, 0, 0, 0, 0, 0, 0, 0, 0, 1, 1, 1, 1, 1, 1, 1, 1, 0, 1, 1, 1, 1]
/-- A message's level: what is waited for first is lowest. -/
def levT : Fin 26 → ℕ := ![2, 2, 3, 3, 3, 3, 3, 3, 3, 3, 4, 4, 4, 5, 5, 5, 6, 6, 6, 6, 6, 6, 6, 6, 7, 7]
/-- When a message is sent, its send waited for, its arrival waited for. -/
def sendT : Fin 26 → ℕ := ![0, 1, 6, 8, 10, 12, 7, 9, 11, 13, 22, 27, 32, 39, 40, 41, 42, 46, 50, 54, 43, 47, 51, 55, 72, 73]
def wsT : Fin 26 → ℕ := ![2, 4, 14, 18, 23, 28, 16, 20, 25, 30, 33, 35, 37, 44, 48, 52, 56, 60, 64, 68, 58, 62, 66, 70, 74, 76]
def rvT : Fin 26 → ℕ := ![3, 5, 15, 19, 24, 29, 17, 21, 26, 31, 34, 36, 38, 45, 49, 53, 57, 61, 65, 69, 59, 63, 67, 71, 75, 77]

/-- Quarter, piece and half of the rows a message carries; a large message carries half a quarter, the others a piece. -/
def mq : Fin 26 → ℕ := ![2, 2, 1, 1, 1, 1, 3, 3, 3, 3, 0, 0, 0, 0, 0, 0, 0, 0, 0, 0, 0, 0, 0, 0, 3, 1]
def mp : Fin 26 → ℕ := ![0, 0, 0, 1, 2, 3, 0, 1, 2, 3, 1, 2, 3, 0, 0, 0, 0, 3, 2, 1, 0, 3, 2, 1, 0, 0]
def mh : Fin 26 → ℕ := ![128, 0, 0, 0, 0, 0, 0, 0, 0, 0, 0, 0, 0, 0, 0, 0, 0, 0, 0, 0, 0, 0, 0, 0, 0, 128]
def mlen : Fin 26 → ℕ := ![128, 128, 64, 64, 64, 64, 64, 64, 64, 64, 64, 64, 64, 64, 64, 64, 64, 64, 64, 64, 64, 64, 64, 64, 128, 128]
def mrow (m : Fin 26) (c : Dev nD) : ℕ := qr c (mq m) + (if mlen m = 128 then mh m else pr c (mp m))

/-! ## Cells -/

section
set_option backward.proofsInPublic true
def ssem (j : Fin 14) : DmaSem sig := (⟨3 + j.val, by have := j.isLt; omega⟩ : Fin 43)
def rsem (m : Fin 26) : DmaSem sig := (⟨17 + m.val, by have := m.isLt; omega⟩ : Fin 43)
/-- The kernel's own semaphores, and with the runtime's barrier all the protocol's. -/
def osem (k : Fin 40) : SemLoc sig := .dma (⟨3 + k.val, by have := k.isLt; omega⟩ : Fin 43)
end
abbrev barS : Sem sig := (SemArray.scalar (sig.barrier 0 rfl) : Sems sig S_).sem
abbrev barCell (c : Dev nD) : GSem nD τ sig := ((c : Thread nD τ), .reg barS)
abbrev sCell (c : Dev nD) (j : Fin 14) : GSem nD τ sig := ((c : Thread nD τ), .dma (ssem j))
abbrev rCell (c : Dev nD) (m : Fin 26) : GSem nD τ sig := ((c : Thread nD τ), .dma (rsem m))
def csem (i : Fin 41) : SemLoc sig := if h : i.val = 0 then .reg barS else osem ⟨i.val - 1, by have := i.isLt; omega⟩
abbrev kcell (ci : Dev nD × Fin 41) : GSem nD τ sig := ((ci.1 : Thread nD τ), csem ci.2)
def rI (m : Fin 26) : Fin 41 := ⟨15 + m.val, by have := m.isLt; omega⟩
def sI (j : Fin 14) : Fin 41 := ⟨1 + j.val, by have := j.isLt; omega⟩
theorem csem_r (m : Fin 26) : csem (rI m) = .dma (rsem m) := by revert m; decide
theorem csem_s (j : Fin 14) : csem (sI j) = .dma (ssem j) := by revert j; decide
theorem csem_b : csem 0 = .reg barS := by decide

/-! ## Ownership of rows and blocks -/

def accP (c : Dev nD) (a n : ℕ) (q : PosShare TreeShare) (g : S1024x1024.Idx → F .bf16) : sProp 𝕄 := ((c : Thread nD τ).loc cc0_scratch0) ↦[R a n]{q} g
def outP (c : Dev nD) (a n : ℕ) (g : S1024x1024.Idx → F .f32) : sProp 𝕄 := ((c : Thread nD τ).loc cc0_stg2_0) ↦[R a n]{fullShare} g
def t1P (c : Dev nD) (t : ℕ) (g : S2x128x1024.Idx → F .bf16) : sProp 𝕄 := ((c : Thread nD τ).loc cc0_scratch1) ↦[B3 t 0 128]{fullShare} g
def t2P (c : Dev nD) (t a n : ℕ) (g : S2x256x1024.Idx → F .bf16) : sProp 𝕄 := ((c : Thread nD τ).loc cc0_scratch2) ↦[B3 t a n]{fullShare} g
def zP (c : Dev nD) (t : ℕ) (g : S3x64x1024.Idx → F .bf16) : sProp 𝕄 := ((c : Thread nD τ).loc cc0_scratch3) ↦[B3 t 0 64]{fullShare} g

instance accP_storable (c : Dev nD) (a n q g) : BI.Storable (upEmb : UEmb _ 𝕄) (accP (F := F) c a n q g) := by unfold accP; infer_instance
instance t1P_storable (c : Dev nD) (t g) : BI.Storable (upEmb : UEmb _ 𝕄) (t1P (F := F) c t g) := by unfold t1P; infer_instance
instance t2P_storable (c : Dev nD) (t a n g) : BI.Storable (upEmb : UEmb _ 𝕄) (t2P (F := F) c t a n g) := by unfold t2P; infer_instance
instance zP_storable (c : Dev nD) (t g) : BI.Storable (upEmb : UEmb _ 𝕄) (zP (F := F) c t g) := by unfold zP; infer_instance

/-- The landing blocks on `c` of its neighbours' messages in direction `d`, whatever they hold. -/
def landing (d : Fin 5) (c : Dev nD) : sProp 𝕄 :=
  match d with
  | 0 => iprop((∃ f, t1P (F := F) c 0 f) ∗ ∃ f, t2P (F := F) c 0 0 256 f)
  | 1 => iprop((∃ f, t1P (F := F) c 1 f) ∗ ∃ f, t2P (F := F) c 1 0 256 f)
  | 2 => iprop(∃ f, zP (F := F) c 0 f)
  | 3 => iprop(∃ f, zP (F := F) c 1 f)
  | 4 => iprop(∃ f, zP (F := F) c 2 f)

instance landing_storable (d : Fin 5) (c : Dev nD) : BI.Storable (upEmb : UEmb _ 𝕄) (landing (F := F) d c) := by
  fin_cases d <;> (unfold landing; infer_instance)

/-- Half of full ownership stays with a finished piece; the other half is dealt to the messages that carry it. -/
abbrev qK : PosShare TreeShare := (fullShare : PosShare TreeShare).right
abbrev qM : PosShare TreeShare := (fullShare : PosShare TreeShare).left
def share : Fin 26 → PosShare TreeShare :=
  fun m => match m.val with
    | 13 => qM.left | 14 => qM.right.left | 15 => qM.right.right.left | 16 => qM.right.right.right.left | 20 => qM.right.right.right.right
    | 17 | 18 | 19 => qM.left
    | 21 | 22 | 23 => qM.right
    | _ => qM

section
variable (A : Dev nD → S1024x512.Idx → F .f32) (B : Dev nD → S512x1024.Idx → F .f32)

/-- The landing block of a message on `t`, filled. -/
def slotP (m : Fin 26) (t : Dev nD) : sProp 𝕄 :=
  if m.val = 0 then t1P t 0 (t1C A B t) else if m.val = 1 then t1P t 1 (t1C A B t)
  else if m.val < 6 then t2P t 0 (pr t (mp m)) 64 (t2C A B t) else if m.val < 10 then t2P t 1 (pr t (mp m)) 64 (t2C A B t)
  else zP t (m.val - 10) (zC A B t)

/-- What arrives with a message: into a landing block, that block filled and the sender's rows, to be overwritten
    with finished ones; otherwise the finished rows. -/
def recvPay (m : Fin 26) (t : Dev nD) : sProp 𝕄 :=
  if m.val < 13 then iprop(slotP A B m t ∗ ∃ f, accP (frm m t) (mrow m (frm m t)) (mlen m) fullShare f)
  else accP t (mrow m (frm m t)) (mlen m) fullShare (FIN A B)

/-- The message a send cell counts second. -/
def second : Fin 14 → Fin 26 := ![24, 25, 13, 14, 15, 16, 17, 18, 19, 20, 21, 22, 23, 12]
/-- What a message's completion on the sender's side gives back. -/
def sendPay (j : Fin 14) (r : ℕ) (c : Dev nD) : sProp 𝕄 :=
  if j.val < 13 ∧ (r = 1 ∨ j.val = 10) then accP c (mrow (second j) c) (mlen (second j)) (share (second j)) (FIN A B) else iprop(emp)

instance slotP_storable (m : Fin 26) (t : Dev nD) : BI.Storable (upEmb : UEmb _ 𝕄) (slotP A B m t) := by
  unfold slotP; (repeat' split) <;> infer_instance
instance recvPay_storable (m : Fin 26) (t : Dev nD) : BI.Storable (upEmb : UEmb _ 𝕄) (recvPay A B m t) := by
  unfold recvPay; (repeat' split) <;> infer_instance
instance sendPay_storable (j : Fin 14) (r : ℕ) (c : Dev nD) : BI.Storable (upEmb : UEmb _ 𝕄) (sendPay A B j r c) := by
  unfold sendPay; (repeat' split) <;> infer_instance

/-! ## The schedule -/

abbrev N128 : ℕ := Idealize.ShloMosaic.RefSig.tileCredit S128x1024 .bf16
abbrev N64 : ℕ := Idealize.ShloMosaic.RefSig.tileCredit S64x1024 .bf16
def amt (m : Fin 26) : ℕ := if mlen m = 128 then N128 else N64
/-- How many messages a send cell counts. -/
def rounds (j : Fin 14) : ℕ := if j.val = 10 ∨ j.val = 13 then 1 else 2
def samt (j : Fin 14) : ℕ := if j.val < 2 then N128 else N64
omit [FloatOps F] in
theorem N128_pos : 0 < N128 := by decide
theorem N64_pos : 0 < N64 := by decide
theorem amt_pos (m : Fin 26) : 0 < amt m := by unfold amt; split; exacts [N128_pos, N64_pos]
theorem samt_pos (j : Fin 14) : 0 < samt j := by unfold samt; split; exacts [N128_pos, N64_pos]
theorem samt_eq (m : Fin 26) : samt (sendIx m) = amt m := by
  unfold samt amt
  have : (sendIx m).val < 2 ↔ mlen m = 128 := by revert m; decide
  simp only [this]

/-- What a semaphore counts. -/
inductive Cls where
  | bar | snd (j : Fin 14) | rcv (m : Fin 26) | other

def cls : SemLoc sig → Cls
  | .reg s => if s = barS then .bar else .other
  | .dma q =>
    let n : Fin 43 := q
    if h : 3 ≤ n.val ∧ n.val < 17 then .snd ⟨n.val - 3, by omega⟩ else if h : 17 ≤ n.val then .rcv ⟨n.val - 17, by have := n.isLt; omega⟩ else .other

theorem cls_bar : cls (.reg barS) = .bar := by unfold cls; exact if_pos rfl
theorem cls_s (j : Fin 14) : cls (.dma (ssem j)) = .snd j := by
  have := j.isLt
  unfold cls ssem
  dsimp only
  rw [dif_pos (by omega)]; congr 1; apply Fin.ext; dsimp only; omega
theorem cls_r (m : Fin 26) : cls (.dma (rsem m)) = .rcv m := by
  unfold cls rsem
  dsimp only
  rw [dif_neg (by omega), dif_pos (by omega)]; congr 1; apply Fin.ext; dsimp only; omega

def dutiesOf : Cls → ℕ → Finset (Fin 5)
  | .bar, r => if r = 0 then Finset.univ else ∅
  | .snd j, r => if r < rounds j then {0} else ∅
  | .rcv _, r => if r = 0 then {0} else ∅
  | .other, _ => ∅
def amountOf : Cls → ℕ
  | .bar => 1
  | .snd j => samt j
  | .rcv m => amt m
  | .other => 1
def payOf (c : Dev nD) : Cls → ℕ → Fin 5 → sProp 𝕄
  | .bar, _, d => landing d (go d c)
  | .snd j, r, _ => sendPay A B j r c
  | .rcv m, _, _ => recvPay A B m c
  | .other, _, _ => iprop(emp)
instance payOf_storable (c : Dev nD) (k : Cls) (r : ℕ) (d : Fin 5) : BI.Storable (upEmb : UEmb _ 𝕄) (payOf A B c k r d) := by
  cases k <;> (unfold payOf; infer_instance)

def Rd : Rounds.Schedule (GSem nD τ sig) (Fin 5) 𝕄 where
  duties g r := if g.1.2 = .tc then dutiesOf (cls g.2) r else ∅
  unitless _ := False
  amount g _ _ := amountOf (cls g.2)
  payload g r d := payOf A B g.1.1 (cls g.2) r d
  amount_pos g _ _ _ := by
    show 0 < amountOf (cls g.2)
    cases cls g.2
    exacts [Nat.one_pos, samt_pos _, amt_pos _, Nat.one_pos]

instance Rd_payload_storable (g : GSem nD τ sig) (r : ℕ) (d : Fin 5) : BI.Storable (upEmb : UEmb _ 𝕄) ((Rd A B).payload g r d) :=
  payOf_storable A B g.1.1 (cls g.2) r d

variable (c : Dev nD)
theorem duties_tc (sm : SemLoc sig) (r : ℕ) : (Rd A B).duties ((c : Thread nD τ), sm) r = dutiesOf (cls sm) r := by
  show (if ((c : Thread nD τ)).2 = .tc then dutiesOf (cls sm) r else ∅) = _; exact if_pos rfl
theorem duties_bar : (Rd A B).duties (barCell c) 0 = Finset.univ := by rw [duties_tc, cls_bar]; rfl
theorem duties_s (j : Fin 14) (r : ℕ) (h : r < rounds j) : (Rd A B).duties (sCell c j) r = {0} := by
  rw [duties_tc, cls_s]; exact if_pos h
theorem duties_r (m : Fin 26) : (Rd A B).duties (rCell c m) 0 = {0} := by rw [duties_tc, cls_r]; rfl
theorem later_bar (r : ℕ) (h : 1 ≤ r) : (Rd A B).duties (barCell c) r = ∅ := by
  rw [duties_tc, cls_bar]; exact if_neg (by omega)
theorem later_s (j : Fin 14) (r : ℕ) (h : rounds j ≤ r) : (Rd A B).duties (sCell c j) r = ∅ := by
  rw [duties_tc, cls_s]; exact if_neg (by omega)
theorem later_r (m : Fin 26) (r : ℕ) (h : 1 ≤ r) : (Rd A B).duties (rCell c m) r = ∅ := by
  rw [duties_tc, cls_r]; exact if_neg (by omega)

theorem amount_bar (r d) : (Rd A B).amount (barCell c) r d = 1 := by show amountOf (cls (.reg barS)) = _; rw [cls_bar]; rfl
theorem amount_s (j : Fin 14) (r d) : (Rd A B).amount (sCell c j) r d = samt j := by show amountOf (cls (.dma (ssem j))) = _; rw [cls_s]; rfl
theorem amount_r (m : Fin 26) (r d) : (Rd A B).amount (rCell c m) r d = amt m := by show amountOf (cls (.dma (rsem m))) = _; rw [cls_r]; rfl
theorem expect_bar : (Rd A B).expect (barCell c) 0 = 5 := by
  unfold Schedule.expect Schedule.amountOf
  rw [duties_bar, Finset.sum_congr rfl fun d _ => amount_bar A B c 0 d]; rfl
theorem expect_s (j : Fin 14) (r : ℕ) (h : r < rounds j) : (Rd A B).expect (sCell c j) r = samt j := by
  unfold Schedule.expect Schedule.amountOf
  rw [duties_s A B c j r h, Finset.sum_singleton, amount_s]
theorem expect_r (m : Fin 26) : (Rd A B).expect (rCell c m) 0 = amt m := by
  unfold Schedule.expect Schedule.amountOf
  rw [duties_r, Finset.sum_singleton, amount_r]
theorem payload_bar (r d) : (Rd A B).payload (barCell c) r d = landing d (go d c) := by show payOf A B c (cls (.reg barS)) r d = _; rw [cls_bar]; rfl
theorem payload_s (j : Fin 14) (r d) : (Rd A B).payload (sCell c j) r d = sendPay A B j r c := by show payOf A B c (cls (.dma (ssem j))) r d = _; rw [cls_s]; rfl
theorem payload_r (m : Fin 26) (r d) : (Rd A B).payload (rCell c m) r d = recvPay A B m c := by show payOf A B c (cls (.dma (rsem m))) r d = _; rw [cls_r]; rfl
theorem rest_s (j : Fin 14) (r : ℕ) (h : r < rounds j) :
    bigSep ((Rd A B).duties (sCell c j) r \ ∅) (fun d => (Rd A B).payload (sCell c j) r d) = sendPay A B j r c := by
  rw [Finset.sdiff_empty, duties_s A B c j r h, bigSep_singleton, payload_s]
theorem rest_r (m : Fin 26) :
    bigSep ((Rd A B).duties (rCell c m) 0 \ ∅) (fun d => (Rd A B).payload (rCell c m) 0 d) = recvPay A B m c := by
  rw [Finset.sdiff_empty, duties_r, bigSep_singleton, payload_r]
theorem rest_bar :
    bigSep ((Rd A B).duties (barCell c) 0 \ ∅) (fun d => (Rd A B).payload (barCell c) 0 d)
      = iprop(landing 0 (up c) ∗ landing 1 (dn c) ∗ landing 2 (zr 0 c) ∗ landing 3 (zr 1 c) ∗ landing 4 (zr 2 c)) := by
  rw [Finset.sdiff_empty, duties_bar, bigSep_univ_eq_bigSepL [0, 1, 2, 3, 4] (by decide) (by decide), bigSepL_cons_cons, bigSepL_cons_cons, bigSepL_cons_cons,
    bigSepL_cons_cons, bigSepL_singleton]
  simp only [payload_bar]
  rfl

end

/-! ## Progress -/

def unsent (k : ℕ) : Finset (Fin 26) := Finset.univ.filter fun m => k ≤ sendT m
def flying (k : ℕ) : Finset (Fin 26) := Finset.univ.filter fun m => sendT m < k ∧ k ≤ wsT m
def unrecv (k : ℕ) : Finset (Fin 26) := Finset.univ.filter fun m => k ≤ rvT m
def recvd (k : ℕ) : Finset (Fin 26) := Finset.univ.filter fun m => rvT m < k
def posR (j : Fin 14) (k : ℕ) : ℕ := (Finset.univ.filter fun m => sendIx m = j ∧ wsT m < k).card

def SendFacts (m : Fin 26) : Prop := let k := sendT m
  unsent k = insert m (unsent (k + 1)) ∧ m ∉ unsent (k + 1) ∧ flying (k + 1) = insert m (flying k) ∧ m ∉ flying k ∧ unrecv (k + 1) = unrecv k ∧ recvd (k + 1) = recvd k
    ∧ (∀ j, posR j (k + 1) = posR j k) ∧ posR (sendIx m) k = sendRd m
instance (m : Fin 26) : Decidable (SendFacts m) := by unfold SendFacts; infer_instance
def WsFacts (m : Fin 26) : Prop := let k := wsT m
  unsent (k + 1) = unsent k ∧ flying k = insert m (flying (k + 1)) ∧ m ∉ flying (k + 1) ∧ unrecv (k + 1) = unrecv k ∧ recvd (k + 1) = recvd k
    ∧ (∀ j, j ≠ sendIx m → posR j (k + 1) = posR j k) ∧ posR (sendIx m) k = sendRd m ∧ posR (sendIx m) (k + 1) = sendRd m + 1
instance (m : Fin 26) : Decidable (WsFacts m) := by unfold WsFacts; infer_instance
def RvFacts (m : Fin 26) : Prop := let k := rvT m
  unsent (k + 1) = unsent k ∧ flying (k + 1) = flying k ∧ unrecv k = insert m (unrecv (k + 1)) ∧ m ∉ unrecv (k + 1) ∧ recvd (k + 1) = insert m (recvd k) ∧ m ∉ recvd k
    ∧ (∀ j, posR j (k + 1) = posR j k) ∧ ∀ m', k ≤ sendT m' → levT m < levT m'
instance (m : Fin 26) : Decidable (RvFacts m) := by unfold RvFacts; infer_instance
theorem sendFacts (m : Fin 26) : SendFacts m := by revert m; decide +kernel
theorem wsFacts (m : Fin 26) : WsFacts m := by revert m; decide +kernel
theorem rvFacts (m : Fin 26) : RvFacts m := by revert m; decide +kernel
theorem sendRd_lt (m : Fin 26) : sendRd m < rounds (sendIx m) := by revert m; decide
theorem posR_end (j : Fin 14) : posR j 78 = rounds j := by revert j; decide +kernel
theorem posR_zero (j : Fin 14) : posR j 0 = 0 := by revert j; decide +kernel

/-! ## What a device owes, and the levels -/

def owed (c : Dev nD) (k : ℕ) : CellTallies nD τ sig Unit := ∑ m ∈ unsent k, tallyAt (rCell (tgt m c) m) () (amt m)

def L (g : GSem nD τ sig) : Finset Unit := if g.1.2 = .tc then {()} else ∅
/-- Barrier cells at 1, receive cells by when they are waited for, everything else at 0. -/
def levOf : Cls → ℕ
  | .bar => 1
  | .rcv m => levT m
  | _ => 0
def lv (g : GSem nD τ sig) (_ : Unit) : ℕ := levOf (cls g.2)
theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by show levOf (cls (.reg barS)) = _; rw [cls_bar]; rfl
theorem lv_r (c : Dev nD) (m : Fin 26) : lv (rCell c m) () = levT m := by show levOf (cls (.dma (rsem m))) = _; rw [cls_r]; rfl
theorem lv_s (c : Dev nD) (j : Fin 14) : lv (sCell c j) () = 0 := by show levOf (cls (.dma (ssem j))) = _; rw [cls_s]; rfl

theorem sum_tally_pos {ι : Type} [DecidableEq ι] (s : Finset ι) (g : ι → GSem nD τ sig) (a : ι → ℕ) {g' : GSem nD τ sig} {u : Unit}
    (h : 0 < (∑ i ∈ s, (tallyAt (g i) () (a i) : CellTallies nD τ sig Unit)) g' u) : ∃ i ∈ s, g' = g i := by
  induction s using Finset.induction_on with
  | empty => exact absurd h (Nat.lt_irrefl 0)
  | insert i s hi ih =>
    rw [Finset.sum_insert hi, Pi.add_apply, Finsupp.add_apply, tallyAt_apply] at h
    by_cases hg : g' = g i ∧ u = ()
    · exact ⟨i, Finset.mem_insert_self _ _, hg.1⟩
    · rw [if_neg hg, Nat.zero_add] at h
      obtain ⟨i', h1, h2⟩ := ih h
      exact ⟨i', Finset.mem_insert_of_mem h1, h2⟩

theorem owed_pos {c : Dev nD} {k : ℕ} {g : GSem nD τ sig} {u : Unit} (h : 0 < owed c k g u) : ∃ m, k ≤ sendT m ∧ g = rCell (tgt m c) m := by
  obtain ⟨m, h1, h2⟩ := sum_tally_pos (unsent k) (fun m => rCell (tgt m c) m) amt h
  exact ⟨m, (Finset.mem_filter.mp h1).2, h2⟩

omit [FloatOps F] in
/-- A device may wait where the level is below that of every message it has yet to send. -/
theorem mayWait (c : Dev nD) (k b : ℕ) (sm : SemLoc sig) (hb : lv ((c : Thread nD τ), sm) () ≤ b) (h : ∀ m, k ≤ sendT m → b < levT m) :
    (levAts L lv : sProp 𝕄) ⊢ MayWait (c : Thread nD τ) sm () (owed c k) :=
  MayOwe.of_cut (L := L) (lev := lv) b (fun p hp => by rw [Finset.mem_singleton.mp hp, L_tc]; exact Finset.mem_singleton_self _)
    (fun g u hg => by obtain ⟨m, -, rfl⟩ := owed_pos hg; exact Finset.mem_singleton_self _)
    (fun p hp => by rw [Finset.mem_singleton.mp hp]; exact hb)
    (fun g u hg => by obtain ⟨m, hm, rfl⟩ := owed_pos hg; rw [lv_r]; exact h m hm)

theorem levT_pos (m : Fin 26) : 1 < levT m := by revert m; decide

/-! ## A device's share of the protocol after `k` transfers and waits -/

def stTok (c : Dev nD) (k : ℕ) : sProp 𝕄 :=
  bigSep (unsent k) (fun m => iprop(dutyTok ER (sCell c (sendIx m)) (sendRd m) 0 ∗ dutyTok ER (rCell (tgt m c) m) 0 0))
def stFly (c : Dev nD) (k : ℕ) : sProp 𝕄 := bigSep (flying k) (fun m => cred (tallyAt (sCell c (sendIx m)) () (amt m)))
def stPos (c : Dev nD) (k : ℕ) : sProp 𝕄 :=
  bigSep Finset.univ (fun j : Fin 14 => iprop(atPos ER (sCell c j) (posR j k) ∅ 0 ∗ reached ER (sCell c j) (posR j k)))
def stRcv (c : Dev nD) (k : ℕ) : sProp 𝕄 :=
  bigSep (unrecv k) (fun m => iprop(atPos ER (rCell c m) 0 ∅ 0 ∗ cred (tallyAt (rCell c m) () (amt m))))
def stDone (c : Dev nD) (k : ℕ) : sProp 𝕄 := bigSep (recvd k) (fun m => atPos ER (rCell c m) 1 ∅ 0)
/-- What it owes; the tokens of messages unsent; the credit of sends unwaited; its places at its send cells; those at
    receive cells whose arrival it has yet to see, with their credit; those of arrivals it has seen. -/
def St (c : Dev nD) (k : ℕ) : sProp 𝕄 :=
  iprop(∃ W, owes (c : Thread nD τ) (owed c k) W ∗ stTok (F := F) c k ∗ stFly (F := F) c k ∗ stPos (F := F) c k ∗ stRcv (F := F) c k ∗ stDone (F := F) c k)

section
variable (c : Dev nD)
theorem tok_send (m : Fin 26) : stTok (F := F) c (sendT m)
    = iprop((dutyTok ER (sCell c (sendIx m)) (sendRd m) 0 ∗ dutyTok ER (rCell (tgt m c) m) 0 0) ∗ stTok (F := F) c (sendT m + 1)) := by
  unfold stTok; rw [(sendFacts m).1]; exact bigSep_insert (sendFacts m).2.1
theorem fly_send (m : Fin 26) : stFly (F := F) c (sendT m + 1) = iprop(cred (tallyAt (sCell c (sendIx m)) () (amt m)) ∗ stFly (F := F) c (sendT m)) := by
  unfold stFly; rw [(sendFacts m).2.2.1]; exact bigSep_insert (sendFacts m).2.2.2.1
theorem fly_ws (m : Fin 26) : stFly (F := F) c (wsT m) = iprop(cred (tallyAt (sCell c (sendIx m)) () (amt m)) ∗ stFly (F := F) c (wsT m + 1)) := by
  unfold stFly; rw [(wsFacts m).2.1]; exact bigSep_insert (wsFacts m).2.2.1
theorem rcv_rv (m : Fin 26) : stRcv (F := F) c (rvT m)
    = iprop((atPos ER (rCell c m) 0 ∅ 0 ∗ cred (tallyAt (rCell c m) () (amt m))) ∗ stRcv (F := F) c (rvT m + 1)) := by
  unfold stRcv; rw [(rvFacts m).2.2.1]; exact bigSep_insert (rvFacts m).2.2.2.1
theorem done_rv (m : Fin 26) : stDone (F := F) c (rvT m + 1) = iprop(atPos ER (rCell c m) 1 ∅ 0 ∗ stDone (F := F) c (rvT m)) := by
  unfold stDone; rw [(rvFacts m).2.2.2.2.1]; exact bigSep_insert (rvFacts m).2.2.2.2.2.1
/-- A device has reached the round of each send cell it is at. -/
theorem pos_reached (m : Fin 26) : stPos (F := F) c (sendT m) ⊢ iprop(stPos (F := F) c (sendT m + 1) ∗ reached ER (sCell c (sendIx m)) (sendRd m)) := by
  obtain ⟨-, -, -, -, -, -, h7, h8⟩ := sendFacts m
  unfold stPos
  simp only [h7]
  refine (bigSep_univ_update (sendIx m) (Ψ := fun j : Fin 14 => iprop(atPos ER (sCell c j) (posR j (sendT m)) ∅ 0 ∗ reached ER (sCell c j) (posR j (sendT m))))
    fun _ _ => rfl).trans ?_
  rw [h8]
  iintro ⟨⟨Ha, #Hr⟩, Hk⟩
  isplitl
  · iapply Hk
    isplitl [Ha]; · iexact Ha
    iexact Hr
  · iexact Hr
theorem pos_ws (m : Fin 26) : stPos (F := F) c (wsT m) ⊢ iprop(atPos ER (sCell c (sendIx m)) (sendRd m) ∅ 0
    ∗ ((atPos ER (sCell c (sendIx m)) (sendRd m + 1) ∅ 0 ∗ reached ER (sCell c (sendIx m)) (sendRd m + 1)) -∗ stPos (F := F) c (wsT m + 1))) := by
  obtain ⟨-, -, -, -, -, h6, h7, h8⟩ := wsFacts m
  unfold stPos
  refine (bigSep_univ_update (sendIx m) (Ψ := fun j : Fin 14 => iprop(atPos ER (sCell c j) (posR j (wsT m + 1)) ∅ 0 ∗ reached ER (sCell c j) (posR j (wsT m + 1))))
    fun j hj => by rw [h6 j hj]).trans ?_
  rw [h7, h8]
  iintro ⟨⟨Ha, -⟩, Hk⟩
  isplitl [Ha]; · iexact Ha
  iexact Hk
end

/-- What every device knows of every cell: its invariant, and that it has reached its first round. -/
def records (A : Dev nD → S1024x512.Idx → F .f32) (B : Dev nD → S512x1024.Idx → F .f32) (K : Dev nD × Fin 41 → ℕ) : sProp 𝕄 :=
  bigSep Finset.univ (fun ci => iprop(cellInv ER (Rd A B) (K ci) (kcell ci) ∗ reached ER (kcell ci) 0))

instance records_persistent (A : Dev nD → S1024x512.Idx → F .f32) (B : Dev nD → S512x1024.Idx → F .f32) (K : Dev nD × Fin 41 → ℕ) :
    BI.Persistent (records A B K) := by unfold records; infer_instance

section
variable (A : Dev nD → S1024x512.Idx → F .f32) (B : Dev nD → S512x1024.Idx → F .f32) (K : Dev nD × Fin 41 → ℕ) (c : Dev nD)
theorem rec_r (m : Fin 26) : records A B K ⊢ iprop(cellInv ER (Rd A B) (K (c, rI m)) (rCell c m) ∗ reached ER (rCell c m) 0) := by
  have h : kcell (c, rI m) = rCell c m := by unfold kcell; rw [csem_r]
  rw [← h]; exact bigSep_elim (Finset.mem_univ (c, rI m))
theorem rec_s (j : Fin 14) : records A B K ⊢ iprop(cellInv ER (Rd A B) (K (c, sI j)) (sCell c j) ∗ reached ER (sCell c j) 0) := by
  have h : kcell (c, sI j) = sCell c j := by unfold kcell; rw [csem_s]
  rw [← h]; exact bigSep_elim (Finset.mem_univ (c, sI j))
theorem rec_b : records A B K ⊢ iprop(cellInv ER (Rd A B) (K (c, 0)) (barCell c) ∗ reached ER (barCell c) 0) := by
  have h : kcell (c, 0) = barCell c := by unfold kcell; rw [csem_b]
  rw [← h]; exact bigSep_elim (Finset.mem_univ (c, 0))
end

end Cert.Allred

end
-- ==== Proof.Memory.lean ====
/-
# Loads and stores

Each load and store of the program, by the rows it goes through: a load of rows reads them, a store of rows
makes the owned rows what was stored.
-/
module

public import proofs.«01_k».proof.Proof.Schedule

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
abbrev 𝒱₀ : Variants := Variants.none

abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
abbrev accM : Memref sig .tc .vmem S1024x1024 .bf16 := Memref.whole cc0_scratch0
abbrev t1M : Memref sig .tc .vmem S2x128x1024 .bf16 := Memref.whole cc0_scratch1
abbrev t2M : Memref sig .tc .vmem S2x256x1024 .bf16 := Memref.whole cc0_scratch2
abbrev zM : Memref sig .tc .vmem S3x64x1024 .bf16 := Memref.whole cc0_scratch3

theorem R_subset {a n b k : ℕ} (h : b ≤ a ∧ a + n ≤ b + k) : R a n ⊆ R b k := fun i hi => by rw [mem_R] at hi ⊢; omega
theorem B3_subset {m h s a n b k : ℕ} (hh : b ≤ a ∧ a + n ≤ b + k) : B3 (m := m) (h := h) s a n ⊆ B3 s b k := fun i hi => by
  rw [mem_B3] at hi ⊢; omega

/-- What the rectangle of rows embeds, block by block. -/
theorem rect3_emb {m h n t a : ℕ} [NeZero m] [NeZero h] {o : Fin 3 → ℕ} (ho : o = ![t, a, 0])
    (inb : ∀ x, o x + (![1, n, 1024] : Fin 3 → ℕ) x ≤ (⟨3, ![m, h, 1024]⟩ : Shape).size x) (j : (⟨3, ![1, n, 1024]⟩ : Shape).Idx) :
    (Rect.unit (s := ⟨3, ![m, h, 1024]⟩) o ![1, n, 1024] inb).emb j
      = ix3 (n0 := m) (n1 := h) (n2 := 1024) ⟨t % m, Nat.mod_lt _ (NeZero.pos m)⟩ ⟨(a + (j 1).val) % h, Nat.mod_lt _ (NeZero.pos h)⟩ (j 2) := by
  subst ho
  have h0 : t + 1 ≤ m := inb 0
  have h1 : a + n ≤ h := inb 1
  have hj0 : (j 0).val < 1 := (j 0).isLt
  have hj1 : (j 1).val < n := (j 1).isLt
  refine funext fun x => Fin.ext ?_
  rw [Rect.emb_apply]
  match x with
  | ⟨0, _⟩ => show t + 1 * (j 0).val = t % m; rw [Nat.mod_eq_of_lt (by omega)]; omega
  | ⟨1, _⟩ => show a + 1 * (j 1).val = (a + (j 1).val) % h; rw [Nat.mod_eq_of_lt (by omega)]; omega
  | ⟨2, _⟩ => show 0 + 1 * (j 2).val = (j 2).val; omega

/-- The program `p` runs on device `c` to `Q`. -/
abbrev Runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Loads
variable (c : Dev nD)

theorem load_acc {α : Type} {Q : α → sProp 𝕄} {n a b k : ℕ} {o : Fin 2 → ℕ} {inb} (ho : o = ![a, 0]) (h : b ≤ a ∧ a + n ≤ b + k)
    {q : PosShare TreeShare} {g : S1024x1024.Idx → F .bf16} {hl : (accM).view.LoadsAt (Rect.unit (s := S1024x1024) o ![n, 1024] inb).toLoadRect}
    {kt : ((Rect.unit (s := S1024x1024) o ![n, 1024] inb).toLoadRect.shape.Idx → Elt F .bf16) → Prog (TpuEff nD τ sig (Elt F) Λ₀ .tc) α} :
    accP c b k q g ⊢ iprop((accP c b k q g -∗ Runs c (kt (rows n a g)) Q)
      -∗ Runs c (.op (.load accM (Rect.unit (s := S1024x1024) o ![n, 1024] inb).toLoadRect hl) kt) Q) := by
  unfold accP
  rw [← show (accM).view.readAt (Elt F) (Rect.unit (s := S1024x1024) o ![n, 1024] inb).toLoadRect g = rows n a g from
    funext fun j => congrArg g (rect2_emb ho inb j)]
  exact wp_load_rect (defs := defs₀ (F := F)) 𝒱₀ (c : Thread nD τ) none Set.univ (Q := Q) (m := accM) (r := Rect.unit (s := S1024x1024) o ![n, 1024] inb) (hl := hl)
    (k := kt) (S := R b k) (q := q) (f := g)
    ((View.set_slice_whole cc0_scratch0 _).trans_subset ((rect2_set ho inb).trans_subset (R_subset h)))

theorem load_out {α : Type} {Q : α → sProp 𝕄} {n a b k : ℕ} {o : Fin 2 → ℕ} {inb} (ho : o = ![a, 0]) (h : b ≤ a ∧ a + n ≤ b + k)
    {g : S1024x1024.Idx → F .f32} {hl : (oM).view.LoadsAt (Rect.unit (s := S1024x1024) o ![n, 1024] inb).toLoadRect}
    {kt : ((Rect.unit (s := S1024x1024) o ![n, 1024] inb).toLoadRect.shape.Idx → Elt F .f32) → Prog (TpuEff nD τ sig (Elt F) Λ₀ .tc) α} :
    outP c b k g ⊢ iprop((outP c b k g -∗ Runs c (kt (rows n a g)) Q)
      -∗ Runs c (.op (.load oM (Rect.unit (s := S1024x1024) o ![n, 1024] inb).toLoadRect hl) kt) Q) := by
  unfold outP
  rw [← show (oM).view.readAt (Elt F) (Rect.unit (s := S1024x1024) o ![n, 1024] inb).toLoadRect g = rows n a g from
    funext fun j => congrArg g (rect2_emb ho inb j)]
  exact wp_load_rect (defs := defs₀ (F := F)) 𝒱₀ (c : Thread nD τ) none Set.univ (Q := Q) (m := oM) (r := Rect.unit (s := S1024x1024) o ![n, 1024] inb) (hl := hl)
    (k := kt) (S := R b k) (q := fullShare) (f := g)
    ((View.set_slice_whole cc0_stg2_0 _).trans_subset ((rect2_set ho inb).trans_subset (R_subset h)))

/-- Rows of the left operand. -/
theorem load_a {α : Type} {Q : α → sProp 𝕄} {n a : ℕ} {o : Fin 2 → ℕ} {inb : ∀ x, o x + (![n, 512] : Fin 2 → ℕ) x ≤ S1024x512.size x} (ho : o = ![a, 0])
    {g : S1024x512.Idx → F .f32} {hl : (aM).view.LoadsAt (Rect.unit (s := S1024x512) o ![n, 512] inb).toLoadRect}
    {kt : ((Rect.unit (s := S1024x512) o ![n, 512] inb).toLoadRect.shape.Idx → Elt F .f32) → Prog (TpuEff nD τ sig (Elt F) Λ₀ .tc) α} :
    (((c : Thread nD τ).loc cc0_stg0_0) ↦{fullShare} g : sProp 𝕄) ⊢ iprop(((((c : Thread nD τ).loc cc0_stg0_0) ↦{fullShare} g) -∗ Runs c (kt (arows n a g)) Q)
      -∗ Runs c (.op (.load aM (Rect.unit (s := S1024x512) o ![n, 512] inb).toLoadRect hl) kt) Q) := by
  rw [← show (aM).view.readAt (Elt F) (Rect.unit (s := S1024x512) o ![n, 512] inb).toLoadRect g = arows n a g from
    funext fun j => congrArg g (by
      subst ho
      have h0 : a + n ≤ 1024 := inb 0
      have hj0 : (j 0).val < n := (j 0).isLt
      refine Shape.idx_ext₂ ?_ ?_
      · show a + 1 * (j 0).val = (a + (j 0).val) % 1024; rw [Nat.mod_eq_of_lt (by omega)]; omega
      · show 0 + 1 * (j 1).val = (j 1).val; omega)]
  exact wp_load_rect (defs := defs₀ (F := F)) 𝒱₀ (c : Thread nD τ) none Set.univ (Q := Q) (m := aM) (r := Rect.unit (s := S1024x512) o ![n, 512] inb) (hl := hl)
    (k := kt) (S := Finset.univ) (q := fullShare) (f := g) (Finset.subset_univ _)

/-- The whole right operand. -/
theorem load_b {α : Type} {Q : α → sProp 𝕄} {inb : ∀ x, (![0, 0] : Fin 2 → ℕ) x + S512x1024.size x ≤ S512x1024.size x}
    {g : S512x1024.Idx → F .f32} {hl : (bM).view.LoadsAt (Rect.unit (s := S512x1024) ![0, 0] S512x1024.size inb).toLoadRect}
    {kt : ((Rect.unit (s := S512x1024) ![0, 0] S512x1024.size inb).toLoadRect.shape.Idx → Elt F .f32) → Prog (TpuEff nD τ sig (Elt F) Λ₀ .tc) α} :
    (((c : Thread nD τ).loc cc0_stg1_0) ↦{fullShare} g : sProp 𝕄) ⊢ iprop(((((c : Thread nD τ).loc cc0_stg1_0) ↦{fullShare} g) -∗ Runs c (kt g) Q)
      -∗ Runs c (.op (.load bM (Rect.unit (s := S512x1024) ![0, 0] S512x1024.size inb).toLoadRect hl) kt) Q) := by
  have e : View.read (Elt F) ((bM).access (Rect.unit (s := S512x1024) ![0, 0] S512x1024.size inb)) g = g := Memref.readAt_unit_zero (Elt F) cc0_stg1_0 (show (![0, 0] : Fin 2 → Nat) = fun _ => 0 from funext fun a => by fin_cases a <;> rfl) inb g
  have h := wp_load_rect (defs := defs₀ (F := F)) 𝒱₀ (c : Thread nD τ) none (Γ := (∅ : PendingWaitsCtx sig Unit)) Set.univ (Q := Q) (m := bM) (r := Rect.unit (s := S512x1024) ![0, 0] S512x1024.size inb) (hl := hl)
    (k := kt) (S := Finset.univ) (q := fullShare) (f := g) (Finset.subset_univ _)
  rw [e] at h
  exact h

theorem load_t1 {α : Type} {Q : α → sProp 𝕄} {t : ℕ} {o : Fin 3 → ℕ} {inb : ∀ x, o x + (![1, 128, 1024] : Fin 3 → ℕ) x ≤ S2x128x1024.size x} (ho : o = ![t, 0, 0])
    {g : S2x128x1024.Idx → F .bf16} {hl : (t1M).view.LoadsAt (Rect.unit (s := S2x128x1024) o ![1, 128, 1024] inb).toLoadRect}
    {kt : ((Rect.unit (s := S2x128x1024) o ![1, 128, 1024] inb).toLoadRect.shape.Idx → Elt F .bf16) → Prog (TpuEff nD τ sig (Elt F) Λ₀ .tc) α} :
    t1P c t g ⊢ iprop((t1P c t g -∗ Runs c (kt (rows3 (m := 2) (h := 128) 128 t 0 g)) Q)
      -∗ Runs c (.op (.load t1M (Rect.unit (s := S2x128x1024) o ![1, 128, 1024] inb).toLoadRect hl) kt) Q) := by
  unfold t1P
  rw [← show (t1M).view.readAt (Elt F) (Rect.unit (s := S2x128x1024) o ![1, 128, 1024] inb).toLoadRect g = rows3 (m := 2) (h := 128) 128 t 0 g from
    funext fun j => congrArg g (rect3_emb (m := 2) (h := 128) ho inb j)]
  exact wp_load_rect (defs := defs₀ (F := F)) 𝒱₀ (c : Thread nD τ) none Set.univ (Q := Q) (m := t1M) (r := Rect.unit (s := S2x128x1024) o ![1, 128, 1024] inb) (hl := hl)
    (k := kt) (S := B3 t 0 128) (q := fullShare) (f := g)
    ((View.set_slice_whole cc0_scratch1 _).trans_subset (rect3_set ho inb).subset)

theorem load_t2 {α : Type} {Q : α → sProp 𝕄} {t a : ℕ} {o : Fin 3 → ℕ} {inb : ∀ x, o x + (![1, 64, 1024] : Fin 3 → ℕ) x ≤ S2x256x1024.size x} (ho : o = ![t, a, 0])
    {g : S2x256x1024.Idx → F .bf16} {hl : (t2M).view.LoadsAt (Rect.unit (s := S2x256x1024) o ![1, 64, 1024] inb).toLoadRect}
    {kt : ((Rect.unit (s := S2x256x1024) o ![1, 64, 1024] inb).toLoadRect.shape.Idx → Elt F .bf16) → Prog (TpuEff nD τ sig (Elt F) Λ₀ .tc) α} :
    t2P c t a 64 g ⊢ iprop((t2P c t a 64 g -∗ Runs c (kt (rows3 (m := 2) (h := 256) 64 t a g)) Q)
      -∗ Runs c (.op (.load t2M (Rect.unit (s := S2x256x1024) o ![1, 64, 1024] inb).toLoadRect hl) kt) Q) := by
  unfold t2P
  rw [← show (t2M).view.readAt (Elt F) (Rect.unit (s := S2x256x1024) o ![1, 64, 1024] inb).toLoadRect g = rows3 (m := 2) (h := 256) 64 t a g from
    funext fun j => congrArg g (rect3_emb (m := 2) (h := 256) ho inb j)]
  exact wp_load_rect (defs := defs₀ (F := F)) 𝒱₀ (c : Thread nD τ) none Set.univ (Q := Q) (m := t2M) (r := Rect.unit (s := S2x256x1024) o ![1, 64, 1024] inb) (hl := hl)
    (k := kt) (S := B3 t a 64) (q := fullShare) (f := g)
    ((View.set_slice_whole cc0_scratch2 _).trans_subset (rect3_set ho inb).subset)

theorem load_z {α : Type} {Q : α → sProp 𝕄} {t : ℕ} {o : Fin 3 → ℕ} {inb : ∀ x, o x + (![1, 64, 1024] : Fin 3 → ℕ) x ≤ S3x64x1024.size x} (ho : o = ![t, 0, 0])
    {g : S3x64x1024.Idx → F .bf16} {hl : (zM).view.LoadsAt (Rect.unit (s := S3x64x1024) o ![1, 64, 1024] inb).toLoadRect}
    {kt : ((Rect.unit (s := S3x64x1024) o ![1, 64, 1024] inb).toLoadRect.shape.Idx → Elt F .bf16) → Prog (TpuEff nD τ sig (Elt F) Λ₀ .tc) α} :
    zP c t g ⊢ iprop((zP c t g -∗ Runs c (kt (rows3 (m := 3) (h := 64) 64 t 0 g)) Q)
      -∗ Runs c (.op (.load zM (Rect.unit (s := S3x64x1024) o ![1, 64, 1024] inb).toLoadRect hl) kt) Q) := by
  unfold zP
  rw [← show (zM).view.readAt (Elt F) (Rect.unit (s := S3x64x1024) o ![1, 64, 1024] inb).toLoadRect g = rows3 (m := 3) (h := 64) 64 t 0 g from
    funext fun j => congrArg g (rect3_emb (m := 3) (h := 64) ho inb j)]
  exact wp_load_rect (defs := defs₀ (F := F)) 𝒱₀ (c : Thread nD τ) none Set.univ (Q := Q) (m := zM) (r := Rect.unit (s := S3x64x1024) o ![1, 64, 1024] inb) (hl := hl)
    (k := kt) (S := B3 t 0 64) (q := fullShare) (f := g)
    ((View.set_slice_whole cc0_scratch3 _).trans_subset (rect3_set ho inb).subset)

/-- A store of rows that are `g`'s makes them `g`'s. -/
theorem store_acc {α : Type} {Q : α → sProp 𝕄} {n a : ℕ} {o : Fin 2 → ℕ} {inb} (ho : o = ![a, 0]) {f g : S1024x1024.Idx → F .bf16}
    {w : (Rect.unit (s := S1024x1024) o ![n, 1024] inb).shape.Idx → Elt F .bf16} (hw : ∀ j : (⟨2, ![n, 1024]⟩ : Shape).Idx, w j = g (rc (a + (j 0).val) (j 1).val))
    {hx : ((accM).access (Rect.unit (s := S1024x1024) o ![n, 1024] inb)).Stores Finset.univ} {hm}
    {kt : PUnit → Prog (TpuEff nD τ sig (Elt F) Λ₀ .tc) α} :
    accP c a n fullShare f ⊢ iprop((accP c a n fullShare g -∗ Runs c (kt ⟨⟩) Q)
      -∗ Runs c (.op (.store accM (Rect.unit (s := S1024x1024) o ![n, 1024] inb) w Finset.univ hx hm) kt) Q) := by
  unfold accP
  have hs : ((accM).access (Rect.unit (s := S1024x1024) o ![n, 1024] inb)).set = R a n := (View.set_slice_whole cc0_scratch0 _).trans (rect2_set ho inb)
  have e : (((c : Thread nD τ).loc cc0_scratch0) ↦[R a n]{fullShare} g : sProp 𝕄)
      = (((c : Thread nD τ).loc cc0_scratch0) ↦[R a n]{fullShare} ((accM).access (Rect.unit (s := S1024x1024) o ![n, 1024] inb)).write (Elt F) f w Finset.univ) :=
    (pointsTo_congr fun i hi => by
    rw [← hs] at hi
    obtain ⟨j, -, rfl⟩ := Finset.mem_map.mp hi
    refine (View.write_emb_of_mem _ _ (Finset.mem_univ j)).trans ((hw j).trans ?_)
    exact congrArg g (rect2_emb ho inb j).symm).symm
  rw [e]
  exact wp_store (defs := defs₀ (F := F)) 𝒱₀ (c : Thread nD τ) none Set.univ (Q := Q) (m := accM) (r := Rect.unit (s := S1024x1024) o ![n, 1024] inb) (w := w)
    (Mk := Finset.univ) (hx := hx) (hm := hm) (k := kt) (S := R a n) (f := f) hs.subset

theorem store_out {α : Type} {Q : α → sProp 𝕄} {n a : ℕ} {o : Fin 2 → ℕ} {inb} (ho : o = ![a, 0]) {f g : S1024x1024.Idx → F .f32}
    {w : (Rect.unit (s := S1024x1024) o ![n, 1024] inb).shape.Idx → Elt F .f32} (hw : ∀ j : (⟨2, ![n, 1024]⟩ : Shape).Idx, w j = g (rc (a + (j 0).val) (j 1).val))
    {hx : ((oM).access (Rect.unit (s := S1024x1024) o ![n, 1024] inb)).Stores Finset.univ} {hm}
    {kt : PUnit → Prog (TpuEff nD τ sig (Elt F) Λ₀ .tc) α} :
    outP c a n f ⊢ iprop((outP c a n g -∗ Runs c (kt ⟨⟩) Q)
      -∗ Runs c (.op (.store oM (Rect.unit (s := S1024x1024) o ![n, 1024] inb) w Finset.univ hx hm) kt) Q) := by
  unfold outP
  have hs : ((oM).access (Rect.unit (s := S1024x1024) o ![n, 1024] inb)).set = R a n := (View.set_slice_whole cc0_stg2_0 _).trans (rect2_set ho inb)
  have e : (((c : Thread nD τ).loc cc0_stg2_0) ↦[R a n]{fullShare} g : sProp 𝕄)
      = (((c : Thread nD τ).loc cc0_stg2_0) ↦[R a n]{fullShare} ((oM).access (Rect.unit (s := S1024x1024) o ![n, 1024] inb)).write (Elt F) f w Finset.univ) :=
    (pointsTo_congr fun i hi => by
    rw [← hs] at hi
    obtain ⟨j, -, rfl⟩ := Finset.mem_map.mp hi
    refine (View.write_emb_of_mem _ _ (Finset.mem_univ j)).trans ((hw j).trans ?_)
    exact congrArg g (rect2_emb ho inb j).symm).symm
  rw [e]
  exact wp_store (defs := defs₀ (F := F)) 𝒱₀ (c : Thread nD τ) none Set.univ (Q := Q) (m := oM) (r := Rect.unit (s := S1024x1024) o ![n, 1024] inb) (w := w)
    (Mk := Finset.univ) (hx := hx) (hm := hm) (k := kt) (S := R a n) (f := f) hs.subset

end Loads

end Cert.Allred

end
-- ==== Proof.Steps.lean ====
/-
# The transfers and the waits

One lemma for every kind of step, at any message: sending into a landing block, sending finished rows, waiting
for a send, waiting for an arrival. Each moves the device's share of the protocol one step on.
-/
module

public import proofs.«01_k».proof.Proof.Memory

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

theorem amt_eq (m : Fin 26) : Idealize.ShloMosaic.RefSig.tileCredit ⟨2, ![mlen m, 1024]⟩ .bf16 = amt m := by
  have h : mlen m = 128 ∨ mlen m = 64 := by revert m; decide
  unfold amt
  rcases h with h | h <;> rw [h]
  · exact (if_pos rfl).symm
  · exact (if_neg (by decide)).symm

section Generic

variable (A : Dev nD → S1024x512.Idx → F .f32) (B : Dev nD → S512x1024.Idx → F .f32) (K : Dev nD × Fin 41 → ℕ) (c : Dev nD)

theorem owed_send (m : Fin 26) {k k' : ℕ} (hk : sendT m = k) (hk' : k + 1 = k') : owed c k = owed c k' + tallyAt (rCell (tgt m c) m) () (amt m) := by
  subst hk hk'
  unfold owed
  rw [(sendFacts m).1, Finset.sum_insert (sendFacts m).2.1, add_comm]

/-- What sending a message takes from the device's share of the protocol, and what it gives back. -/
theorem send_open (m : Fin 26) : iprop(records A B K ∗ St c (sendT m)) ⊢ iprop(∃ W,
    (cellInv ER (Rd A B) (K (c, sI (sendIx m))) (sCell c (sendIx m)) ∗ cellInv ER (Rd A B) (K (tgt m c, rI m)) (rCell (tgt m c) m))
    ∗ (owes (c : Thread nD τ) (owed c (sendT m + 1) + tallyAt (rCell (tgt m c) m) () (amt m)) W
      ∗ dutyTok ER (sCell c (sendIx m)) (sendRd m) 0 ∗ reached ER (sCell c (sendIx m)) (sendRd m)
      ∗ dutyTok ER (rCell (tgt m c) m) 0 0 ∗ reached ER (rCell (tgt m c) m) 0)
    ∗ ((cred (tallyAt (sCell c (sendIx m)) () (amt m)) ∗ owes (c : Thread nD τ) (owed c (sendT m + 1)) W) -∗ St c (sendT m + 1))) := by
  obtain ⟨-, -, -, -, h5, h6, -, -⟩ := sendFacts m
  have e5 : stRcv (F := F) c (sendT m + 1) = stRcv (F := F) c (sendT m) := by unfold stRcv; rw [h5]
  have e6 : stDone (F := F) c (sendT m + 1) = stDone (F := F) c (sendT m) := by unfold stDone; rw [h6]
  unfold St
  rw [e5, e6, tok_send, fly_send, ← owed_send c m rfl rfl]
  iintro ⟨#HR, ⟨%W, HO, ⟨⟨Ht1, Ht2⟩, HU⟩, HF, HP, HV, HD⟩⟩
  ihave #⟨HIs, -⟩ := (rec_s A B K c (sendIx m)) $$ HR
  ihave #⟨HIr, HRr⟩ := (rec_r A B K (tgt m c) m) $$ HR
  ihave ⟨HP, #HRs⟩ := (pos_reached c m) $$ HP
  iexists W
  isplitr; · isplitr <;> iassumption
  isplitl [HO Ht1 Ht2]
  · isplitl [HO]; · iexact HO
    isplitl [Ht1]; · iexact Ht1
    isplitr; · iexact HRs
    isplitl [Ht2]; · iexact Ht2
    iexact HRr
  iintro ⟨HC, HO⟩
  iexists W
  isplitl [HO]; · iexact HO
  isplitl [HU]; · iexact HU
  isplitl [HC HF]
  · isplitl [HC]; · iexact HC
    iexact HF
  isplitl [HP]; · iexact HP
  isplitl [HV]; · iexact HV
  iexact HD

/-- Sending message `m`, the source back when the send is waited for. -/
theorem step_send {α : Type} {Q : α → sProp 𝕄} (m : Fin 26) (k k' : ℕ) (hk : sendT m = k) (hk' : k + 1 = k') {nd : Dev nD} (hnd : nd = tgt m c)
    {n : ℕ} (hn : n = mlen m) {src dst : Memref sig .tc .vmem ⟨2, ![n, 1024]⟩ .bf16} {jS jR : DmaSem sig} (hS : jS = ssem (sendIx m)) (hR : jR = rsem m)
    {hsc : dst.view.ref.isScScratch = false} {hsrc : src.view.WordExact} {hdst : dst.view.WordExact}
    {hsem : DmaTarget.Typed .vmem (.dma jR) (.remote (Dev.tc nd : Thread nD τ) dst (.dma jS) hsc)}
    {kt : PUnit → Prog (TpuEff nD τ sig (Elt F) Λ₀ .tc) α} {q : PosShare TreeShare}
    {fs : Buf (Elt F) (src.view.loc (c : Thread nD τ))} {fd : Buf (Elt F) (dst.view.loc (tgt m c : Thread nD τ))}
    (hpay₁ : (src.view.loc (c : Thread nD τ) ↦[src.view.set]{q} fs : sProp 𝕄) ⊢ sendPay A B (sendIx m) (sendRd m) c)
    (hpay₂ : (dst.view.loc (tgt m c : Thread nD τ) ↦[dst.view.set]{fullShare} (dst.view.write (Elt F) fd (src.view.read (Elt F) fs) Finset.univ) : sProp 𝕄)
      ⊢ recvPay A B m (tgt m c)) :
    iprop(records A B K ∗ St c k ∗ (src.view.loc (c : Thread nD τ) ↦[src.view.set]{q} fs) ∗ (dst.view.loc (tgt m c : Thread nD τ) ↦[dst.view.set]{fullShare} fd))
      ⊢ iprop((St c k' -∗ Runs c (kt ⟨⟩) Q)
        -∗ Runs c (.op (.enqueueDma src (.remote (Dev.tc nd : Thread nD τ) dst (.dma jS) hsc) (.dma jR) hsrc hdst hsem) kt) Q) := by
  subst hnd hn hS hR hk hk'
  iintro ⟨#HR, HS, Hs, Hd⟩ Hk
  ihave ⟨%W, ⟨#HIs, #HIr⟩, HT, HK⟩ := (send_open A B K c m) $$ [HS]
  · isplitr; · iexact HR
    iexact HS
  iapply (Rounds.wp_send_pointsTo 𝒱₀ ER (Rd A B) (c : Thread nD τ) none (sS := .dma (ssem (sendIx m))) (sem := .dma (rsem m)) (κ₁ := K (c, sI (sendIx m))) (κ₂ := K (tgt m c, rI m))
    (r₁ := sendRd m) (r₂ := 0) (d₁ := 0) (d₂ := 0) (fs := fs) (fd := fd)
    (by rw [duties_s A B c _ _ (sendRd_lt m)]; exact Finset.mem_singleton_self _) (by rw [duties_r]; exact Finset.mem_singleton_self _)
    () () (amt m) (amt_eq m) ((amount_s A B c (sendIx m) (sendRd m) 0).trans (samt_eq m)) (amount_r A B (tgt m c) m 0 0) (owed c (sendT m + 1)) rfl (W := W)
    (by rw [payload_s]; exact hpay₁) (by rw [payload_r]; exact hpay₂)) $$ [HT Hs Hd]
  · isplitr; · iexact HIs
    isplitr; · iexact HIr
    isplitl [Hs]; · iexact Hs
    isplitl [Hd]; · iexact Hd
    iexact HT
  iintro H
  iapply Hk
  iapply HK
  iexact H

/-- Sending message `m`, the source handed on with the landing. -/
theorem step_send_landing {α : Type} {Q : α → sProp 𝕄} (m : Fin 26) (k k' : ℕ) (hk : sendT m = k) (hk' : k + 1 = k') {nd : Dev nD} (hnd : nd = tgt m c)
    {n : ℕ} (hn : n = mlen m) {src dst : Memref sig .tc .vmem ⟨2, ![n, 1024]⟩ .bf16} {jS jR : DmaSem sig} (hS : jS = ssem (sendIx m)) (hR : jR = rsem m)
    {hsc : dst.view.ref.isScScratch = false} {hsrc : src.view.WordExact} {hdst : dst.view.WordExact}
    {hsem : DmaTarget.Typed .vmem (.dma jR) (.remote (Dev.tc nd : Thread nD τ) dst (.dma jS) hsc)}
    {kt : PUnit → Prog (TpuEff nD τ sig (Elt F) Λ₀ .tc) α} {q : PosShare TreeShare}
    {fs : Buf (Elt F) (src.view.loc (c : Thread nD τ))} {fd : Buf (Elt F) (dst.view.loc (tgt m c : Thread nD τ))}
    (hpay₁ : (emp : sProp 𝕄) ⊢ sendPay A B (sendIx m) (sendRd m) c)
    (hpay₂ : iprop((dst.view.loc (tgt m c : Thread nD τ) ↦[dst.view.set]{fullShare} (dst.view.write (Elt F) fd (src.view.read (Elt F) fs) Finset.univ))
        ∗ (src.view.loc (c : Thread nD τ) ↦[src.view.set]{q} fs)) ⊢ recvPay A B m (tgt m c)) :
    iprop(records A B K ∗ St c k ∗ (src.view.loc (c : Thread nD τ) ↦[src.view.set]{q} fs) ∗ (dst.view.loc (tgt m c : Thread nD τ) ↦[dst.view.set]{fullShare} fd))
      ⊢ iprop((St c k' -∗ Runs c (kt ⟨⟩) Q)
        -∗ Runs c (.op (.enqueueDma src (.remote (Dev.tc nd : Thread nD τ) dst (.dma jS) hsc) (.dma jR) hsrc hdst hsem) kt) Q) := by
  subst hnd hn hS hR hk hk'
  iintro ⟨#HR, HS, Hs, Hd⟩ Hk
  ihave ⟨%W, ⟨#HIs, #HIr⟩, HT, HK⟩ := (send_open A B K c m) $$ [HS]
  · isplitr; · iexact HR
    iexact HS
  iapply (Rounds.wp_send_landing_pointsTo 𝒱₀ ER (Rd A B) (c : Thread nD τ) none (sS := .dma (ssem (sendIx m))) (sem := .dma (rsem m)) (κ₁ := K (c, sI (sendIx m))) (κ₂ := K (tgt m c, rI m))
    (r₁ := sendRd m) (r₂ := 0) (d₁ := 0) (d₂ := 0) (fs := fs) (fd := fd)
    (by rw [duties_s A B c _ _ (sendRd_lt m)]; exact Finset.mem_singleton_self _) (by rw [duties_r]; exact Finset.mem_singleton_self _)
    () () (amt m) (amt_eq m) ((amount_s A B c (sendIx m) (sendRd m) 0).trans (samt_eq m)) (amount_r A B (tgt m c) m 0 0) (owed c (sendT m + 1)) rfl (W := W)
    (by rw [payload_s]; exact hpay₁) (by rw [payload_r]; exact hpay₂)) $$ [HT Hs Hd]
  · isplitr; · iexact HIs
    isplitr; · iexact HIr
    isplitl [Hs]; · iexact Hs
    isplitl [Hd]; · iexact Hd
    iexact HT
  iintro H
  iapply Hk
  iapply HK
  iexact H

/-- Waiting for the send of message `m`. -/
theorem step_ws {α : Type} {Q : α → sProp 𝕄} (m : Fin 26) (k k' : ℕ) (hk : wsT m = k) (hk' : k + 1 = k') {n : ℕ} (hn : n = mlen m)
    {src dst : Memref sig .tc .vmem ⟨2, ![n, 1024]⟩ .bf16} {jS : DmaSem sig} (hS : jS = ssem (sendIx m)) {h1 : src.view.WordExact} {h2 : dst.view.WordExact}
    {kt : PUnit → Prog (TpuEff nD τ sig (Elt F) Λ₀ .tc) α} :
    records A B K ⊢ iprop(levAts L lv -∗ St c k -∗ ((St c k' ∗ sendPay A B (sendIx m) (sendRd m) c) -∗ Runs c (kt ⟨⟩) Q)
      -∗ Runs c (.op (.waitDma2 jS src dst h1 h2) kt) Q) := by
  subst hn hS hk hk'
  obtain ⟨h1, -, -, h4, h5, -, -, -⟩ := wsFacts m
  have e1 : stTok (F := F) c (wsT m + 1) = stTok (F := F) c (wsT m) := by unfold stTok; rw [h1]
  have e0 : owed c (wsT m + 1) = owed c (wsT m) := by unfold owed; rw [h1]
  have e4 : stRcv (F := F) c (wsT m + 1) = stRcv (F := F) c (wsT m) := by unfold stRcv; rw [h4]
  have e5 : stDone (F := F) c (wsT m + 1) = stDone (F := F) c (wsT m) := by unfold stDone; rw [h5]
  unfold St
  rw [e0, e1, e4, e5, fly_ws]
  iintro #HR #HL ⟨%W, HO, HU, ⟨HC, HF⟩, HP, HV, HD⟩ Hk
  ihave #⟨HIs, -⟩ := (rec_s A B K c (sendIx m)) $$ HR
  ihave ⟨Hat, HP⟩ := (pos_ws c m) $$ HP
  iapply (Rounds.wp_wait_rest_token 𝒱₀ ER (Rd A B) (c : Thread nD τ) none (κ := K (c, sI (sendIx m))) (sm := .dma (ssem (sendIx m))) (k' := amt m)
      (fun X => (wpE_waitDma2_eq 𝒱₀ (c : Thread nD τ) none Set.univ (src := src) (dst := dst) X).trans (congrArg (fun z => waitSpec (c : Thread nD τ) Set.univ (.dma (ssem (sendIx m))) z X) (amt_eq m)))
      (Set.mem_univ _) () (O := owed c (wsT m)) (W := W) (R := sendRd m) (m := 0) (T := ∅)
      (by rw [Nat.zero_add, expect_s A B c _ _ (sendRd_lt m), samt_eq])) $$ [HC HO Hat]
  · isplitr; · iexact HIs
    isplitl [HC]; · iexact HC
    isplitl [HO]; · iexact HO
    isplitr; · iapply (mayWait c (wsT m) 1 (.dma (ssem (sendIx m))) (by rw [lv_s]; exact Nat.zero_le _) fun m' _ => levT_pos m'); iexact HL
    iexact Hat
  rw [rest_s A B c _ _ (sendRd_lt m)]
  iintro ⟨HO, Hat, Hr, Hp⟩
  iapply Hk
  isplitr [Hp]
  · iexists _
    isplitl [HO]; · iexact HO
    isplitl [HU]; · iexact HU
    isplitl [HF]; · iexact HF
    isplitl [HP Hat Hr]
    · iapply HP
      isplitl [Hat] <;> iassumption
    isplitl [HV]; · iexact HV
    iexact HD
  · iexact Hp

/-- Waiting for the arrival of message `m`. -/
theorem step_rv {α : Type} {Q : α → sProp 𝕄} (m : Fin 26) (k k' : ℕ) (hk : rvT m = k) (hk' : k + 1 = k') {n : ℕ} (hn : n = mlen m)
    {src dst : Memref sig .tc .vmem ⟨2, ![n, 1024]⟩ .bf16} {jR : DmaSem sig} (hR : jR = rsem m) {h1 : src.view.WordExact} {h2 : dst.view.WordExact}
    {kt : PUnit → Prog (TpuEff nD τ sig (Elt F) Λ₀ .tc) α} :
    records A B K ⊢ iprop(levAts L lv -∗ St c k -∗ ((St c k' ∗ recvPay A B m c) -∗ Runs c (kt ⟨⟩) Q)
      -∗ Runs c (.op (.waitDma2 jR src dst h1 h2) kt) Q) := by
  subst hn hR hk hk'
  obtain ⟨h1, h2, -, -, -, -, h7, h8⟩ := rvFacts m
  have e1 : stTok (F := F) c (rvT m + 1) = stTok (F := F) c (rvT m) := by unfold stTok; rw [h1]
  have e0 : owed c (rvT m + 1) = owed c (rvT m) := by unfold owed; rw [h1]
  have e2 : stFly (F := F) c (rvT m + 1) = stFly (F := F) c (rvT m) := by unfold stFly; rw [h2]
  have e7 : stPos (F := F) c (rvT m + 1) = stPos (F := F) c (rvT m) := by unfold stPos; simp only [h7]
  unfold St
  rw [e0, e1, e2, e7, rcv_rv, done_rv]
  iintro #HR #HL ⟨%W, HO, HU, HF, HP, ⟨⟨Hat, HC⟩, HV⟩, HD⟩ Hk
  ihave #⟨HIr, -⟩ := (rec_r A B K c m) $$ HR
  iapply (Rounds.wp_wait_rest_token 𝒱₀ ER (Rd A B) (c : Thread nD τ) none (κ := K (c, rI m)) (sm := .dma (rsem m)) (k' := amt m)
      (fun X => (wpE_waitDma2_eq 𝒱₀ (c : Thread nD τ) none Set.univ (src := src) (dst := dst) X).trans (congrArg (fun z => waitSpec (c : Thread nD τ) Set.univ (.dma (rsem m)) z X) (amt_eq m)))
      (Set.mem_univ _) () (O := owed c (rvT m)) (W := W) (R := 0) (m := 0) (T := ∅)
      (by rw [Nat.zero_add, expect_r])) $$ [HC HO Hat]
  · isplitr; · iexact HIr
    isplitl [HC]; · iexact HC
    isplitl [HO]; · iexact HO
    isplitr; · iapply (mayWait c (rvT m) (levT m) (.dma (rsem m)) (by rw [lv_r]) h8); iexact HL
    iexact Hat
  rw [rest_r A B c]
  iintro ⟨HO, Hat, -, Hp⟩
  iapply Hk
  isplitr [Hp]
  · iexists _
    isplitl [HO]; · iexact HO
    isplitl [HU]; · iexact HU
    isplitl [HF]; · iexact HF
    isplitl [HP]; · iexact HP
    isplitl [HV]; · iexact HV
    isplitl [Hat] <;> iassumption
  · iexact Hp

end Generic

end Cert.Allred

end
-- ==== Proof.Sends.lean ====
/-
# Sending rows

What a transfer writes, and the sends at the program's own views: rows of the accumulator into a landing block
of the receiver, and finished rows into the same rows of the receiver's accumulator.
-/
module

public import proofs.«01_k».proof.Proof.Steps

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (A : Dev nD → S1024x512.Idx → F .f32) (B : Dev nD → S512x1024.Idx → F .f32) (K : Dev nD × Fin 41 → ℕ) (c : Dev nD)

theorem sendPay_first (m : Fin 26) (h : m.val < 13) : sendPay A B (sendIx m) (sendRd m) c = iprop(emp) :=
  if_neg ((by decide : ∀ m : Fin 26, m.val < 13 → ¬((sendIx m).val < 13 ∧ (sendRd m = 1 ∨ (sendIx m).val = 10))) m h)
theorem sendPay_last (m : Fin 26) (h : 13 ≤ m.val) :
    sendPay A B (sendIx m) (sendRd m) c = accP c (mrow m c) (mlen m) (share m) (FIN A B) := by
  have e : second (sendIx m) = m := (by decide : ∀ m : Fin 26, 13 ≤ m.val → second (sendIx m) = m) m h
  unfold sendPay
  rw [if_pos ((by decide : ∀ m : Fin 26, 13 ≤ m.val → (sendIx m).val < 13 ∧ (sendRd m = 1 ∨ (sendIx m).val = 10)) m h), e]
theorem recvPay_last (m : Fin 26) (h : 13 ≤ m.val) : recvPay A B m (tgt m c) = accP (tgt m c) (mrow m c) (mlen m) fullShare (FIN A B) := by
  unfold recvPay; rw [if_neg (by omega), show frm m (tgt m c) = c from back_go _ c]
theorem recvPay_first (m : Fin 26) (h : m.val < 13) :
    recvPay A B m (tgt m c) = iprop(slotP A B m (tgt m c) ∗ ∃ f, accP c (mrow m c) (mlen m) fullShare f) := by
  unfold recvPay; rw [if_pos h, show frm m (tgt m c) = c from back_go _ c]

/-- The rows a view of the accumulator denotes. -/
theorem acc_view {n a : ℕ} {o : Fin 2 → ℕ} (ho : o = ![a, 0]) (inb) (d : Dev nD) (q : PosShare TreeShare) (g : S1024x1024.Idx → F .bf16) :
    (((accM).slice (Rect.unit (s := S1024x1024) o ![n, 1024] inb) (fun _ => rfl)).view.loc (d : Thread nD τ)
      ↦[((accM).slice (Rect.unit (s := S1024x1024) o ![n, 1024] inb) (fun _ => rfl)).view.set]{q} g : sProp 𝕄) = accP d a n q g := by
  unfold accP
  rw [show ((accM).slice (Rect.unit (s := S1024x1024) o ![n, 1024] inb) (fun _ => rfl)).view.set = R a n from
    (View.set_slice_whole cc0_scratch0 _).trans (rect2_set ho inb)]

/-- Sending finished rows. -/
theorem step_send_acc {α : Type} {Q : α → sProp 𝕄} (m : Fin 26) (hm : 13 ≤ m.val) (k k' : ℕ) (hk : sendT m = k) (hk' : k + 1 = k') {nd d : Dev nD} (hnd : nd = d) (hd : tgt m c = d)
    {n a : ℕ} (hn : n = mlen m) {o : Fin 2 → ℕ} (ho : o = ![a, 0]) (ha : a = mrow m c) {inb} {jS jR : DmaSem sig} (hS : jS = ssem (sendIx m)) (hR : jR = rsem m)
    {hsc : ((accM).slice (Rect.unit (s := S1024x1024) o ![n, 1024] inb) (fun _ => rfl)).view.ref.isScScratch = false}
    {hsrc : ((accM).slice (Rect.unit (s := S1024x1024) o ![n, 1024] inb) (fun _ => rfl)).view.WordExact}
    {hdst : ((accM).slice (Rect.unit (s := S1024x1024) o ![n, 1024] inb) (fun _ => rfl)).view.WordExact}
    {hsem : DmaTarget.Typed .vmem (.dma jR) (.remote (Dev.tc nd : Thread nD τ) ((accM).slice (Rect.unit (s := S1024x1024) o ![n, 1024] inb) (fun _ => rfl)) (.dma jS) hsc)}
    {kt : PUnit → Prog (TpuEff nD τ sig (Elt F) Λ₀ .tc) α} :
    records A B K ⊢ iprop(St c k -∗ accP c a n (share m) (FIN A B) -∗ (∃ f, accP (F := F) d a n fullShare f) -∗ (St c k' -∗ Runs c (kt ⟨⟩) Q)
        -∗ Runs c (.op (.enqueueDma ((accM).slice (Rect.unit (s := S1024x1024) o ![n, 1024] inb) (fun _ => rfl))
          (.remote (Dev.tc nd : Thread nD τ) ((accM).slice (Rect.unit (s := S1024x1024) o ![n, 1024] inb) (fun _ => rfl)) (.dma jS) hsc) (.dma jR) hsrc hdst hsem) kt) Q) := by
  subst hd
  subst hn ha
  iintro #HR HS Hs ⟨%f, Hd⟩
  iapply (step_send A B K c m k k' hk hk' hnd rfl (src := (accM).slice (Rect.unit (s := S1024x1024) o ![mlen m, 1024] inb) (fun _ => rfl))
    (dst := (accM).slice (Rect.unit (s := S1024x1024) o ![mlen m, 1024] inb) (fun _ => rfl)) hS hR (q := share m) (fs := FIN A B) (fd := f) ?_ ?_) $$ [HS Hs Hd]
  · rw [acc_view ho inb c (share m) (FIN A B), sendPay_last A B c m hm]
  · rw [acc_view ho inb (tgt m c) fullShare, recvPay_last A B c m hm]
    unfold accP
    refine (pointsTo_congr fun i hi => ?_).le
    rw [← rect2_set ho inb, ← View.set_slice_whole cc0_scratch0] at hi
    obtain ⟨j, -, rfl⟩ := Finset.mem_map.mp hi
    exact View.write_emb_of_mem _ _ (Finset.mem_univ j)
  · isplitr; · iexact HR
    isplitl [HS]; · iexact HS
    rw [acc_view ho inb c (share m) (FIN A B), acc_view ho inb (tgt m c) fullShare f]
    isplitl [Hs] <;> iassumption

/-- Sending rows into a landing block. -/
theorem step_send_slot {α : Type} {Q : α → sProp 𝕄} (m : Fin 26) (hm : m.val < 13) (k k' : ℕ) (hk : sendT m = k) (hk' : k + 1 = k') {nd : Dev nD} (hnd : nd = tgt m c)
    {n a : ℕ} (hn : n = mlen m) {o : Fin 2 → ℕ} (ho : o = ![a, 0]) (ha : a = mrow m c) {inb} {dst : Memref sig .tc .vmem ⟨2, ![n, 1024]⟩ .bf16}
    {jS jR : DmaSem sig} (hS : jS = ssem (sendIx m)) (hR : jR = rsem m) {hsc : dst.view.ref.isScScratch = false}
    {hsrc : ((accM).slice (Rect.unit (s := S1024x1024) o ![n, 1024] inb) (fun _ => rfl)).view.WordExact} {hdst : dst.view.WordExact}
    {hsem : DmaTarget.Typed .vmem (.dma jR) (.remote (Dev.tc nd : Thread nD τ) dst (.dma jS) hsc)}
    {kt : PUnit → Prog (TpuEff nD τ sig (Elt F) Λ₀ .tc) α} (g : S1024x1024.Idx → F .bf16) {fd : Buf (Elt F) (dst.view.loc (tgt m c : Thread nD τ))}
    (hslot : (dst.view.loc (tgt m c : Thread nD τ) ↦[dst.view.set]{fullShare} (dst.view.write (Elt F) fd (rows n a g) Finset.univ) : sProp 𝕄) ⊢ slotP A B m (tgt m c)) :
    iprop(records A B K ∗ St c k ∗ accP c a n fullShare g ∗ (dst.view.loc (tgt m c : Thread nD τ) ↦[dst.view.set]{fullShare} fd))
      ⊢ iprop((St c k' -∗ Runs c (kt ⟨⟩) Q)
        -∗ Runs c (.op (.enqueueDma ((accM).slice (Rect.unit (s := S1024x1024) o ![n, 1024] inb) (fun _ => rfl))
          (.remote (Dev.tc nd : Thread nD τ) dst (.dma jS) hsc) (.dma jR) hsrc hdst hsem) kt) Q) := by
  subst hn ha
  rw [← acc_view ho inb c fullShare g]
  refine step_send_landing A B K c m k k' hk hk' hnd rfl (src := (accM).slice (Rect.unit (s := S1024x1024) o ![mlen m, 1024] inb) (fun _ => rfl))
    (dst := dst) hS hR (q := fullShare) (fs := g) (fd := fd) ?_ ?_
  · rw [sendPay_first A B c m hm]
  · rw [acc_view ho inb c fullShare g, recvPay_first A B c m hm,
      show ((accM).slice (Rect.unit (s := S1024x1024) o ![mlen m, 1024] inb) (fun _ => rfl)).view.read (Elt F) g = rows (mlen m) (mrow m c) g from
        funext fun j => congrArg g (rect2_emb ho inb j)]
    iintro ⟨Hd, Hs⟩
    isplitl [Hd]
    · iapply hslot; iexact Hd
    · iexists g; iexact Hs

end

/-! ## The landing blocks as the program's views -/

/-- Where a landing block's row is. -/
theorem slot_emb {m h n t a : ℕ} [NeZero m] [NeZero h] {o : Fin 3 → ℕ} (ho : o = ![t, a, 0])
    (inb : ∀ x, o x + (![1, n, 1024] : Fin 3 → ℕ) x ≤ (⟨3, ![m, h, 1024]⟩ : Shape).size x) (hq : (⟨2, ![n, 1024]⟩ : Shape).numel = (⟨3, ![1, n, 1024]⟩ : Shape).numel)
    (j : (⟨2, ![n, 1024]⟩ : Shape).Idx) :
    (Rect.unit (s := ⟨3, ![m, h, 1024]⟩) o ![1, n, 1024] inb).emb (Shape.reshapeEquiv hq j)
      = ix3 (n0 := m) (n1 := h) (n2 := 1024) ⟨t % m, Nat.mod_lt _ (NeZero.pos m)⟩ ⟨(a + (j 0).val) % h, Nat.mod_lt _ (NeZero.pos h)⟩ (j 1) := by
  have e : Shape.reshapeEquiv hq j = ix3 (⟨0, Nat.one_pos⟩ : Fin 1) (j 0) (j 1) := (congrArg _ (eq_ix2 j)).trans (reshapeEquiv_ix2_1ab hq (j 0) (j 1))
  exact (congrArg _ e).trans (rect3_emb ho inb _)

section
variable (d : Dev nD)

theorem t1_view {t : ℕ} {o : Fin 3 → ℕ} (ho : o = ![t, 0, 0]) (inb) (hq) (f : S2x128x1024.Idx → F .bf16) :
    ((((t1M).slice (Rect.unit (s := S2x128x1024) o ![1, 128, 1024] inb) (fun _ => rfl)).squeeze S128x1024 hq).view.loc (d : Thread nD τ)
      ↦[(((t1M).slice (Rect.unit (s := S2x128x1024) o ![1, 128, 1024] inb) (fun _ => rfl)).squeeze S128x1024 hq).view.set]{fullShare} f : sProp 𝕄) = t1P d t f := by
  unfold t1P
  rw [show (((t1M).slice (Rect.unit (s := S2x128x1024) o ![1, 128, 1024] inb) (fun _ => rfl)).squeeze S128x1024 hq).view.set = B3 t 0 128 from
    (View.set_reshape _ _).trans ((View.set_slice_whole cc0_scratch1 _).trans (rect3_set ho inb))]
theorem t2_view {t a : ℕ} {o : Fin 3 → ℕ} (ho : o = ![t, a, 0]) (inb) (hq) (f : S2x256x1024.Idx → F .bf16) :
    ((((t2M).slice (Rect.unit (s := S2x256x1024) o ![1, 64, 1024] inb) (fun _ => rfl)).squeeze S64x1024 hq).view.loc (d : Thread nD τ)
      ↦[(((t2M).slice (Rect.unit (s := S2x256x1024) o ![1, 64, 1024] inb) (fun _ => rfl)).squeeze S64x1024 hq).view.set]{fullShare} f : sProp 𝕄) = t2P d t a 64 f := by
  unfold t2P
  rw [show (((t2M).slice (Rect.unit (s := S2x256x1024) o ![1, 64, 1024] inb) (fun _ => rfl)).squeeze S64x1024 hq).view.set = B3 t a 64 from
    (View.set_reshape _ _).trans ((View.set_slice_whole cc0_scratch2 _).trans (rect3_set ho inb))]
theorem z_view {t : ℕ} {o : Fin 3 → ℕ} (ho : o = ![t, 0, 0]) (inb) (hq) (f : S3x64x1024.Idx → F .bf16) :
    ((((zM).slice (Rect.unit (s := S3x64x1024) o ![1, 64, 1024] inb) (fun _ => rfl)).squeeze S64x1024 hq).view.loc (d : Thread nD τ)
      ↦[(((zM).slice (Rect.unit (s := S3x64x1024) o ![1, 64, 1024] inb) (fun _ => rfl)).squeeze S64x1024 hq).view.set]{fullShare} f : sProp 𝕄) = zP d t f := by
  unfold zP
  rw [show (((zM).slice (Rect.unit (s := S3x64x1024) o ![1, 64, 1024] inb) (fun _ => rfl)).squeeze S64x1024 hq).view.set = B3 t 0 64 from
    (View.set_reshape _ _).trans ((View.set_slice_whole cc0_scratch3 _).trans (rect3_set ho inb))]

/-- A landing block written with what `g` has there holds `g`. -/
theorem t1_write {t : ℕ} {o : Fin 3 → ℕ} (ho : o = ![t, 0, 0]) (inb) (hq) (f g : S2x128x1024.Idx → F .bf16) (w : S128x1024.Idx → F .bf16)
    (hw : ∀ j : S128x1024.Idx, w j = g (ix3 (n0 := 2) (n1 := 128) (n2 := 1024) ⟨t % 2, Nat.mod_lt _ (by decide)⟩ ⟨(0 + (j 0).val) % 128, Nat.mod_lt _ (by decide)⟩ (j 1))) :
    t1P d t ((((t1M).slice (Rect.unit (s := S2x128x1024) o ![1, 128, 1024] inb) (fun _ => rfl)).squeeze S128x1024 hq).view.write (Elt F) f w Finset.univ) = t1P d t g := by
  unfold t1P
  refine pointsTo_congr fun i hi => ?_
  rw [← rect3_set (m := 2) (h := 128) ho inb, ← View.set_slice_whole cc0_scratch1, ← View.set_reshape _ hq.numel_eq] at hi
  obtain ⟨j, -, rfl⟩ := Finset.mem_map.mp hi
  refine (View.write_emb_of_mem _ _ (Finset.mem_univ j)).trans ((hw j).trans (congrArg g ?_))
  exact (slot_emb (m := 2) (h := 128) ho inb hq.numel_eq j).symm
theorem t2_write {t a : ℕ} {o : Fin 3 → ℕ} (ho : o = ![t, a, 0]) (inb) (hq) (f g : S2x256x1024.Idx → F .bf16) (w : S64x1024.Idx → F .bf16)
    (hw : ∀ j : S64x1024.Idx, w j = g (ix3 (n0 := 2) (n1 := 256) (n2 := 1024) ⟨t % 2, Nat.mod_lt _ (by decide)⟩ ⟨(a + (j 0).val) % 256, Nat.mod_lt _ (by decide)⟩ (j 1))) :
    t2P d t a 64 ((((t2M).slice (Rect.unit (s := S2x256x1024) o ![1, 64, 1024] inb) (fun _ => rfl)).squeeze S64x1024 hq).view.write (Elt F) f w Finset.univ) = t2P d t a 64 g := by
  unfold t2P
  refine pointsTo_congr fun i hi => ?_
  rw [← rect3_set (m := 2) (h := 256) ho inb, ← View.set_slice_whole cc0_scratch2, ← View.set_reshape _ hq.numel_eq] at hi
  obtain ⟨j, -, rfl⟩ := Finset.mem_map.mp hi
  refine (View.write_emb_of_mem _ _ (Finset.mem_univ j)).trans ((hw j).trans (congrArg g ?_))
  exact (slot_emb (m := 2) (h := 256) ho inb hq.numel_eq j).symm
theorem z_write {t : ℕ} {o : Fin 3 → ℕ} (ho : o = ![t, 0, 0]) (inb) (hq) (f g : S3x64x1024.Idx → F .bf16) (w : S64x1024.Idx → F .bf16)
    (hw : ∀ j : S64x1024.Idx, w j = g (ix3 (n0 := 3) (n1 := 64) (n2 := 1024) ⟨t % 3, Nat.mod_lt _ (by decide)⟩ ⟨(0 + (j 0).val) % 64, Nat.mod_lt _ (by decide)⟩ (j 1))) :
    zP d t ((((zM).slice (Rect.unit (s := S3x64x1024) o ![1, 64, 1024] inb) (fun _ => rfl)).squeeze S64x1024 hq).view.write (Elt F) f w Finset.univ) = zP d t g := by
  unfold zP
  refine pointsTo_congr fun i hi => ?_
  rw [← rect3_set (m := 3) (h := 64) ho inb, ← View.set_slice_whole cc0_scratch3, ← View.set_reshape _ hq.numel_eq] at hi
  obtain ⟨j, -, rfl⟩ := Finset.mem_map.mp hi
  refine (View.write_emb_of_mem _ _ (Finset.mem_univ j)).trans ((hw j).trans (congrArg g ?_))
  exact (slot_emb (m := 3) (h := 64) ho inb hq.numel_eq j).symm

end

/-! ## Sending into the landing blocks -/

theorem t1_facts : ∀ (m : Fin 26) (c : Dev nD), m.val < 2 → (m.val = 0 → dn (tgt m c) = c ∧ mrow m c = qr (tgt m c) 1 + 128)
    ∧ (m.val = 1 → up (tgt m c) = c ∧ mrow m c = qr (tgt m c) 3) := by decide +kernel
theorem t2_facts : ∀ (m : Fin 26) (c : Dev nD), 2 ≤ m.val → m.val < 10 → (if m.val < 6 then dn (tgt m c) else up (tgt m c)) = c
    ∧ mrow m c = qr (tgt m c) 0 + pr c (mp m) ∧ pr (tgt m c) (mp m) = pr c (mp m) := by decide +kernel
theorem z_facts : ∀ (m : Fin 26) (c : Dev nD), 10 ≤ m.val → m.val < 13 →
    (zr (2 - ⟨(m.val - 10) % 3 % 3, Nat.mod_lt _ (by decide)⟩) (tgt m c)) = c ∧ mrow m c = qr (tgt m c) 0 + pr (tgt m c) 0 := by decide +kernel

section
variable (A : Dev nD → S1024x512.Idx → F .f32) (B : Dev nD → S512x1024.Idx → F .f32) (K : Dev nD × Fin 41 → ℕ) (c : Dev nD)

theorem step_send_t1 {α : Type} {Q : α → sProp 𝕄} (m : Fin 26) (hm : m.val < 2) (k k' : ℕ) (hk : sendT m = k) (hk' : k + 1 = k') {nd d : Dev nD} (hnd : nd = d) (hd : tgt m c = d)
    {a t : ℕ} {o : Fin 2 → ℕ} (ho : o = ![a, 0]) (ha : a = mrow m c) {o3 : Fin 3 → ℕ} (ho3 : o3 = ![t, 0, 0]) (ht : t = m.val) {inb inb3 hq}
    {jS jR : DmaSem sig} (hS : jS = ssem (sendIx m)) (hR : jR = rsem m)
    {hsc : (((t1M).slice (Rect.unit (s := S2x128x1024) o3 ![1, 128, 1024] inb3) (fun _ => rfl)).squeeze S128x1024 hq).view.ref.isScScratch = false}
    {hsrc : ((accM).slice (Rect.unit (s := S1024x1024) o ![128, 1024] inb) (fun _ => rfl)).view.WordExact}
    {hdst : (((t1M).slice (Rect.unit (s := S2x128x1024) o3 ![1, 128, 1024] inb3) (fun _ => rfl)).squeeze S128x1024 hq).view.WordExact}
    {hsem : DmaTarget.Typed .vmem (.dma jR) (.remote (Dev.tc nd : Thread nD τ)
      (((t1M).slice (Rect.unit (s := S2x128x1024) o3 ![1, 128, 1024] inb3) (fun _ => rfl)).squeeze S128x1024 hq) (.dma jS) hsc)}
    {kt : PUnit → Prog (TpuEff nD τ sig (Elt F) Λ₀ .tc) α} :
    records A B K ⊢ iprop(St c k -∗ accP c a 128 fullShare (PP A B c) -∗ (∃ f, t1P (F := F) d t f) -∗ (St c k' -∗ Runs c (kt ⟨⟩) Q)
        -∗ Runs c (.op (.enqueueDma ((accM).slice (Rect.unit (s := S1024x1024) o ![128, 1024] inb) (fun _ => rfl))
          (.remote (Dev.tc nd : Thread nD τ) (((t1M).slice (Rect.unit (s := S2x128x1024) o3 ![1, 128, 1024] inb3) (fun _ => rfl)).squeeze S128x1024 hq) (.dma jS) hsc)
          (.dma jR) hsrc hdst hsem) kt) Q) := by
  subst hd
  obtain ⟨f0, f1⟩ := t1_facts m c hm
  iintro #HR HS Hs ⟨%f, Hd⟩
  iapply (step_send_slot A B K c m (by omega) k k' hk hk' hnd ((by decide : ∀ m : Fin 26, m.val < 2 → 128 = mlen m) m hm) ho ha
    (dst := ((t1M).slice (Rect.unit (s := S2x128x1024) o3 ![1, 128, 1024] inb3) (fun _ => rfl)).squeeze S128x1024 hq) hS hR (PP A B c) (fd := f) ?_) $$ [HS Hs Hd]
  · rw [t1_view (tgt m c) ho3, t1_write (tgt m c) ho3 inb3 hq f (t1C A B (tgt m c))]
    · rcases (by omega : m.val = 0 ∨ m.val = 1) with h | h
      · unfold slotP; rw [if_pos h, ht, h]
      · unfold slotP; rw [if_neg (by omega), if_pos h, ht, h]
    · intro j
      have hj : (j 0).val < 128 := (j 0).isLt
      have e : (0 + (j 0).val) % 128 = (j 0).val := by omega
      subst ha ht
      unfold t1C
      rcases (by omega : m.val = 0 ∨ m.val = 1) with h | h
      · rw [if_pos (show m.val % 2 = 0 by omega), (f0 h).1]
        show PP A B c _ = PP A B c (rc (qr (tgt m c) 1 + 128 + (0 + (j 0).val) % 128) (j 1).val)
        rw [e, ← (f0 h).2]
      · rw [if_neg (show ¬ m.val % 2 = 0 by omega), (f1 h).1]
        show PP A B c _ = PP A B c (rc (qr (tgt m c) 3 + (0 + (j 0).val) % 128) (j 1).val)
        rw [e, ← (f1 h).2]
  · isplitr; · iexact HR
    isplitl [HS]; · iexact HS
    isplitl [Hs]; · iexact Hs
    rw [t1_view (tgt m c) ho3]
    iexact Hd

theorem step_send_t2 {α : Type} {Q : α → sProp 𝕄} (m : Fin 26) (h2 : 2 ≤ m.val) (hm : m.val < 10) (k k' : ℕ) (hk : sendT m = k) (hk' : k + 1 = k') {nd d : Dev nD} (hnd : nd = d) (hd : tgt m c = d)
    {a t b : ℕ} {o : Fin 2 → ℕ} (ho : o = ![a, 0]) (ha : a = mrow m c) {o3 : Fin 3 → ℕ} (ho3 : o3 = ![t, b, 0]) (ht : t = if m.val < 6 then 0 else 1) (hb : b = pr c (mp m)) {inb inb3 hq}
    {jS jR : DmaSem sig} (hS : jS = ssem (sendIx m)) (hR : jR = rsem m)
    {hsc : (((t2M).slice (Rect.unit (s := S2x256x1024) o3 ![1, 64, 1024] inb3) (fun _ => rfl)).squeeze S64x1024 hq).view.ref.isScScratch = false}
    {hsrc : ((accM).slice (Rect.unit (s := S1024x1024) o ![64, 1024] inb) (fun _ => rfl)).view.WordExact}
    {hdst : (((t2M).slice (Rect.unit (s := S2x256x1024) o3 ![1, 64, 1024] inb3) (fun _ => rfl)).squeeze S64x1024 hq).view.WordExact}
    {hsem : DmaTarget.Typed .vmem (.dma jR) (.remote (Dev.tc nd : Thread nD τ)
      (((t2M).slice (Rect.unit (s := S2x256x1024) o3 ![1, 64, 1024] inb3) (fun _ => rfl)).squeeze S64x1024 hq) (.dma jS) hsc)}
    {kt : PUnit → Prog (TpuEff nD τ sig (Elt F) Λ₀ .tc) α} :
    records A B K ⊢ iprop(St c k -∗ accP c a 64 fullShare (GG A B c) -∗ (∃ f, t2P (F := F) d t b 64 f) -∗ (St c k' -∗ Runs c (kt ⟨⟩) Q)
        -∗ Runs c (.op (.enqueueDma ((accM).slice (Rect.unit (s := S1024x1024) o ![64, 1024] inb) (fun _ => rfl))
          (.remote (Dev.tc nd : Thread nD τ) (((t2M).slice (Rect.unit (s := S2x256x1024) o3 ![1, 64, 1024] inb3) (fun _ => rfl)).squeeze S64x1024 hq) (.dma jS) hsc)
          (.dma jR) hsrc hdst hsem) kt) Q) := by
  subst hd
  obtain ⟨f0, f1, f2⟩ := t2_facts m c h2 hm
  iintro #HR HS Hs ⟨%f, Hd⟩
  iapply (step_send_slot A B K c m (by omega) k k' hk hk' hnd ((by decide : ∀ m : Fin 26, 2 ≤ m.val → m.val < 13 → 64 = mlen m) m h2 (by omega)) ho ha
    (dst := ((t2M).slice (Rect.unit (s := S2x256x1024) o3 ![1, 64, 1024] inb3) (fun _ => rfl)).squeeze S64x1024 hq) hS hR (GG A B c) (fd := f) ?_) $$ [HS Hs Hd]
  · rw [t2_view (tgt m c) ho3, t2_write (tgt m c) ho3 inb3 hq f (t2C A B (tgt m c))]
    · unfold slotP
      rw [if_neg (by omega), if_neg (by omega), f2, hb, ht]
      by_cases h : m.val < 6
      · rw [if_pos h, if_pos h]
      · rw [if_neg h, if_neg h, if_pos hm]
    · intro j
      have hj : (j 0).val < 64 := (j 0).isLt
      have e : (b + (j 0).val) % 256 = b + (j 0).val := by subst hb; dsimp only [pr]; omega
      unfold t2C
      show GG A B c (rc (a + (j 0).val) (j 1).val) = GG A B (if t % 2 = 0 then _ else _) (rc (qr (tgt m c) 0 + (b + (j 0).val) % 256) (j 1).val)
      rw [e, ha, f1, ← hb, Nat.add_assoc]
      refine congrArg (fun d => GG A B d _) (f0.symm.trans ?_)
      rw [ht]
      by_cases h : m.val < 6
      · rw [if_pos h, if_pos h, if_pos rfl]
      · rw [if_neg h, if_neg h, if_neg (by decide)]
  · isplitr; · iexact HR
    isplitl [HS]; · iexact HS
    isplitl [Hs]; · iexact Hs
    rw [t2_view (tgt m c) ho3]
    iexact Hd

theorem step_send_z {α : Type} {Q : α → sProp 𝕄} (m : Fin 26) (h2 : 10 ≤ m.val) (hm : m.val < 13) (k k' : ℕ) (hk : sendT m = k) (hk' : k + 1 = k') {nd d : Dev nD} (hnd : nd = d) (hd : tgt m c = d)
    {a t : ℕ} {o : Fin 2 → ℕ} (ho : o = ![a, 0]) (ha : a = mrow m c) {o3 : Fin 3 → ℕ} (ho3 : o3 = ![t, 0, 0]) (ht : t = m.val - 10) {inb inb3 hq}
    {jS jR : DmaSem sig} (hS : jS = ssem (sendIx m)) (hR : jR = rsem m)
    {hsc : (((zM).slice (Rect.unit (s := S3x64x1024) o3 ![1, 64, 1024] inb3) (fun _ => rfl)).squeeze S64x1024 hq).view.ref.isScScratch = false}
    {hsrc : ((accM).slice (Rect.unit (s := S1024x1024) o ![64, 1024] inb) (fun _ => rfl)).view.WordExact}
    {hdst : (((zM).slice (Rect.unit (s := S3x64x1024) o3 ![1, 64, 1024] inb3) (fun _ => rfl)).squeeze S64x1024 hq).view.WordExact}
    {hsem : DmaTarget.Typed .vmem (.dma jR) (.remote (Dev.tc nd : Thread nD τ)
      (((zM).slice (Rect.unit (s := S3x64x1024) o3 ![1, 64, 1024] inb3) (fun _ => rfl)).squeeze S64x1024 hq) (.dma jS) hsc)}
    {kt : PUnit → Prog (TpuEff nD τ sig (Elt F) Λ₀ .tc) α} :
    records A B K ⊢ iprop(St c k -∗ accP c a 64 fullShare (SS A B c) -∗ (∃ f, zP (F := F) d t f) -∗ (St c k' -∗ Runs c (kt ⟨⟩) Q)
        -∗ Runs c (.op (.enqueueDma ((accM).slice (Rect.unit (s := S1024x1024) o ![64, 1024] inb) (fun _ => rfl))
          (.remote (Dev.tc nd : Thread nD τ) (((zM).slice (Rect.unit (s := S3x64x1024) o3 ![1, 64, 1024] inb3) (fun _ => rfl)).squeeze S64x1024 hq) (.dma jS) hsc)
          (.dma jR) hsrc hdst hsem) kt) Q) := by
  subst hd
  obtain ⟨f0, f1⟩ := z_facts m c h2 hm
  iintro #HR HS Hs ⟨%f, Hd⟩
  iapply (step_send_slot A B K c m (by omega) k k' hk hk' hnd ((by decide : ∀ m : Fin 26, 2 ≤ m.val → m.val < 13 → 64 = mlen m) m (by omega) (by omega)) ho ha
    (dst := ((zM).slice (Rect.unit (s := S3x64x1024) o3 ![1, 64, 1024] inb3) (fun _ => rfl)).squeeze S64x1024 hq) hS hR (SS A B c) (fd := f) ?_) $$ [HS Hs Hd]
  · rw [z_view (tgt m c) ho3, z_write (tgt m c) ho3 inb3 hq f (zC A B (tgt m c))]
    · unfold slotP
      rw [if_neg (by omega), if_neg (by omega), if_neg (by omega), if_neg (by omega), ht]
    · intro j
      have hj : (j 0).val < 64 := (j 0).isLt
      have e : (0 + (j 0).val) % 64 = (j 0).val := by omega
      subst ha ht
      unfold zC
      exact congrArg₂ (fun d x => SS A B d (rc x (j 1).val)) f0.symm (by rw [f1]; exact congrArg _ e.symm)
  · isplitr; · iexact HR
    isplitl [HS]; · iexact HS
    isplitl [Hs]; · iexact Hs
    rw [z_view (tgt m c) ho3]
    iexact Hd

end

end Cert.Allred

end
-- ==== Proof.Meet.lean ====
/-
# The meeting at the barrier

Each device signals its five neighbours, handing each the landing blocks that neighbour will fill, and waits
for its own five signals.
-/
module

public import proofs.«01_k».proof.Proof.Steps

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The direction, seen from the device signalled, of the `n`-th signal's sender. -/
def sigD : Fin 5 → Fin 5 := ![0, 1, 4, 3, 2]
/-- The signals from the `n`-th on. -/
def later (n : ℕ) : Finset (Fin 5) := Finset.univ.filter fun i => n ≤ i.val
theorem later_cons (i : Fin 5) : later i.val = insert i (later (i.val + 1)) ∧ i ∉ later (i.val + 1) := by revert i; decide
theorem later_five : later 5 = ∅ := by decide
theorem later_zero : later 0 = Finset.univ := by decide

/-- What a device owes before the `n`-th signal. -/
def owed₀ (c : Dev nD) (n : ℕ) : CellTallies nD τ sig Unit := owed c 0 + ∑ i ∈ later n, tallyAt (barCell (back (sigD i) c)) () 1
theorem owed₀_cons (c : Dev nD) (i : Fin 5) : owed₀ c i.val = owed₀ c (i.val + 1) + tallyAt (barCell (back (sigD i) c)) () 1 := by
  unfold owed₀; rw [(later_cons i).1, Finset.sum_insert (later_cons i).2, add_comm (tallyAt _ _ _), add_assoc]
theorem owed₀_five (c : Dev nD) : owed₀ c 5 = owed c 0 := by unfold owed₀; rw [later_five, Finset.sum_empty, add_zero]

/-- A device's share of the protocol before the `n`-th signal. -/
def St₀ (c : Dev nD) (n : ℕ) : sProp 𝕄 :=
  iprop(∃ W, owes (c : Thread nD τ) (owed₀ c n) W
    ∗ (stTok (F := F) c 0 ∗ stFly (F := F) c 0 ∗ stPos (F := F) c 0 ∗ stRcv (F := F) c 0 ∗ stDone (F := F) c 0)
    ∗ (atPos ER (barCell c) 0 ∅ 0 ∗ cred (tallyAt (barCell c) () 5))
    ∗ bigSep (later n) (fun i => dutyTok ER (barCell (back (sigD i) c)) 0 (sigD i)))

section
variable (A : Dev nD → S1024x512.Idx → F .f32) (B : Dev nD → S512x1024.Idx → F .f32) (K : Dev nD × Fin 41 → ℕ) (c : Dev nD)

theorem step_signal {α : Type} {Q : α → sProp 𝕄} (i : Fin 5) (n n' : ℕ) (hn : i.val = n) (hn' : n + 1 = n') {nd : Dev nD} (hnd : nd = back (sigD i) c)
    {z : ℤ} (hz : z = 1) {d : Fin 5} (hd : sigD i = d) {kt : PUnit → Prog (TpuEff nD τ sig (Elt F) Λ₀ .tc) α} :
    records A B K ⊢ iprop(St₀ c n -∗ landing (F := F) d c -∗ (St₀ c n' -∗ Runs c (kt ⟨⟩) Q)
      -∗ Runs c (.op (.semSignal (Dev.tc nd : Thread nD τ) barS z) kt) Q) := by
  subst hn hn' hnd hz hd
  unfold St₀
  rw [owed₀_cons, (later_cons i).1, show bigSep (insert i (later (i.val + 1))) (fun i => (dutyTok ER (barCell (back (sigD i) c)) 0 (sigD i) : sProp 𝕄))
    = iprop(dutyTok ER (barCell (back (sigD i) c)) 0 (sigD i) ∗ bigSep (later (i.val + 1)) (fun i => dutyTok ER (barCell (back (sigD i) c)) 0 (sigD i)))
    from bigSep_insert (later_cons i).2]
  iintro #HR ⟨%W, HO, HS, HB, HT, HTs⟩ Hl Hk
  ihave #⟨HI, Hr⟩ := (rec_b A B K (back (sigD i) c)) $$ HR
  iapply (Rounds.wp_signal 𝒱₀ ER (Rd A B) (c : Thread nD τ) none (dst := (back (sigD i) c : Thread nD τ)) (κ := K (back (sigD i) c, 0)) (r := 0) (d := sigD i) (k' := 1)
    (by rw [duties_bar]; exact Finset.mem_univ _) (amount_bar A B (back (sigD i) c) 0 (sigD i)) () (owed₀ c (i.val + 1)) rfl) $$ [HO HT Hl]
  · isplitr; · iexact HI
    isplitl [HO]; · iexact HO
    isplitl [HT]; · iexact HT
    isplitl [Hl]
    · rw [payload_bar, go_back]; iexact Hl
    · iexact Hr
  iintro HO
  iapply Hk
  iexists W
  isplitl [HO]; · iexact HO
  isplitl [HS]; · iexact HS
  isplitl [HB]; · iexact HB
  iexact HTs

theorem step_meet {α : Type} {Q : α → sProp 𝕄} {z : ℤ} (hz : z = 5) {kt : PUnit → Prog (TpuEff nD τ sig (Elt F) Λ₀ .tc) α} :
    records A B K ⊢ iprop(levAts L lv -∗ St₀ c 5
      -∗ ((St c 0 ∗ atPos ER (barCell c) 1 ∅ 0
        ∗ (landing 0 (up c) ∗ landing 1 (dn c) ∗ landing 2 (zr 0 c) ∗ landing 3 (zr 1 c) ∗ landing 4 (zr 2 c))) -∗ Runs c (kt ⟨⟩) Q)
      -∗ Runs c (.op (.semWait barS z) kt) Q) := by
  subst hz
  unfold St₀ St
  rw [owed₀_five]
  iintro #HR #HL ⟨%W, HO, HS, ⟨Hat, HC⟩, -⟩ Hk
  ihave #⟨HI, -⟩ := (rec_b A B K c) $$ HR
  iapply (Rounds.wp_wait_rest_token 𝒱₀ ER (Rd A B) (c : Thread nD τ) none (κ := K (c, 0)) (sm := .reg barS) (k' := 5)
      (wpE_semWait_eq 𝒱₀ (c : Thread nD τ) none Set.univ) (Set.mem_univ _) () (O := owed c 0) (W := W) (R := 0) (m := 0) (T := ∅)
      (by rw [expect_bar])) $$ [HC HO Hat]
  · isplitr; · iexact HI
    isplitl [HC]; · iexact HC
    isplitl [HO]; · iexact HO
    isplitr; · iapply (mayWait c 0 1 (.reg barS) (by rw [lv_bar]) fun m' _ => levT_pos m'); iexact HL
    iexact Hat
  rw [rest_bar A B c]
  iintro ⟨HO, Hat, -, Hp⟩
  iapply Hk
  isplitl [HO HS]
  · iexists _
    isplitl [HO]; · iexact HO
    iexact HS
  isplitl [Hat]; · iexact Hat
  iexact Hp

end

end Cert.Allred

end
-- ==== Proof.Parts1.lean ====
/-
# The body, first stretch

The body's program comes in parts. One lemma for each part that touches memory, a semaphore or a device: what it takes, and
what its continuation gets.
-/
module

public import proofs.«01_k».proof.Proof.Sends
public import proofs.«01_k».proof.Proof.Meet
public import proofs.«01_k».proof.Proof.Gen.KernelIdeal.Skeleton

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- A part of the program at the kernel's own buffers and semaphores. -/
abbrev onBufs {β : Sort _} (p : ∀ (arg0 : Memref sig .tc .vmem S1024x512 .f32) (_ : arg0.IsWhole) (arg1 : Memref sig .tc .vmem S512x1024 .f32) (_ : arg1.IsWhole)
    (arg2 : Memref sig .tc .vmem S1024x1024 .f32) (_ : arg2.IsWhole) (arg3 : Memref sig .tc .vmem S1024x1024 .bf16) (_ : arg3.IsWhole)
    (arg4 : Memref sig .tc .vmem S2x128x1024 .bf16) (_ : arg4.IsWhole) (arg5 : Memref sig .tc .vmem S2x256x1024 .bf16) (_ : arg5.IsWhole)
    (arg6 : Memref sig .tc .vmem S3x64x1024 .bf16) (_ : arg6.IsWhole) (_ : DmaSems sig S14) (_ : DmaSems sig S2) (_ : DmaSems sig S8) (_ : DmaSems sig S3)
    (_ : DmaSems sig S3) (_ : DmaSems sig S8) (_ : DmaSems sig S2), β) : β :=
  p aM (Memref.isWhole_whole _) bM (Memref.isWhole_whole _) oM (Memref.isWhole_whole _) accM (Memref.isWhole_whole _) t1M (Memref.isWhole_whole _)
    t2M (Memref.isWhole_whole _) zM (Memref.isWhole_whole _) cc0_scratch4 cc0_scratch5 cc0_scratch6 cc0_scratch7 cc0_scratch8 cc0_scratch9 cc0_scratch10

abbrev aPts (c : Dev nD) (g : S1024x512.Idx → F .f32) : sProp 𝕄 := ((c : Thread nD τ).loc cc0_stg0_0) ↦{fullShare} g
abbrev bPts (c : Dev nD) (g : S512x1024.Idx → F .f32) : sProp 𝕄 := ((c : Thread nD τ).loc cc0_stg1_0) ↦{fullShare} g

section
variable (A : Dev nD → S1024x512.Idx → F .f32) (B : Dev nD → S512x1024.Idx → F .f32) (K : Dev nD × Fin 41 → ℕ) (c : Dev nD)

theorem runs_ret {α : Type} {Q : α → sProp 𝕄} (a : α) : Q a ⊢ Runs (F := F) c (Prog.ret a) Q := by
  iintro H
  unfold Runs
  rw [wp_ret]; imodintro
  iexact H

theorem part1 {Q} : ⊢ iprop((∀ r, ⌜r.1 = c⌝ -∗ Q r) -∗ Runs (F := F) c (onBufs k0_part1) Q) := by
  unfold onBufs
  rw [k0_part1_eq_skeleton]
  unfold k0_part1_skel
  simp only [Prog.lift, Prog.bind_op, Prog.bind_ret, Prog.pure_eq_ret, wp_deviceId]
  iintro Hk
  iapply (runs_ret c)
  iapply Hk
  ipureintro; rfl

theorem part2 {Q} (v19 v29 v30 v33 v34 v35 v36) : ⊢ iprop((∀ r, Q r) -∗ Runs (F := F) c (onBufs k0_part2 v19 v29 v30 v33 v34 v35 v36) Q) := by
  unfold onBufs
  rw [k0_part2_eq_skeleton]
  unfold k0_part2_skel
  simp only [Prog.lift, Prog.bind_op, Prog.bind_ret, Prog.pure_eq_ret]
  iintro Hk
  iapply (runs_ret c)
  iapply Hk

theorem part3 {Q} (v19 v29 v42 v55 v68 v71 v72 v73 w) :
    records A B K ⊢ iprop(St₀ c 0 -∗ landing (F := F) 0 c -∗ landing (F := F) 1 c -∗ landing (F := F) 4 c -∗ landing (F := F) 3 c
      -∗ (∀ r, ⌜r.2.2.1 = SemArray.scalar (sig.barrier 0 rfl)⌝ -∗ St₀ c 4 -∗ Q r)
      -∗ Runs c (onBufs k0_part3 c v19 v29 v42 v55 v68 v71 v72 v73 w) Q) := by
  unfold onBufs
  rw [k0_part3_eq_skeleton]
  unfold k0_part3_skel
  simp only [semSignalWord, Prog.lift, Prog.bind_op, Prog.bind_ret, Prog.pure_eq_ret]
  obtain ⟨⟨h1, h2, h3, h4, -⟩, -⟩ := devs c
  iintro #HR HS H0 H1 H4 H3 Hk
  iapply (step_signal A B K c 0 0 1 (d := 0) rfl rfl (Fin.ext h1) rfl rfl) $$ HR HS H0
  iintro HS
  iapply (step_signal A B K c 1 1 2 (d := 1) rfl rfl (Fin.ext h2) rfl rfl) $$ HR HS H1
  iintro HS
  iapply (step_signal A B K c 2 2 3 (d := 4) rfl rfl (Fin.ext h3) rfl rfl) $$ HR HS H4
  iintro HS
  iapply (step_signal A B K c 3 3 4 (d := 3) rfl rfl (Fin.ext h4) rfl rfl) $$ HR HS H3
  iintro HS
  iapply (runs_ret c)
  iapply Hk $$ [] HS
  ipureintro; rfl

theorem part4 {Q} (v29 w1 w2) :
    records A B K ⊢ iprop(levAts L lv -∗ St₀ c 4 -∗ landing (F := F) 2 c -∗ aPts c (A c) -∗ bPts c (B c) -∗ (∃ f, accP c (qr c 2 + 128) 128 fullShare f)
      -∗ (∀ r, ((St c 0 ∗ atPos ER (barCell c) 1 ∅ 0 ∗ (landing 0 (up c) ∗ landing 1 (dn c) ∗ landing 2 (zr 0 c) ∗ landing 3 (zr 1 c) ∗ landing 4 (zr 2 c)))
        ∗ aPts c (A c) ∗ bPts c (B c) ∗ accP c (qr c 2 + 128) 128 fullShare (PP A B c)) -∗ Q r)
      -∗ Runs c (onBufs k0_part4 c v29 (SemArray.scalar (sig.barrier 0 rfl)) w1 w2) Q) := by
  unfold onBufs
  rw [k0_part4_eq_skeleton]
  unfold k0_part4_skel
  simp only [semSignalWord, semWaitWord, Prog.lift, Prog.bind_op, Prog.bind_ret, Prog.pure_eq_ret]
  obtain ⟨⟨-, -, -, -, h5⟩, -⟩ := devs c
  iintro #HR #HL HS H2 HA HB ⟨%f, H⟩ Hk
  iapply (step_signal A B K c 4 4 5 (d := 2) rfl rfl (Fin.ext h5) rfl rfl) $$ HR HS H2
  iintro HS
  iapply (step_meet A B K c rfl) $$ HR HL HS
  iintro HS
  iapply (load_a c (off1_1 c)) $$ HA
  iintro HA
  iapply (load_b c) $$ HB
  iintro HB
  iapply (load_acc c (off2_0 c) (by omega)) $$ H
  iintro H
  iapply (store_acc c (off2_0 c) (fun j => pay1_PP A B c j (Or.inr rfl))) $$ H
  iintro H
  iapply (runs_ret c)
  iapply Hk
  iframe HS HA HB H

theorem part5 {Q} (v29 v42 w1 w2 w3) (f : S1024x1024.Idx → F .bf16) :
    records A B K ⊢ iprop(St c 0 -∗ aPts c (A c) -∗ bPts c (B c) -∗ accP c (qr c 2 + 128) 128 fullShare (PP A B c) -∗ (∃ f, t1P (F := F) (up c) 0 f) -∗ accP c (qr c 2) 128 fullShare f
      -∗ (∀ r, ⌜r.1 = k0_pay2 (arows 128 (qr c 2) (A c)) (B c)⌝ -∗ (St c 1 ∗ aPts c (A c) ∗ bPts c (B c) ∗ accP c (qr c 2) 128 fullShare f) -∗ Q r)
      -∗ Runs c (onBufs k0_part5 c v29 v42 w1 w2 w3) Q) := by
  unfold onBufs
  rw [k0_part5_eq_skeleton]
  unfold k0_part5_skel
  simp only [Prog.lift, Prog.bind_op, Prog.bind_ret, Prog.pure_eq_ret]
  obtain ⟨-, ⟨h6, -⟩, -⟩ := devs c
  iintro #HR HS HA HB H HT Hf Hk
  iapply (step_send_t1 A B K c 0 (by decide) 0 1 (d := up c) (t := 0) rfl rfl (Fin.ext h6) rfl (off3_0 c) rfl rfl rfl rfl rfl) $$ HR HS H HT
  iintro HS
  iapply (load_a c (off1_0 c)) $$ HA
  iintro HA
  iapply (load_b c) $$ HB
  iintro HB
  iapply (load_acc c (off2_1 c) (by omega)) $$ Hf
  iintro Hf
  iapply (runs_ret c)
  iapply Hk $$ []
  · ipureintro; rfl
  iframe HS HA HB Hf

theorem part6 {Q} (v29 v55 w) (f : S1024x1024.Idx → F .bf16) :
    records A B K ⊢ iprop(St c 1 -∗ accP c (qr c 2) 128 fullShare f -∗ (∃ f, t1P (F := F) (dn c) 1 f) -∗ (∀ r, St c 2 -∗ Q r)
      -∗ Runs c (onBufs k0_part6 c v29 v55 (k0_pay2 (arows 128 (qr c 2) (A c)) (B c)) w) Q) := by
  unfold onBufs
  rw [k0_part6_eq_skeleton]
  unfold k0_part6_skel
  simp only [Prog.lift, Prog.bind_op, Prog.bind_ret, Prog.pure_eq_ret]
  obtain ⟨-, ⟨-, h7⟩, -⟩ := devs c
  iintro #HR HS H HT Hk
  iapply (store_acc c (off2_1 c) (fun j => pay1_PP A B c j (Or.inl rfl))) $$ H
  iintro H
  iapply (step_send_t1 A B K c 1 (by decide) 1 2 (d := dn c) (t := 1) rfl rfl (Fin.ext h7) rfl (off3_1 c) rfl rfl rfl rfl rfl) $$ HR HS H HT
  iintro HS
  iapply (runs_ret c)
  iapply Hk $$ HS

theorem part7 {Q} (v29 w1 w2 w3) (f f' : S1024x1024.Idx → F .bf16) :
    ⊢ iprop(aPts c (A c) -∗ bPts c (B c) -∗ accP c (qr c 1) 256 fullShare f -∗ accP c (qr c 3) 256 fullShare f'
      -∗ (∀ r, (aPts c (A c) ∗ bPts c (B c) ∗ accP c (qr c 1) 256 fullShare (PP A B c) ∗ accP c (qr c 3) 256 fullShare (PP A B c)) -∗ Q r)
      -∗ Runs c (onBufs k0_part7 c v29 w1 w2 w3) Q) := by
  unfold onBufs
  rw [k0_part7_eq_skeleton]
  unfold k0_part7_skel
  simp only [Prog.lift, Prog.bind_op, Prog.bind_ret, Prog.pure_eq_ret]
  iintro HA HB H1 H3 Hk
  iapply (load_a c (off4 c)) $$ HA
  iintro HA
  iapply (load_b c) $$ HB
  iintro HB
  iapply (load_acc c (off5_0 c) (by omega)) $$ H1
  iintro H1
  iapply (store_acc c (off5_0 c) (fun j => pay4_PP A B c j (Or.inr (Or.inl rfl)) rfl)) $$ H1
  iintro H1
  iapply (load_a c (off6 c)) $$ HA
  iintro HA
  iapply (load_b c) $$ HB
  iintro HB
  iapply (load_acc c (off7 c) (by omega)) $$ H3
  iintro H3
  iapply (store_acc c (off7 c) (fun j => pay4_PP A B c j (Or.inr (Or.inr rfl)) rfl)) $$ H3
  iintro H3
  iapply (runs_ret c)
  iapply Hk
  iframe HA HB H1 H3

theorem part8 {Q} (v29 v42 v55) :
    records A B K ⊢ iprop(levAts L lv -∗ St c 2 -∗ (∀ r, (St c 6 ∗ recvPay A B 0 c ∗ recvPay A B 1 c) -∗ Q r) -∗ Runs c (onBufs k0_part8 c v29 v42 v55) Q) := by
  unfold onBufs
  rw [k0_part8_eq_skeleton]
  unfold k0_part8_skel
  simp only [Prog.lift, Prog.bind_op, Prog.bind_ret, Prog.pure_eq_ret]
  iintro #HR #HL HS Hk
  iapply (step_ws A B K c 0 2 3 rfl rfl rfl rfl) $$ HR HL HS
  iintro ⟨HS, -⟩
  iapply (step_rv A B K c 0 3 4 rfl rfl rfl rfl) $$ HR HL HS
  iintro ⟨HS, H0⟩
  iapply (step_ws A B K c 1 4 5 rfl rfl rfl rfl) $$ HR HL HS
  iintro ⟨HS, -⟩
  iapply (step_rv A B K c 1 5 6 rfl rfl rfl rfl) $$ HR HL HS
  iintro ⟨HS, H1⟩
  iapply (runs_ret c)
  iapply Hk
  iframe HS H0 H1

end

end Cert.Allred

end
-- ==== Proof.Parts2.lean ====
/-
# The body, second stretch: the first exchange added in, the pieces sent round the plane
-/
module

public import proofs.«01_k».proof.Proof.Parts1

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (A : Dev nD → S1024x512.Idx → F .f32) (B : Dev nD → S512x1024.Idx → F .f32) (K : Dev nD × Fin 41 → ℕ) (c : Dev nD)

theorem part9 {Q} (w1 w2 w3 w4) :
    ⊢ iprop(accP c (qr c 1 + 128) 128 fullShare (PP A B c) -∗ t1P c 0 (t1C A B c) -∗ (∀ r, (t1P c 0 (t1C A B c) ∗ accP c (qr c 1 + 128) 128 fullShare (GG A B c)) -∗ Q r)
      -∗ Runs c (onBufs k0_part9 c w1 w2 w3 w4) Q) := by
  unfold onBufs
  rw [k0_part9_eq_skeleton]
  unfold k0_part9_skel
  simp only [Prog.lift, Prog.bind_op, Prog.bind_ret, Prog.pure_eq_ret]
  iintro H HT Hk
  iapply (load_acc c (off2_2 c) (by omega)) $$ H
  iintro H
  iapply (load_t1 c (t := 0) rfl) $$ HT
  iintro HT
  iapply (load_acc c (off2_2 c) (by omega)) $$ H
  iintro H
  iapply (store_acc c (off2_2 c) (fun j => pay6_GG A B c j)) $$ H
  iintro H
  iapply (runs_ret c)
  iapply Hk
  iframe HT H

theorem part10 {Q} (w1 w2 w3 w4 w5 w6) :
    ⊢ iprop(accP c (qr c 3) 128 fullShare (PP A B c) -∗ t1P c 1 (t1C A B c) -∗ (∀ r, (t1P c 1 (t1C A B c) ∗ accP c (qr c 3) 128 fullShare (GG A B c)) -∗ Q r)
      -∗ Runs c (onBufs k0_part10 c w1 w2 w3 w4 w5 w6) Q) := by
  unfold onBufs
  rw [k0_part10_eq_skeleton]
  unfold k0_part10_skel
  simp only [Prog.lift, Prog.bind_op, Prog.bind_ret, Prog.pure_eq_ret]
  iintro H HT Hk
  iapply (load_acc c (off8 c) (by omega)) $$ H
  iintro H
  iapply (load_t1 c (t := 1) rfl) $$ HT
  iintro HT
  iapply (load_acc c (off8 c) (by omega)) $$ H
  iintro H
  iapply (store_acc c (off8 c) (fun j => pay7_GG A B c j)) $$ H
  iintro H
  iapply (runs_ret c)
  iapply Hk
  iframe HT H

theorem part11 {Q} (w1 w2 w3 w4 w5 w6) :
    ⊢ iprop((∀ r, Q r)
      -∗ Runs (F := F) c (onBufs k0_part11 w1 w2 w3 w4 w5 w6) Q) := by
  unfold onBufs
  rw [k0_part11_eq_skeleton]
  unfold k0_part11_skel
  simp only [Prog.lift, Prog.bind_op, Prog.bind_ret, Prog.pure_eq_ret]
  iintro Hk
  iapply (runs_ret c)
  iapply Hk

theorem part12 {Q} (w1 w2 w3 w4 w5 w6) :
    ⊢ iprop((∀ r, Q r)
      -∗ Runs (F := F) c (onBufs k0_part12 w1 w2 w3 w4 w5 w6) Q) := by
  unfold onBufs
  rw [k0_part12_eq_skeleton]
  unfold k0_part12_skel
  simp only [Prog.lift, Prog.bind_op, Prog.bind_ret, Prog.pure_eq_ret]
  iintro Hk
  iapply (runs_ret c)
  iapply Hk

theorem part13 {Q} (w1 w2 w3 w4) :
    records A B K ⊢ iprop(St c 6 -∗ accP c (qr c 1 + pr c 0) 64 fullShare (GG A B c) -∗ (∃ f, t2P (F := F) (up c) 0 (pr c 0) 64 f) -∗ accP c (qr c 3 + pr c 0) 64 fullShare (GG A B c) -∗ (∃ f, t2P (F := F) (dn c) 1 (pr c 0) 64 f) -∗ (∀ r, St c 8 -∗ Q r)
      -∗ Runs c (onBufs k0_part13 c w1 w2 w3 w4) Q) := by
  unfold onBufs
  rw [k0_part13_eq_skeleton]
  unfold k0_part13_skel
  simp only [Prog.lift, Prog.bind_op, Prog.bind_ret, Prog.pure_eq_ret]
  obtain ⟨-, -, ⟨h8, h9, -⟩, -⟩ := devs c
  iintro #HR HS P2 D2 P6 D6 Hk
  iapply (step_send_t2 A B K c 2 (by decide) (by decide) 6 7 (d := up c) (a := qr c 1 + pr c 0) (t := 0) (b := pr c 0) rfl rfl (Fin.ext h8) rfl
    (off10 c 0) rfl (off9 c 0) rfl rfl rfl rfl) $$ HR HS P2 D2
  iintro HS
  iapply (step_send_t2 A B K c 6 (by decide) (by decide) 7 8 (d := dn c) (a := qr c 3 + pr c 0) (t := 1) (b := pr c 0) rfl rfl (Fin.ext h9) rfl
    (off12 c 0) rfl (off11 c 0) rfl rfl rfl rfl) $$ HR HS P6 D6
  iintro HS
  iapply (runs_ret c)
  iapply Hk
  iframe HS

theorem part14 {Q} (w1 w2 w3 w4 w5 w6 w7) :
    ⊢ iprop((∀ r, Q r)
      -∗ Runs (F := F) c (onBufs k0_part14 w1 w2 w3 w4 w5 w6 w7) Q) := by
  unfold onBufs
  rw [k0_part14_eq_skeleton]
  unfold k0_part14_skel
  simp only [Prog.lift, Prog.bind_op, Prog.bind_ret, Prog.pure_eq_ret]
  iintro Hk
  iapply (runs_ret c)
  iapply Hk

theorem part15 {Q} (w1 w2 w3 w4 w5 w6 w7) :
    records A B K ⊢ iprop(St c 8 -∗ accP c (qr c 1 + pr c 1) 64 fullShare (GG A B c) -∗ (∃ f, t2P (F := F) (up c) 0 (pr c 1) 64 f) -∗ (∀ r, St c 9 -∗ Q r)
      -∗ Runs c (onBufs k0_part15 c w1 w2 w3 w4 w5 w6 w7) Q) := by
  unfold onBufs
  rw [k0_part15_eq_skeleton]
  unfold k0_part15_skel
  simp only [Prog.lift, Prog.bind_op, Prog.bind_ret, Prog.pure_eq_ret]
  obtain ⟨-, -, ⟨-, -, h10, -⟩, -⟩ := devs c
  iintro #HR HS P3 D3 Hk
  iapply (step_send_t2 A B K c 3 (by decide) (by decide) 8 9 (d := up c) (a := qr c 1 + pr c 1) (t := 0) (b := pr c 1) rfl rfl (Fin.ext h10) rfl
    (off10 c 1) rfl (off9 c 1) rfl rfl rfl rfl) $$ HR HS P3 D3
  iintro HS
  iapply (runs_ret c)
  iapply Hk
  iframe HS

theorem part16 {Q} (w1 w2) :
    records A B K ⊢ iprop(St c 9 -∗ accP c (qr c 3 + pr c 1) 64 fullShare (GG A B c) -∗ (∃ f, t2P (F := F) (dn c) 1 (pr c 1) 64 f) -∗ (∀ r, St c 10 -∗ Q r)
      -∗ Runs c (onBufs k0_part16 c w1 w2) Q) := by
  unfold onBufs
  rw [k0_part16_eq_skeleton]
  unfold k0_part16_skel
  simp only [Prog.lift, Prog.bind_op, Prog.bind_ret, Prog.pure_eq_ret]
  obtain ⟨-, -, ⟨-, -, -, h11, -⟩, -⟩ := devs c
  iintro #HR HS P7 D7 Hk
  iapply (step_send_t2 A B K c 7 (by decide) (by decide) 9 10 (d := dn c) (a := qr c 3 + pr c 1) (t := 1) (b := pr c 1) rfl rfl (Fin.ext h11) rfl
    (off12 c 1) rfl (off11 c 1) rfl rfl rfl rfl) $$ HR HS P7 D7
  iintro HS
  iapply (runs_ret c)
  iapply Hk
  iframe HS

theorem part17 {Q} (w1 w2 w3 w4 w5 w6 w7) :
    ⊢ iprop((∀ r, Q r)
      -∗ Runs (F := F) c (onBufs k0_part17 w1 w2 w3 w4 w5 w6 w7) Q) := by
  unfold onBufs
  rw [k0_part17_eq_skeleton]
  unfold k0_part17_skel
  simp only [Prog.lift, Prog.bind_op, Prog.bind_ret, Prog.pure_eq_ret]
  iintro Hk
  iapply (runs_ret c)
  iapply Hk

theorem part18 {Q} (w1 w2 w3 w4 w5 w6 w7 w8 w9) :
    records A B K ⊢ iprop(St c 10 -∗ accP c (qr c 1 + pr c 2) 64 fullShare (GG A B c) -∗ (∃ f, t2P (F := F) (up c) 0 (pr c 2) 64 f) -∗ accP c (qr c 3 + pr c 2) 64 fullShare (GG A B c) -∗ (∃ f, t2P (F := F) (dn c) 1 (pr c 2) 64 f) -∗ (∀ r, St c 12 -∗ Q r)
      -∗ Runs c (onBufs k0_part18 c w1 w2 w3 w4 w5 w6 w7 w8 w9) Q) := by
  unfold onBufs
  rw [k0_part18_eq_skeleton]
  unfold k0_part18_skel
  simp only [Prog.lift, Prog.bind_op, Prog.bind_ret, Prog.pure_eq_ret]
  obtain ⟨-, -, ⟨-, -, -, -, h12, h13, -⟩, -⟩ := devs c
  iintro #HR HS P4 D4 P8 D8 Hk
  iapply (step_send_t2 A B K c 4 (by decide) (by decide) 10 11 (d := up c) (a := qr c 1 + pr c 2) (t := 0) (b := pr c 2) rfl rfl (Fin.ext h12) rfl
    (off10 c 2) rfl (off9 c 2) rfl rfl rfl rfl) $$ HR HS P4 D4
  iintro HS
  iapply (step_send_t2 A B K c 8 (by decide) (by decide) 11 12 (d := dn c) (a := qr c 3 + pr c 2) (t := 1) (b := pr c 2) rfl rfl (Fin.ext h13) rfl
    (off12 c 2) rfl (off11 c 2) rfl rfl rfl rfl) $$ HR HS P8 D8
  iintro HS
  iapply (runs_ret c)
  iapply Hk
  iframe HS

theorem part19 {Q} (w1 w2 w3 w4 w5 w6) :
    ⊢ iprop((∀ r, Q r)
      -∗ Runs (F := F) c (onBufs k0_part19 w1 w2 w3 w4 w5 w6) Q) := by
  unfold onBufs
  rw [k0_part19_eq_skeleton]
  unfold k0_part19_skel
  simp only [Prog.lift, Prog.bind_op, Prog.bind_ret, Prog.pure_eq_ret]
  iintro Hk
  iapply (runs_ret c)
  iapply Hk

theorem part20 {Q} (w1 w2 w3 w4 w5 w6) :
    records A B K ⊢ iprop(St c 12 -∗ accP c (qr c 1 + pr c 3) 64 fullShare (GG A B c) -∗ (∃ f, t2P (F := F) (up c) 0 (pr c 3) 64 f) -∗ (∀ r, St c 13 -∗ Q r)
      -∗ Runs c (onBufs k0_part20 c w1 w2 w3 w4 w5 w6) Q) := by
  unfold onBufs
  rw [k0_part20_eq_skeleton]
  unfold k0_part20_skel
  simp only [Prog.lift, Prog.bind_op, Prog.bind_ret, Prog.pure_eq_ret]
  obtain ⟨-, -, ⟨-, -, -, -, -, -, h14, -⟩, -⟩ := devs c
  iintro #HR HS P5 D5 Hk
  iapply (step_send_t2 A B K c 5 (by decide) (by decide) 12 13 (d := up c) (a := qr c 1 + pr c 3) (t := 0) (b := pr c 3) rfl rfl (Fin.ext h14) rfl
    (off10 c 3) rfl (off9 c 3) rfl rfl rfl rfl) $$ HR HS P5 D5
  iintro HS
  iapply (runs_ret c)
  iapply Hk
  iframe HS

theorem part21 {Q} (w1 w2) :
    records A B K ⊢ iprop(St c 13 -∗ accP c (qr c 3 + pr c 3) 64 fullShare (GG A B c) -∗ (∃ f, t2P (F := F) (dn c) 1 (pr c 3) 64 f) -∗ aPts c (A c) -∗ bPts c (B c) -∗ (∃ f, accP (F := F) c (qr c 0) 256 fullShare f) -∗ (∀ r, (St c 14 ∗ aPts c (A c) ∗ bPts c (B c) ∗ accP c (qr c 0) 256 fullShare (PP A B c)) -∗ Q r)
      -∗ Runs c (onBufs k0_part21 c w1 w2) Q) := by
  unfold onBufs
  rw [k0_part21_eq_skeleton]
  unfold k0_part21_skel
  simp only [Prog.lift, Prog.bind_op, Prog.bind_ret, Prog.pure_eq_ret]
  obtain ⟨-, -, ⟨-, -, -, -, -, -, -, h15⟩, -⟩ := devs c
  iintro #HR HS P9 D9 HA HB ⟨%f, H⟩ Hk
  iapply (step_send_t2 A B K c 9 (by decide) (by decide) 13 14 (d := dn c) (a := qr c 3 + pr c 3) (t := 1) (b := pr c 3) rfl rfl (Fin.ext h15) rfl
    (off12 c 3) rfl (off11 c 3) rfl rfl rfl rfl) $$ HR HS P9 D9
  iintro HS
  iapply (load_a c (off13 c)) $$ HA
  iintro HA
  iapply (load_b c) $$ HB
  iintro HB
  iapply (load_acc c (off14 c) (by omega)) $$ H
  iintro H
  iapply (store_acc c (off14 c) (fun j => pay4_PP A B c j (Or.inl rfl) rfl)) $$ H
  iintro H
  iapply (runs_ret c)
  iapply Hk
  iframe HS HA HB H

theorem part22 {Q} (w1 w2 w3 w4) :
    records A B K ⊢ iprop(levAts L lv -∗ St c 14 -∗ (∀ r, (St c 18 ∗ recvPay A B 2 c ∗ recvPay A B 6 c) -∗ Q r)
      -∗ Runs c (onBufs k0_part22 c w1 w2 w3 w4) Q) := by
  unfold onBufs
  rw [k0_part22_eq_skeleton]
  unfold k0_part22_skel
  simp only [Prog.lift, Prog.bind_op, Prog.bind_ret, Prog.pure_eq_ret]
  iintro #HR #HL HS Hk
  iapply (step_ws A B K c 2 14 15 rfl rfl rfl rfl) $$ HR HL HS
  iintro ⟨HS, -⟩
  iapply (step_rv A B K c 2 15 16 rfl rfl rfl rfl) $$ HR HL HS
  iintro ⟨HS, V2⟩
  iapply (step_ws A B K c 6 16 17 rfl rfl rfl rfl) $$ HR HL HS
  iintro ⟨HS, -⟩
  iapply (step_rv A B K c 6 17 18 rfl rfl rfl rfl) $$ HR HL HS
  iintro ⟨HS, V6⟩
  iapply (runs_ret c)
  iapply Hk
  iframe HS V2 V6

end

end Cert.Allred

end
-- ==== Proof.Parts3.lean ====
/-
# The body, third stretch: the plane's sums, the pieces sent across planes, the full sum
-/
module

public import proofs.«01_k».proof.Proof.Parts1

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (A : Dev nD → S1024x512.Idx → F .f32) (B : Dev nD → S512x1024.Idx → F .f32) (K : Dev nD × Fin 41 → ℕ) (c : Dev nD)

theorem part23 {Q} (w1 w2 w3 w4 w5 w6 w7) :
    ⊢ iprop(accP c (qr c 0 + pr c 0) 64 fullShare (GG A B c) -∗ t2P c 0 (pr c 0) 64 (t2C A B c) -∗ (∀ r, ⌜r.2.1 = k0_pay9 (rows 64 (qr c 0 + pr c 0) (GG A B c)) (rows3 (m := 2) (h := 256) 64 0 (pr c 0) (t2C A B c))⌝ -∗ (accP c (qr c 0 + pr c 0) 64 fullShare (GG A B c) ∗ t2P c 0 (pr c 0) 64 (t2C A B c)) -∗ Q r)
      -∗ Runs c (onBufs k0_part23 c w1 w2 w3 w4 w5 w6 w7) Q) := by
  unfold onBufs
  rw [k0_part23_eq_skeleton]
  unfold k0_part23_skel
  simp only [Prog.lift, Prog.bind_op, Prog.bind_ret, Prog.pure_eq_ret]
  iintro H T0 Hk
  iapply (load_acc c (a := qr c 0 + pr c 0) (off15 c 0) (by omega)) $$ H
  iintro H
  iapply (load_t2 c (t := 0) (a := pr c 0) (off16 c 0)) $$ T0
  iintro T0
  iapply (runs_ret c)
  iapply Hk $$ []
  · ipureintro; rfl
  iframe H T0

theorem part24 {Q} (w1 w2 w3 w4 w5 w6) :
    records A B K ⊢ iprop(levAts L lv -∗ St c 18 -∗ accP c (qr c 0 + pr c 0) 64 fullShare (GG A B c) -∗ t2P c 1 (pr c 0) 64 (t2C A B c) -∗ (∀ r, (St c 20 ∗ t2P c 1 (pr c 0) 64 (t2C A B c) ∗ accP c (qr c 0 + pr c 0) 64 fullShare (SS A B c) ∗ recvPay A B 3 c) -∗ Q r)
      -∗ Runs c (onBufs k0_part24 c w1 w2 (k0_pay9 (rows 64 (qr c 0 + pr c 0) (GG A B c)) (rows3 (m := 2) (h := 256) 64 0 (pr c 0) (t2C A B c))) w3 w4 w5 w6) Q) := by
  unfold onBufs
  rw [k0_part24_eq_skeleton]
  unfold k0_part24_skel
  simp only [Prog.lift, Prog.bind_op, Prog.bind_ret, Prog.pure_eq_ret]
  iintro #HR #HL HS H T1 Hk
  iapply (load_t2 c (t := 1) (a := pr c 0) (off17 c 0)) $$ T1
  iintro T1
  iapply (load_acc c (a := qr c 0 + pr c 0) (off15 c 0) (by omega)) $$ H
  iintro H
  iapply (store_acc c (a := qr c 0 + pr c 0) (off15 c 0) (fun j => pay11_SS A B c 0 j)) $$ H
  iintro H
  iapply (step_ws A B K c 3 18 19 rfl rfl rfl rfl) $$ HR HL HS
  iintro ⟨HS, -⟩
  iapply (step_rv A B K c 3 19 20 rfl rfl rfl rfl) $$ HR HL HS
  iintro ⟨HS, V3⟩
  iapply (runs_ret c)
  iapply Hk
  iframe HS T1 H V3

theorem part25 {Q} (w1 w2 w3) :
    records A B K ⊢ iprop(levAts L lv -∗ St c 20 -∗ (∀ r, (St c 22 ∗ recvPay A B 7 c) -∗ Q r)
      -∗ Runs c (onBufs k0_part25 c w1 w2 w3) Q) := by
  unfold onBufs
  rw [k0_part25_eq_skeleton]
  unfold k0_part25_skel
  simp only [Prog.lift, Prog.bind_op, Prog.bind_ret, Prog.pure_eq_ret]
  iintro #HR #HL HS Hk
  iapply (step_ws A B K c 7 20 21 rfl rfl rfl rfl) $$ HR HL HS
  iintro ⟨HS, -⟩
  iapply (step_rv A B K c 7 21 22 rfl rfl rfl rfl) $$ HR HL HS
  iintro ⟨HS, V7⟩
  iapply (runs_ret c)
  iapply Hk
  iframe HS V7

theorem part26 {Q} (w1 w2) :
    ⊢ iprop(accP c (qr c 0 + pr c 1) 64 fullShare (GG A B c) -∗ t2P c 0 (pr c 1) 64 (t2C A B c) -∗ t2P c 1 (pr c 1) 64 (t2C A B c) -∗ (∀ r, (t2P c 0 (pr c 1) 64 (t2C A B c) ∗ t2P c 1 (pr c 1) 64 (t2C A B c) ∗ accP c (qr c 0 + pr c 1) 64 fullShare (SS A B c)) -∗ Q r)
      -∗ Runs c (onBufs k0_part26 c w1 w2) Q) := by
  unfold onBufs
  rw [k0_part26_eq_skeleton]
  unfold k0_part26_skel
  simp only [Prog.lift, Prog.bind_op, Prog.bind_ret, Prog.pure_eq_ret]
  iintro H T0 T1 Hk
  iapply (load_acc c (a := qr c 0 + pr c 1) (off15 c 1) (by omega)) $$ H
  iintro H
  iapply (load_t2 c (t := 0) (a := pr c 1) (off16 c 1)) $$ T0
  iintro T0
  iapply (load_t2 c (t := 1) (a := pr c 1) (off17 c 1)) $$ T1
  iintro T1
  iapply (load_acc c (a := qr c 0 + pr c 1) (off15 c 1) (by omega)) $$ H
  iintro H
  iapply (store_acc c (a := qr c 0 + pr c 1) (off15 c 1) (fun j => pay11_SS A B c 1 j)) $$ H
  iintro H
  iapply (runs_ret c)
  iapply Hk
  iframe T0 T1 H

theorem part27 {Q} (w1 w2) :
    records A B K ⊢ iprop(levAts L lv -∗ St c 22 -∗ accP c (qr c 0 + pr c 1) 64 fullShare (SS A B c) -∗ (∃ f, zP (F := F) (zr 0 c) 0 f) -∗ (∀ r, (St c 26 ∗ recvPay A B 4 c) -∗ Q r)
      -∗ Runs c (onBufs k0_part27 c w1 w2) Q) := by
  unfold onBufs
  rw [k0_part27_eq_skeleton]
  unfold k0_part27_skel
  simp only [Prog.lift, Prog.bind_op, Prog.bind_ret, Prog.pure_eq_ret]
  obtain ⟨-, -, -, ⟨h16, -⟩, -⟩ := devs c
  iintro #HR #HL HS P10 D10 Hk
  iapply (step_send_z A B K c 10 (by decide) (by decide) 22 23 (d := zr 0 c) (a := qr c 0 + pr c 1) (t := 0) rfl rfl (Fin.ext h16) rfl
    (off18 c 0) rfl rfl rfl rfl rfl) $$ HR HS P10 D10
  iintro HS
  iapply (step_ws A B K c 4 23 24 rfl rfl rfl rfl) $$ HR HL HS
  iintro ⟨HS, -⟩
  iapply (step_rv A B K c 4 24 25 rfl rfl rfl rfl) $$ HR HL HS
  iintro ⟨HS, V4⟩
  iapply (step_ws A B K c 8 25 26 rfl rfl rfl rfl) $$ HR HL HS
  iintro ⟨HS, -⟩
  iapply (runs_ret c)
  iapply Hk
  iframe HS V4

theorem part28 {Q} (w1 w2 w3) :
    records A B K ⊢ iprop(levAts L lv -∗ St c 26 -∗ accP c (qr c 0 + pr c 2) 64 fullShare (GG A B c) -∗ (∀ r, ⌜r.2.1 = (rows 64 (qr c 0 + pr c 2) (GG A B c))⌝ -∗ (St c 27 ∗ recvPay A B 8 c ∗ accP c (qr c 0 + pr c 2) 64 fullShare (GG A B c)) -∗ Q r)
      -∗ Runs c (onBufs k0_part28 c w1 w2 w3) Q) := by
  unfold onBufs
  rw [k0_part28_eq_skeleton]
  unfold k0_part28_skel
  simp only [Prog.lift, Prog.bind_op, Prog.bind_ret, Prog.pure_eq_ret]
  iintro #HR #HL HS H Hk
  iapply (step_rv A B K c 8 26 27 rfl rfl rfl rfl) $$ HR HL HS
  iintro ⟨HS, V8⟩
  iapply (load_acc c (a := qr c 0 + pr c 2) (off15 c 2) (by omega)) $$ H
  iintro H
  iapply (runs_ret c)
  iapply Hk $$ []
  · ipureintro; rfl
  iframe HS V8 H

theorem part29 {Q} (w1 w2 w3 w4 w5 w6 w7) :
    ⊢ iprop(accP c (qr c 0 + pr c 2) 64 fullShare (GG A B c) -∗ t2P c 0 (pr c 2) 64 (t2C A B c) -∗ t2P c 1 (pr c 2) 64 (t2C A B c) -∗ (∀ r, (t2P c 0 (pr c 2) 64 (t2C A B c) ∗ t2P c 1 (pr c 2) 64 (t2C A B c) ∗ accP c (qr c 0 + pr c 2) 64 fullShare (SS A B c)) -∗ Q r)
      -∗ Runs c (onBufs k0_part29 c w1 w2 w3 (rows 64 (qr c 0 + pr c 2) (GG A B c)) w4 w5 w6 w7) Q) := by
  unfold onBufs
  rw [k0_part29_eq_skeleton]
  unfold k0_part29_skel
  simp only [Prog.lift, Prog.bind_op, Prog.bind_ret, Prog.pure_eq_ret]
  iintro H T0 T1 Hk
  iapply (load_t2 c (t := 0) (a := pr c 2) (off16 c 2)) $$ T0
  iintro T0
  iapply (load_t2 c (t := 1) (a := pr c 2) (off17 c 2)) $$ T1
  iintro T1
  iapply (load_acc c (a := qr c 0 + pr c 2) (off15 c 2) (by omega)) $$ H
  iintro H
  iapply (store_acc c (a := qr c 0 + pr c 2) (off15 c 2) (fun j => pay11_SS A B c 2 j)) $$ H
  iintro H
  iapply (runs_ret c)
  iapply Hk
  iframe T0 T1 H

theorem part30 {Q} (w1 w2) :
    records A B K ⊢ iprop(levAts L lv -∗ St c 27 -∗ accP c (qr c 0 + pr c 2) 64 fullShare (SS A B c) -∗ (∃ f, zP (F := F) (zr 1 c) 1 f) -∗ (∀ r, (St c 31 ∗ recvPay A B 5 c) -∗ Q r)
      -∗ Runs c (onBufs k0_part30 c w1 w2) Q) := by
  unfold onBufs
  rw [k0_part30_eq_skeleton]
  unfold k0_part30_skel
  simp only [Prog.lift, Prog.bind_op, Prog.bind_ret, Prog.pure_eq_ret]
  obtain ⟨-, -, -, ⟨-, h17, -⟩, -⟩ := devs c
  iintro #HR #HL HS P11 D11 Hk
  iapply (step_send_z A B K c 11 (by decide) (by decide) 27 28 (d := zr 1 c) (a := qr c 0 + pr c 2) (t := 1) rfl rfl (Fin.ext h17) rfl
    (off18 c 1) rfl rfl rfl rfl rfl) $$ HR HS P11 D11
  iintro HS
  iapply (step_ws A B K c 5 28 29 rfl rfl rfl rfl) $$ HR HL HS
  iintro ⟨HS, -⟩
  iapply (step_rv A B K c 5 29 30 rfl rfl rfl rfl) $$ HR HL HS
  iintro ⟨HS, V5⟩
  iapply (step_ws A B K c 9 30 31 rfl rfl rfl rfl) $$ HR HL HS
  iintro ⟨HS, -⟩
  iapply (runs_ret c)
  iapply Hk
  iframe HS V5

theorem part31 {Q} (w1 w2) :
    records A B K ⊢ iprop(levAts L lv -∗ St c 31 -∗ accP c (qr c 0 + pr c 3) 64 fullShare (GG A B c) -∗ (∀ r, ⌜r.2.1 = (rows 64 (qr c 0 + pr c 3) (GG A B c))⌝ -∗ (St c 32 ∗ recvPay A B 9 c ∗ accP c (qr c 0 + pr c 3) 64 fullShare (GG A B c)) -∗ Q r)
      -∗ Runs c (onBufs k0_part31 c w1 w2) Q) := by
  unfold onBufs
  rw [k0_part31_eq_skeleton]
  unfold k0_part31_skel
  simp only [Prog.lift, Prog.bind_op, Prog.bind_ret, Prog.pure_eq_ret]
  iintro #HR #HL HS H Hk
  iapply (step_rv A B K c 9 31 32 rfl rfl rfl rfl) $$ HR HL HS
  iintro ⟨HS, V9⟩
  iapply (load_acc c (a := qr c 0 + pr c 3) (off15 c 3) (by omega)) $$ H
  iintro H
  iapply (runs_ret c)
  iapply Hk $$ []
  · ipureintro; rfl
  iframe HS V9 H

theorem part32 {Q} (w1 w2 w3 w4 w5 w6 w7 w8) :
    ⊢ iprop(accP c (qr c 0 + pr c 3) 64 fullShare (GG A B c) -∗ t2P c 0 (pr c 3) 64 (t2C A B c) -∗ t2P c 1 (pr c 3) 64 (t2C A B c) -∗ (∀ r, (t2P c 0 (pr c 3) 64 (t2C A B c) ∗ t2P c 1 (pr c 3) 64 (t2C A B c) ∗ accP c (qr c 0 + pr c 3) 64 fullShare (SS A B c)) -∗ Q r)
      -∗ Runs c (onBufs k0_part32 c w1 w2 w3 (rows 64 (qr c 0 + pr c 3) (GG A B c)) w4 w5 w6 w7 w8) Q) := by
  unfold onBufs
  rw [k0_part32_eq_skeleton]
  unfold k0_part32_skel
  simp only [Prog.lift, Prog.bind_op, Prog.bind_ret, Prog.pure_eq_ret]
  iintro H T0 T1 Hk
  iapply (load_t2 c (t := 0) (a := pr c 3) (off16 c 3)) $$ T0
  iintro T0
  iapply (load_t2 c (t := 1) (a := pr c 3) (off17 c 3)) $$ T1
  iintro T1
  iapply (load_acc c (a := qr c 0 + pr c 3) (off15 c 3) (by omega)) $$ H
  iintro H
  iapply (store_acc c (a := qr c 0 + pr c 3) (off15 c 3) (fun j => pay11_SS A B c 3 j)) $$ H
  iintro H
  iapply (runs_ret c)
  iapply Hk
  iframe T0 T1 H

theorem part33 {Q} (w1 w2) :
    records A B K ⊢ iprop(levAts L lv -∗ St c 32 -∗ accP c (qr c 0 + pr c 3) 64 fullShare (SS A B c) -∗ (∃ f, zP (F := F) (zr 2 c) 2 f) -∗ (∀ r, (St c 37 ∗ recvPay A B 10 c ∗ recvPay A B 11 c) -∗ Q r)
      -∗ Runs c (onBufs k0_part33 c w1 w2) Q) := by
  unfold onBufs
  rw [k0_part33_eq_skeleton]
  unfold k0_part33_skel
  simp only [Prog.lift, Prog.bind_op, Prog.bind_ret, Prog.pure_eq_ret]
  obtain ⟨-, -, -, ⟨-, -, h18⟩, -⟩ := devs c
  iintro #HR #HL HS P12 D12 Hk
  iapply (step_send_z A B K c 12 (by decide) (by decide) 32 33 (d := zr 2 c) (a := qr c 0 + pr c 3) (t := 2) rfl rfl (Fin.ext h18) rfl
    (off18 c 2) rfl rfl rfl rfl rfl) $$ HR HS P12 D12
  iintro HS
  iapply (step_ws A B K c 10 33 34 rfl rfl rfl rfl) $$ HR HL HS
  iintro ⟨HS, -⟩
  iapply (step_rv A B K c 10 34 35 rfl rfl rfl rfl) $$ HR HL HS
  iintro ⟨HS, V10⟩
  iapply (step_ws A B K c 11 35 36 rfl rfl rfl rfl) $$ HR HL HS
  iintro ⟨HS, -⟩
  iapply (step_rv A B K c 11 36 37 rfl rfl rfl rfl) $$ HR HL HS
  iintro ⟨HS, V11⟩
  iapply (runs_ret c)
  iapply Hk
  iframe HS V10 V11

theorem part34 {Q} (w1 w2 w3) :
    records A B K ⊢ iprop(levAts L lv -∗ St c 37 -∗ (∀ r, (St c 39 ∗ recvPay A B 12 c) -∗ Q r)
      -∗ Runs c (onBufs k0_part34 c w1 w2 w3) Q) := by
  unfold onBufs
  rw [k0_part34_eq_skeleton]
  unfold k0_part34_skel
  simp only [Prog.lift, Prog.bind_op, Prog.bind_ret, Prog.pure_eq_ret]
  iintro #HR #HL HS Hk
  iapply (step_ws A B K c 12 37 38 rfl rfl rfl rfl) $$ HR HL HS
  iintro ⟨HS, -⟩
  iapply (step_rv A B K c 12 38 39 rfl rfl rfl rfl) $$ HR HL HS
  iintro ⟨HS, V12⟩
  iapply (runs_ret c)
  iapply Hk
  iframe HS V12

theorem part35 {Q} (w1 w2 w3 w4 w5 w6 w7) :
    ⊢ iprop(accP c (qr c 0 + pr c 0) 64 fullShare (SS A B c) -∗ zP c 0 (zC A B c) -∗ zP c 1 (zC A B c) -∗ zP c 2 (zC A B c) -∗ (∀ r, ⌜r.1 = k0_pay14 (rows 64 (qr c 0 + pr c 0) (SS A B c)) (rows3 (m := 3) (h := 64) 64 0 0 (zC A B c)) (rows3 (m := 3) (h := 64) 64 1 0 (zC A B c)) (rows3 (m := 3) (h := 64) 64 2 0 (zC A B c))⌝ -∗ (accP c (qr c 0 + pr c 0) 64 fullShare (SS A B c) ∗ zP c 0 (zC A B c) ∗ zP c 1 (zC A B c) ∗ zP c 2 (zC A B c)) -∗ Q r)
      -∗ Runs c (onBufs k0_part35 c w1 w2 w3 w4 w5 w6 w7) Q) := by
  unfold onBufs
  rw [k0_part35_eq_skeleton]
  unfold k0_part35_skel
  simp only [Prog.lift, Prog.bind_op, Prog.bind_ret, Prog.pure_eq_ret]
  iintro H Z0 Z1 Z2 Hk
  iapply (load_acc c (off19 c) (by omega)) $$ H
  iintro H
  iapply (load_z c (t := 0) rfl) $$ Z0
  iintro Z0
  iapply (load_z c (t := 1) rfl) $$ Z1
  iintro Z1
  iapply (load_z c (t := 2) rfl) $$ Z2
  iintro Z2
  iapply (runs_ret c)
  iapply Hk $$ []
  · ipureintro; rfl
  iframe H Z0 Z1 Z2

theorem part36 {Q} (w1 w2 w3 w4 w5 w6 w7 w8) :
    ⊢ iprop(accP c (qr c 0 + pr c 0) 64 fullShare (SS A B c) -∗ (∀ r, accP c (qr c 0 + pr c 0) 64 fullShare (FIN A B) -∗ Q r)
      -∗ Runs c (onBufs k0_part36 c w1 w2 (k0_pay14 (rows 64 (qr c 0 + pr c 0) (SS A B c)) (rows3 (m := 3) (h := 64) 64 0 0 (zC A B c)) (rows3 (m := 3) (h := 64) 64 1 0 (zC A B c)) (rows3 (m := 3) (h := 64) 64 2 0 (zC A B c))) w3 w4 w5 w6 w7 w8) Q) := by
  unfold onBufs
  rw [k0_part36_eq_skeleton]
  unfold k0_part36_skel
  simp only [Prog.lift, Prog.bind_op, Prog.bind_ret, Prog.pure_eq_ret]
  iintro H Hk
  iapply (load_acc c (off19 c) (by omega)) $$ H
  iintro H
  iapply (store_acc c (off19 c) (fun j => pay15_TT A B c j)) $$ H
  iintro H
  iapply (runs_ret c)
  iapply Hk
  iframe H

end

end Cert.Allred

end
-- ==== Proof.Pieces.lean ====
/-
# Cutting rows and shares, and joining them again
-/
module

public import proofs.«01_k».proof.Proof.Parts1

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable {ℓ : Loc nD τ sig} {q : PosShare TreeShare} {f : Buf (Elt F) ℓ} {S I₀ I₁ I₂ I₃ : Finset (Idx ℓ)}

/-- Ownership of a set cut in two, three or four. -/
theorem cut2 (h : S = I₀ ∪ I₁) (h₀ : Disjoint I₀ I₁) : (ℓ ↦[S]{q} f : sProp 𝕄) ⊣⊢ iprop((ℓ ↦[I₀]{q} f) ∗ ℓ ↦[I₁]{q} f) := by
  subst h; exact pointsTo_union h₀
theorem cut3 (h : S = I₀ ∪ (I₁ ∪ I₂)) (h₀ : Disjoint I₀ (I₁ ∪ I₂)) (h₁ : Disjoint I₁ I₂) :
    (ℓ ↦[S]{q} f : sProp 𝕄) ⊣⊢ iprop((ℓ ↦[I₀]{q} f) ∗ (ℓ ↦[I₁]{q} f) ∗ ℓ ↦[I₂]{q} f) :=
  (cut2 h h₀).trans (sep_congr .rfl (cut2 rfl h₁))
theorem cut4 (h : S = I₀ ∪ (I₁ ∪ (I₂ ∪ I₃))) (h₀ : Disjoint I₀ (I₁ ∪ (I₂ ∪ I₃))) (h₁ : Disjoint I₁ (I₂ ∪ I₃)) (h₂ : Disjoint I₂ I₃) :
    (ℓ ↦[S]{q} f : sProp 𝕄) ⊣⊢ iprop((ℓ ↦[I₀]{q} f) ∗ (ℓ ↦[I₁]{q} f) ∗ (ℓ ↦[I₂]{q} f) ∗ ℓ ↦[I₃]{q} f) :=
  (cut2 h h₀).trans (sep_congr .rfl (cut3 rfl h₁ h₂))
end

theorem R_quarters (c : Dev nD) : (Finset.univ : Finset S1024x1024.Idx) = R (qr c 0) 256 ∪ (R (qr c 1) 256 ∪ (R (qr c 2) 256 ∪ R (qr c 3) 256)) := by
  ext i
  have h : (i 0).val < 1024 := (i 0).isLt
  simp only [Finset.mem_union, mem_R, Finset.mem_univ, true_iff]
  dsimp only [qr]; omega
theorem R_pieces (c : Dev nD) (a : ℕ) : R a 256 = R (a + pr c 0) 64 ∪ (R (a + pr c 1) 64 ∪ (R (a + pr c 2) 64 ∪ R (a + pr c 3) 64)) := by
  ext i
  simp only [Finset.mem_union, mem_R]
  dsimp only [pr]; omega
theorem B3_pieces (c : Dev nD) (t : ℕ) : B3 (m := 2) (h := 256) t 0 256 = B3 t (pr c 0) 64 ∪ (B3 t (pr c 1) 64 ∪ (B3 t (pr c 2) 64 ∪ B3 t (pr c 3) 64)) := by
  ext i
  simp only [Finset.mem_union, mem_B3]
  dsimp only [pr]; omega
theorem B3_two (h : ℕ) : (Finset.univ : Finset (⟨3, ![2, h, 1024]⟩ : Shape).Idx) = B3 0 0 h ∪ B3 1 0 h := by
  ext i
  have h₀ : (i 0).val < 2 := (i 0).isLt
  have h₁ : (i 1).val < h := (i 1).isLt
  simp only [Finset.mem_union, mem_B3, Finset.mem_univ, true_iff]; omega
theorem B3_three (h : ℕ) : (Finset.univ : Finset (⟨3, ![3, h, 1024]⟩ : Shape).Idx) = B3 0 0 h ∪ (B3 1 0 h ∪ B3 2 0 h) := by
  ext i
  have h₀ : (i 0).val < 3 := (i 0).isLt
  have h₁ : (i 1).val < h := (i 1).isLt
  simp only [Finset.mem_union, mem_B3, Finset.mem_univ, true_iff]; omega

section
variable (c : Dev nD)

theorem acc_quarters (q : PosShare TreeShare) (g : S1024x1024.Idx → F .bf16) : ((((c : Thread nD τ).loc cc0_scratch0) ↦{q} g : sProp 𝕄)) ⊣⊢
    iprop(accP c (qr c 0) 256 q g ∗ accP c (qr c 1) 256 q g ∗ accP c (qr c 2) 256 q g ∗ accP c (qr c 3) 256 q g) := by
  unfold accP
  refine cut4 (R_quarters c) ?_ ?_ ?_ <;> (try simp only [Finset.disjoint_union_right]) <;> (try refine ⟨?_, ?_⟩) <;> (try refine ⟨?_, ?_⟩) <;>
    first | exact R_disjoint (by dsimp only [qr]; omega) | (refine ⟨?_, ?_⟩ <;> exact R_disjoint (by dsimp only [qr]; omega))
theorem out_quarters (g : S1024x1024.Idx → F .f32) : ((((c : Thread nD τ).loc cc0_stg2_0) ↦{fullShare} g : sProp 𝕄)) ⊣⊢
    iprop(outP c (qr c 0) 256 g ∗ outP c (qr c 1) 256 g ∗ outP c (qr c 2) 256 g ∗ outP c (qr c 3) 256 g) := by
  unfold outP
  refine cut4 (R_quarters c) ?_ ?_ ?_ <;> (try simp only [Finset.disjoint_union_right]) <;> (try refine ⟨?_, ?_⟩) <;> (try refine ⟨?_, ?_⟩) <;>
    first | exact R_disjoint (by dsimp only [qr]; omega) | (refine ⟨?_, ?_⟩ <;> exact R_disjoint (by dsimp only [qr]; omega))
theorem acc_pieces (a : ℕ) (q : PosShare TreeShare) (g : S1024x1024.Idx → F .bf16) : accP (F := F) c a 256 q g ⊣⊢
    iprop(accP c (a + pr c 0) 64 q g ∗ accP c (a + pr c 1) 64 q g ∗ accP c (a + pr c 2) 64 q g ∗ accP c (a + pr c 3) 64 q g) := by
  unfold accP
  refine cut4 (R_pieces c a) ?_ ?_ ?_ <;> (try simp only [Finset.disjoint_union_right]) <;> (try refine ⟨?_, ?_⟩) <;> (try refine ⟨?_, ?_⟩) <;>
    first | exact R_disjoint (by dsimp only [pr]; omega) | (refine ⟨?_, ?_⟩ <;> exact R_disjoint (by dsimp only [pr]; omega))
theorem t2_pieces (d : Dev nD) (t : ℕ) (g : S2x256x1024.Idx → F .bf16) : t2P (F := F) d t 0 256 g ⊣⊢
    iprop(t2P d t (pr c 0) 64 g ∗ t2P d t (pr c 1) 64 g ∗ t2P d t (pr c 2) 64 g ∗ t2P d t (pr c 3) 64 g) := by
  unfold t2P
  refine cut4 (B3_pieces c t) ?_ ?_ ?_ <;> (try simp only [Finset.disjoint_union_right]) <;> (try refine ⟨?_, ?_⟩) <;> (try refine ⟨?_, ?_⟩) <;>
    first | exact B3_disjoint (by dsimp only [pr]; omega) | (refine ⟨?_, ?_⟩ <;> exact B3_disjoint (by dsimp only [pr]; omega))
theorem acc_halves (a : ℕ) (q : PosShare TreeShare) (g : S1024x1024.Idx → F .bf16) :
    accP (F := F) c a 256 q g ⊣⊢ iprop(accP c a 128 q g ∗ accP c (a + 128) 128 q g) :=
  cut2 (R_union a 128 128) (R_disjoint (by omega))
theorem acc_share (a n : ℕ) (q : PosShare TreeShare) (g : S1024x1024.Idx → F .bf16) :
    accP (F := F) c a n q g ⊣⊢ iprop(accP c a n q.left g ∗ accP c a n q.right g) :=
  pointsTo_share (PosShare.mem_left_op_right q)
theorem t1_blocks (g : S2x128x1024.Idx → F .bf16) : ((((c : Thread nD τ).loc cc0_scratch1) ↦{fullShare} g : sProp 𝕄)) ⊣⊢ iprop(t1P c 0 g ∗ t1P c 1 g) := by
  unfold t1P
  exact cut2 (B3_two 128) (B3_disjoint (by omega))
theorem t2_blocks (g : S2x256x1024.Idx → F .bf16) : ((((c : Thread nD τ).loc cc0_scratch2) ↦{fullShare} g : sProp 𝕄)) ⊣⊢ iprop(t2P c 0 0 256 g ∗ t2P c 1 0 256 g) := by
  unfold t2P
  exact cut2 (B3_two 256) (B3_disjoint (by omega))
theorem z_blocks (g : S3x64x1024.Idx → F .bf16) : ((((c : Thread nD τ).loc cc0_scratch3) ↦{fullShare} g : sProp 𝕄)) ⊣⊢ iprop(zP c 0 g ∗ zP c 1 g ∗ zP c 2 g) := by
  unfold zP
  exact cut3 (B3_three 64) (Finset.disjoint_union_right.mpr ⟨B3_disjoint (by omega), B3_disjoint (by omega)⟩) (B3_disjoint (by omega))
/-- The landing pieces on `d`, whatever they hold. -/
theorem t2_any (d : Dev nD) (t : ℕ) : iprop(∃ f, t2P (F := F) d t 0 256 f) ⊢
    iprop((∃ f, t2P (F := F) d t (pr c 0) 64 f) ∗ (∃ f, t2P (F := F) d t (pr c 1) 64 f) ∗ (∃ f, t2P (F := F) d t (pr c 2) 64 f) ∗ ∃ f, t2P (F := F) d t (pr c 3) 64 f) := by
  iintro ⟨%f, H⟩
  icases (t2_pieces c d t f).1 $$ H with ⟨H0, H1, H2, H3⟩
  isplitl [H0]; · iexists f; iexact H0
  isplitl [H1]; · iexists f; iexact H1
  isplitl [H2]; · iexists f; iexact H2
  iexists f; iexact H3
end

section
variable (A : Dev nD → S1024x512.Idx → F .f32) (B : Dev nD → S512x1024.Idx → F .f32) (c : Dev nD)

theorem acc_PP_GG {a n : ℕ} (q : PosShare TreeShare) (h : (a = qr c 0 ∧ n = 256) ∨ (a = qr c 1 ∧ n = 128) ∨ (a = qr c 3 + 128 ∧ n = 128)) :
    accP c a n q (PP A B c) = accP c a n q (GG A B c) := by
  unfold accP
  exact pointsTo_congr fun i hi => GG_eq_PP A B c h hi

/-- What a message into a landing block brings, its sender and its sender's rows named. -/
theorem recvPay_at (m : Fin 26) (h : m.val < 13) {d : Dev nD} {a n : ℕ} (hd : frm m c = d) (ha : mrow m (frm m c) = a) (hn : mlen m = n) :
    recvPay A B m c = iprop(slotP A B m c ∗ ∃ f, accP d a n fullShare f) := by
  subst hd ha hn; exact if_pos h
/-- What a message of finished rows brings. -/
theorem recvPay_end (m : Fin 26) (h : 13 ≤ m.val) {a n : ℕ} (ha : mrow m (frm m c) = a) (hn : mlen m = n) :
    recvPay A B m c = accP c a n fullShare (FIN A B) := by
  subst ha hn; exact if_neg (by omega)

/-- A row's finished piece cut into the share kept for reading and the rest. -/
theorem acc_keep (a n : ℕ) (g : S1024x1024.Idx → F .bf16) : accP (F := F) c a n fullShare g ⊣⊢ iprop(accP c a n qM g ∗ accP c a n qK g) :=
  acc_share c a n fullShare g
end

end Cert.Allred

end
-- ==== Proof.Parts4.lean ====
/-
# The body, last stretch: finished rows sent back and widened into the result
-/
module

public import proofs.«01_k».proof.Proof.Pieces

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (A : Dev nD → S1024x512.Idx → F .f32) (B : Dev nD → S512x1024.Idx → F .f32) (K : Dev nD × Fin 41 → ℕ) (c : Dev nD)

theorem off21_0 (c : Dev nD) : k0_off21 c 0#32 = ![qr c 0 + pr c 0, 0] := by revert c; decide +kernel
theorem off21_1 (c : Dev nD) : k0_off21 c 1#32 = ![qr c 0 + pr c 3, 0] := by revert c; decide +kernel
theorem off21_2 (c : Dev nD) : k0_off21 c 2#32 = ![qr c 0 + pr c 2, 0] := by revert c; decide +kernel
theorem off21_3 (c : Dev nD) : k0_off21 c 3#32 = ![qr c 0 + pr c 1, 0] := by revert c; decide +kernel

theorem part37 {Q} (w1 w2 w3 w4 w5 w6 w7) :
    records A B K ⊢ iprop(St c 39 -∗ accP c (qr c 0 + pr c 0) 64 (share 13) (FIN A B) -∗ (∃ f, accP (F := F) (zr 0 c) (qr c 0 + pr c 0) 64 fullShare f) -∗ (∀ r, St c 40 -∗ Q r)
      -∗ Runs c (onBufs k0_part37 c w1 w2 w3 w4 w5 w6 w7) Q) := by
  unfold onBufs
  rw [k0_part37_eq_skeleton]
  unfold k0_part37_skel
  simp only [Prog.lift, Prog.bind_op, Prog.bind_ret, Prog.pure_eq_ret]
  obtain ⟨-, -, -, -, ⟨h19, -⟩, -⟩ := devs c
  iintro #HR HS P13 D13 Hk
  iapply (step_send_acc A B K c 13 (by decide) 39 40 (d := zr 0 c) (a := qr c 0 + pr c 0) (n := 64) rfl rfl (Fin.ext h19) rfl rfl (off20 c) rfl rfl rfl) $$ HR HS P13 D13
  iintro HS
  iapply (runs_ret c)
  iapply Hk
  iframe HS

theorem part38 {Q} (w1 w2 w3 w4) :
    ⊢ iprop((∀ r, Q r)
      -∗ Runs (F := F) c (onBufs k0_part38 w1 w2 w3 w4) Q) := by
  unfold onBufs
  rw [k0_part38_eq_skeleton]
  unfold k0_part38_skel
  simp only [Prog.lift, Prog.bind_op, Prog.bind_ret, Prog.pure_eq_ret]
  iintro Hk
  iapply (runs_ret c)
  iapply Hk

theorem part39 {Q} (w1 w2 w3) :
    records A B K ⊢ iprop(St c 40 -∗ accP c (qr c 0 + pr c 0) 64 (share 14) (FIN A B) -∗ (∃ f, accP (F := F) (zr 1 c) (qr c 0 + pr c 0) 64 fullShare f) -∗ (∀ r, St c 41 -∗ Q r)
      -∗ Runs c (onBufs k0_part39 c w1 w2 w3) Q) := by
  unfold onBufs
  rw [k0_part39_eq_skeleton]
  unfold k0_part39_skel
  simp only [Prog.lift, Prog.bind_op, Prog.bind_ret, Prog.pure_eq_ret]
  obtain ⟨-, -, -, -, ⟨-, h20, -⟩, -⟩ := devs c
  iintro #HR HS P14 D14 Hk
  iapply (step_send_acc A B K c 14 (by decide) 40 41 (d := zr 1 c) (a := qr c 0 + pr c 0) (n := 64) rfl rfl (Fin.ext h20) rfl rfl (off20 c) rfl rfl rfl) $$ HR HS P14 D14
  iintro HS
  iapply (runs_ret c)
  iapply Hk
  iframe HS

theorem part40 {Q} (w1 w2 w3 w4 w5 w6 w7 w8) :
    records A B K ⊢ iprop(St c 41 -∗ accP c (qr c 0 + pr c 0) 64 (share 15) (FIN A B) -∗ (∃ f, accP (F := F) (zr 2 c) (qr c 0 + pr c 0) 64 fullShare f) -∗ (∀ r, St c 42 -∗ Q r)
      -∗ Runs c (onBufs k0_part40 c w1 w2 w3 w4 w5 w6 w7 w8) Q) := by
  unfold onBufs
  rw [k0_part40_eq_skeleton]
  unfold k0_part40_skel
  simp only [Prog.lift, Prog.bind_op, Prog.bind_ret, Prog.pure_eq_ret]
  obtain ⟨-, -, -, -, ⟨-, -, h21⟩, -⟩ := devs c
  iintro #HR HS P15 D15 Hk
  iapply (step_send_acc A B K c 15 (by decide) 41 42 (d := zr 2 c) (a := qr c 0 + pr c 0) (n := 64) rfl rfl (Fin.ext h21) rfl rfl (off20 c) rfl rfl rfl) $$ HR HS P15 D15
  iintro HS
  iapply (runs_ret c)
  iapply Hk
  iframe HS

theorem part41 {Q} (w1 w2 w3 w4) :
    records A B K ⊢ iprop(levAts L lv -∗ St c 42 -∗ accP c (qr c 0 + pr c 0) 64 (share 16) (FIN A B) -∗ (∃ f, accP (F := F) (up c) (qr c 0 + pr c 0) 64 fullShare f) -∗ accP c (qr c 0 + pr c 0) 64 (share 20) (FIN A B) -∗ (∃ f, accP (F := F) (dn c) (qr c 0 + pr c 0) 64 fullShare f) -∗ (∀ r, (St c 45 ∗ sendPay A B (sendIx 13) (sendRd 13) c) -∗ Q r)
      -∗ Runs c (onBufs k0_part41 c w1 w2 w3 w4) Q) := by
  unfold onBufs
  rw [k0_part41_eq_skeleton]
  unfold k0_part41_skel
  simp only [Prog.lift, Prog.bind_op, Prog.bind_ret, Prog.pure_eq_ret]
  obtain ⟨-, -, -, -, -, ⟨h22, h23, -⟩, -⟩ := devs c
  iintro #HR #HL HS P16 D16 P20 D20 Hk
  iapply (step_send_acc A B K c 16 (by decide) 42 43 (d := up c) (a := qr c 0 + pr c 0) (n := 64) rfl rfl (Fin.ext h22) rfl rfl (off21_0 c) rfl rfl rfl) $$ HR HS P16 D16
  iintro HS
  iapply (step_send_acc A B K c 20 (by decide) 43 44 (d := dn c) (a := qr c 0 + pr c 0) (n := 64) rfl rfl (Fin.ext h23) rfl rfl (off21_0 c) rfl rfl rfl) $$ HR HS P20 D20
  iintro HS
  iapply (step_ws A B K c 13 44 45 rfl rfl rfl rfl) $$ HR HL HS
  iintro ⟨HS, W13⟩
  iapply (runs_ret c)
  iapply Hk
  iframe HS W13

theorem part42 {Q} (w1 w2 w3 w4) :
    records A B K ⊢ iprop(levAts L lv -∗ St c 45 -∗ (∀ r, (St c 46 ∗ recvPay A B 13 c) -∗ Q r)
      -∗ Runs c (onBufs k0_part42 c w1 w2 w3 w4) Q) := by
  unfold onBufs
  rw [k0_part42_eq_skeleton]
  unfold k0_part42_skel
  simp only [Prog.lift, Prog.bind_op, Prog.bind_ret, Prog.pure_eq_ret]
  iintro #HR #HL HS Hk
  iapply (step_rv A B K c 13 45 46 rfl rfl rfl rfl) $$ HR HL HS
  iintro ⟨HS, V13⟩
  iapply (runs_ret c)
  iapply Hk
  iframe HS V13

theorem part43 {Q} (w1 w2 w3 w4) :
    records A B K ⊢ iprop(levAts L lv -∗ St c 46 -∗ accP c (qr c 0 + pr c 3) 64 (share 17) (FIN A B) -∗ (∃ f, accP (F := F) (up c) (qr c 0 + pr c 3) 64 fullShare f) -∗ accP c (qr c 0 + pr c 3) 64 (share 21) (FIN A B) -∗ (∃ f, accP (F := F) (dn c) (qr c 0 + pr c 3) 64 fullShare f) -∗ (∀ r, (St c 50 ∗ sendPay A B (sendIx 14) (sendRd 14) c ∗ recvPay A B 14 c) -∗ Q r)
      -∗ Runs c (onBufs k0_part43 c w1 w2 w3 w4) Q) := by
  unfold onBufs
  rw [k0_part43_eq_skeleton]
  unfold k0_part43_skel
  simp only [Prog.lift, Prog.bind_op, Prog.bind_ret, Prog.pure_eq_ret]
  obtain ⟨-, -, -, -, -, ⟨-, -, h24, h25, -⟩, -⟩ := devs c
  iintro #HR #HL HS P17 D17 P21 D21 Hk
  iapply (step_send_acc A B K c 17 (by decide) 46 47 (d := up c) (a := qr c 0 + pr c 3) (n := 64) rfl rfl (Fin.ext h24) rfl rfl (off21_1 c) rfl rfl rfl) $$ HR HS P17 D17
  iintro HS
  iapply (step_send_acc A B K c 21 (by decide) 47 48 (d := dn c) (a := qr c 0 + pr c 3) (n := 64) rfl rfl (Fin.ext h25) rfl rfl (off21_1 c) rfl rfl rfl) $$ HR HS P21 D21
  iintro HS
  iapply (step_ws A B K c 14 48 49 rfl rfl rfl rfl) $$ HR HL HS
  iintro ⟨HS, W14⟩
  iapply (step_rv A B K c 14 49 50 rfl rfl rfl rfl) $$ HR HL HS
  iintro ⟨HS, V14⟩
  iapply (runs_ret c)
  iapply Hk
  iframe HS W14 V14

theorem part44 {Q} (w1 w2 w3 w4 w5 w6) :
    records A B K ⊢ iprop(St c 50 -∗ accP c (qr c 0 + pr c 2) 64 (share 18) (FIN A B) -∗ (∃ f, accP (F := F) (up c) (qr c 0 + pr c 2) 64 fullShare f) -∗ accP c (qr c 0 + pr c 2) 64 (share 22) (FIN A B) -∗ (∃ f, accP (F := F) (dn c) (qr c 0 + pr c 2) 64 fullShare f) -∗ (∀ r, St c 52 -∗ Q r)
      -∗ Runs c (onBufs k0_part44 c w1 w2 w3 w4 w5 w6) Q) := by
  unfold onBufs
  rw [k0_part44_eq_skeleton]
  unfold k0_part44_skel
  simp only [Prog.lift, Prog.bind_op, Prog.bind_ret, Prog.pure_eq_ret]
  obtain ⟨-, -, -, -, -, ⟨-, -, -, -, h26, h27, -⟩, -⟩ := devs c
  iintro #HR HS P18 D18 P22 D22 Hk
  iapply (step_send_acc A B K c 18 (by decide) 50 51 (d := up c) (a := qr c 0 + pr c 2) (n := 64) rfl rfl (Fin.ext h26) rfl rfl (off21_2 c) rfl rfl rfl) $$ HR HS P18 D18
  iintro HS
  iapply (step_send_acc A B K c 22 (by decide) 51 52 (d := dn c) (a := qr c 0 + pr c 2) (n := 64) rfl rfl (Fin.ext h27) rfl rfl (off21_2 c) rfl rfl rfl) $$ HR HS P22 D22
  iintro HS
  iapply (runs_ret c)
  iapply Hk
  iframe HS

theorem part45 {Q} (w1 w2 w3 w4) :
    records A B K ⊢ iprop(levAts L lv -∗ St c 52 -∗ (∀ r, (St c 54 ∗ sendPay A B (sendIx 15) (sendRd 15) c ∗ recvPay A B 15 c) -∗ Q r)
      -∗ Runs c (onBufs k0_part45 c w1 w2 w3 w4) Q) := by
  unfold onBufs
  rw [k0_part45_eq_skeleton]
  unfold k0_part45_skel
  simp only [Prog.lift, Prog.bind_op, Prog.bind_ret, Prog.pure_eq_ret]
  iintro #HR #HL HS Hk
  iapply (step_ws A B K c 15 52 53 rfl rfl rfl rfl) $$ HR HL HS
  iintro ⟨HS, W15⟩
  iapply (step_rv A B K c 15 53 54 rfl rfl rfl rfl) $$ HR HL HS
  iintro ⟨HS, V15⟩
  iapply (runs_ret c)
  iapply Hk
  iframe HS W15 V15

theorem part46 {Q} (w1 w2 w3 w4) :
    records A B K ⊢ iprop(St c 54 -∗ accP c (qr c 0 + pr c 1) 64 (share 19) (FIN A B) -∗ (∃ f, accP (F := F) (up c) (qr c 0 + pr c 1) 64 fullShare f) -∗ accP c (qr c 0 + pr c 1) 64 (share 23) (FIN A B) -∗ (∃ f, accP (F := F) (dn c) (qr c 0 + pr c 1) 64 fullShare f) -∗ accP c (qr c 0) 256 qK (FIN A B) -∗ (∃ f, outP (F := F) c (qr c 0) 256 f) -∗ (∀ r, (St c 56 ∗ accP c (qr c 0) 256 qK (FIN A B) ∗ outP c (qr c 0) 256 (outAt A B)) -∗ Q r)
      -∗ Runs c (onBufs k0_part46 c w1 w2 w3 w4) Q) := by
  unfold onBufs
  rw [k0_part46_eq_skeleton]
  unfold k0_part46_skel
  simp only [Prog.lift, Prog.bind_op, Prog.bind_ret, Prog.pure_eq_ret]
  obtain ⟨-, -, -, -, -, ⟨-, -, -, -, -, -, h28, h29⟩, -⟩ := devs c
  iintro #HR HS P19 D19 P23 D23 H ⟨%f, HO⟩ Hk
  iapply (step_send_acc A B K c 19 (by decide) 54 55 (d := up c) (a := qr c 0 + pr c 1) (n := 64) rfl rfl (Fin.ext h28) rfl rfl (off21_3 c) rfl rfl rfl) $$ HR HS P19 D19
  iintro HS
  iapply (step_send_acc A B K c 23 (by decide) 55 56 (d := dn c) (a := qr c 0 + pr c 1) (n := 64) rfl rfl (Fin.ext h29) rfl rfl (off21_3 c) rfl rfl rfl) $$ HR HS P23 D23
  iintro HS
  iapply (load_acc c (off14 c) (by omega)) $$ H
  iintro H
  iapply (load_out c (off14 c) (by omega)) $$ HO
  iintro HO
  iapply (store_out c (off14 c) (fun j => pay16_out A B (qr c 0) j)) $$ HO
  iintro HO
  iapply (runs_ret c)
  iapply Hk
  iframe HS H HO

theorem part47 {Q} (w1 w2) :
    records A B K ⊢ iprop(levAts L lv -∗ St c 56 -∗ (∀ r, (St c 62 ∗ sendPay A B (sendIx 16) (sendRd 16) c ∗ recvPay A B 16 c ∗ sendPay A B (sendIx 20) (sendRd 20) c ∗ recvPay A B 20 c ∗ sendPay A B (sendIx 17) (sendRd 17) c ∗ recvPay A B 17 c) -∗ Q r)
      -∗ Runs c (onBufs k0_part47 c w1 w2) Q) := by
  unfold onBufs
  rw [k0_part47_eq_skeleton]
  unfold k0_part47_skel
  simp only [Prog.lift, Prog.bind_op, Prog.bind_ret, Prog.pure_eq_ret]
  iintro #HR #HL HS Hk
  iapply (step_ws A B K c 16 56 57 rfl rfl rfl rfl) $$ HR HL HS
  iintro ⟨HS, W16⟩
  iapply (step_rv A B K c 16 57 58 rfl rfl rfl rfl) $$ HR HL HS
  iintro ⟨HS, V16⟩
  iapply (step_ws A B K c 20 58 59 rfl rfl rfl rfl) $$ HR HL HS
  iintro ⟨HS, W20⟩
  iapply (step_rv A B K c 20 59 60 rfl rfl rfl rfl) $$ HR HL HS
  iintro ⟨HS, V20⟩
  iapply (step_ws A B K c 17 60 61 rfl rfl rfl rfl) $$ HR HL HS
  iintro ⟨HS, W17⟩
  iapply (step_rv A B K c 17 61 62 rfl rfl rfl rfl) $$ HR HL HS
  iintro ⟨HS, V17⟩
  iapply (runs_ret c)
  iapply Hk
  iframe HS W16 V16 W20 V20 W17 V17

theorem part48 {Q} (w1 w2) :
    records A B K ⊢ iprop(levAts L lv -∗ St c 62 -∗ (∀ r, (St c 67 ∗ sendPay A B (sendIx 21) (sendRd 21) c ∗ recvPay A B 21 c ∗ sendPay A B (sendIx 18) (sendRd 18) c ∗ recvPay A B 18 c ∗ sendPay A B (sendIx 22) (sendRd 22) c) -∗ Q r)
      -∗ Runs c (onBufs k0_part48 c w1 w2) Q) := by
  unfold onBufs
  rw [k0_part48_eq_skeleton]
  unfold k0_part48_skel
  simp only [Prog.lift, Prog.bind_op, Prog.bind_ret, Prog.pure_eq_ret]
  iintro #HR #HL HS Hk
  iapply (step_ws A B K c 21 62 63 rfl rfl rfl rfl) $$ HR HL HS
  iintro ⟨HS, W21⟩
  iapply (step_rv A B K c 21 63 64 rfl rfl rfl rfl) $$ HR HL HS
  iintro ⟨HS, V21⟩
  iapply (step_ws A B K c 18 64 65 rfl rfl rfl rfl) $$ HR HL HS
  iintro ⟨HS, W18⟩
  iapply (step_rv A B K c 18 65 66 rfl rfl rfl rfl) $$ HR HL HS
  iintro ⟨HS, V18⟩
  iapply (step_ws A B K c 22 66 67 rfl rfl rfl rfl) $$ HR HL HS
  iintro ⟨HS, W22⟩
  iapply (runs_ret c)
  iapply Hk
  iframe HS W21 V21 W18 V18 W22

theorem part49 {Q} (w1 w2 w3 w4) :
    records A B K ⊢ iprop(levAts L lv -∗ St c 67 -∗ (∀ r, (St c 72 ∗ recvPay A B 22 c ∗ sendPay A B (sendIx 19) (sendRd 19) c ∗ recvPay A B 19 c ∗ sendPay A B (sendIx 23) (sendRd 23) c ∗ recvPay A B 23 c) -∗ Q r)
      -∗ Runs c (onBufs k0_part49 c w1 w2 w3 w4) Q) := by
  unfold onBufs
  rw [k0_part49_eq_skeleton]
  unfold k0_part49_skel
  simp only [Prog.lift, Prog.bind_op, Prog.bind_ret, Prog.pure_eq_ret]
  iintro #HR #HL HS Hk
  iapply (step_rv A B K c 22 67 68 rfl rfl rfl rfl) $$ HR HL HS
  iintro ⟨HS, V22⟩
  iapply (step_ws A B K c 19 68 69 rfl rfl rfl rfl) $$ HR HL HS
  iintro ⟨HS, W19⟩
  iapply (step_rv A B K c 19 69 70 rfl rfl rfl rfl) $$ HR HL HS
  iintro ⟨HS, V19⟩
  iapply (step_ws A B K c 23 70 71 rfl rfl rfl rfl) $$ HR HL HS
  iintro ⟨HS, W23⟩
  iapply (step_rv A B K c 23 71 72 rfl rfl rfl rfl) $$ HR HL HS
  iintro ⟨HS, V23⟩
  iapply (runs_ret c)
  iapply Hk
  iframe HS V22 W19 V19 W23 V23

theorem part50 {Q} (w1 w2 w3 w4) :
    ⊢ iprop((∀ r, Q r)
      -∗ Runs (F := F) c (onBufs k0_part50 w1 w2 w3 w4) Q) := by
  unfold onBufs
  rw [k0_part50_eq_skeleton]
  unfold k0_part50_skel
  simp only [Prog.lift, Prog.bind_op, Prog.bind_ret, Prog.pure_eq_ret]
  iintro Hk
  iapply (runs_ret c)
  iapply Hk

theorem part51 {Q} (w1 w2 w3 w4 w5) :
    records A B K ⊢ iprop(St c 72 -∗ accP c (qr c 3) 128 (share 24) (FIN A B) -∗ (∃ f, accP (F := F) (up c) (qr c 3) 128 fullShare f) -∗ accP c (qr c 1 + 128) 128 (share 25) (FIN A B) -∗ (∃ f, accP (F := F) (dn c) (qr c 1 + 128) 128 fullShare f) -∗ (∀ r, St c 74 -∗ Q r)
      -∗ Runs c (onBufs k0_part51 c w1 w2 w3 w4 w5) Q) := by
  unfold onBufs
  rw [k0_part51_eq_skeleton]
  unfold k0_part51_skel
  simp only [Prog.lift, Prog.bind_op, Prog.bind_ret, Prog.pure_eq_ret]
  obtain ⟨-, -, -, -, -, -, ⟨h30, h31⟩⟩ := devs c
  iintro #HR HS P24 D24 P25 D25 Hk
  iapply (step_send_acc A B K c 24 (by decide) 72 73 (d := up c) (a := qr c 3) (n := 128) rfl rfl (Fin.ext h30) rfl rfl (off22 c) rfl rfl rfl) $$ HR HS P24 D24
  iintro HS
  iapply (step_send_acc A B K c 25 (by decide) 73 74 (d := dn c) (a := qr c 1 + 128) (n := 128) rfl rfl (Fin.ext h31) rfl rfl (off3_2 c) rfl rfl rfl) $$ HR HS P25 D25
  iintro HS
  iapply (runs_ret c)
  iapply Hk
  iframe HS

theorem part52 {Q} (w1 w2 w3 w4) :
    records A B K ⊢ iprop(levAts L lv -∗ St c 74 -∗ accP c (qr c 1) 256 qK (FIN A B) -∗ accP c (qr c 3) 256 qK (FIN A B) -∗ (∃ f, outP (F := F) c (qr c 1) 256 f) -∗ (∃ f, outP (F := F) c (qr c 3) 256 f) -∗ (∀ r, (St c 75 ∗ accP c (qr c 1) 256 qK (FIN A B) ∗ accP c (qr c 3) 256 qK (FIN A B) ∗ outP c (qr c 1) 256 (outAt A B) ∗ outP c (qr c 3) 256 (outAt A B) ∗ sendPay A B (sendIx 24) (sendRd 24) c) -∗ Q r)
      -∗ Runs c (onBufs k0_part52 c w1 w2 w3 w4) Q) := by
  unfold onBufs
  rw [k0_part52_eq_skeleton]
  unfold k0_part52_skel
  simp only [Prog.lift, Prog.bind_op, Prog.bind_ret, Prog.pure_eq_ret]
  iintro #HR #HL HS H1 H3 ⟨%f1, O1⟩ ⟨%f3, O3⟩ Hk
  iapply (load_acc c (off5_0 c) (by omega)) $$ H1
  iintro H1
  iapply (load_out c (off5_0 c) (by omega)) $$ O1
  iintro O1
  iapply (store_out c (off5_0 c) (fun j => pay16_out A B (qr c 1) j)) $$ O1
  iintro O1
  iapply (load_acc c (off7 c) (by omega)) $$ H3
  iintro H3
  iapply (load_out c (off7 c) (by omega)) $$ O3
  iintro O3
  iapply (store_out c (off7 c) (fun j => pay16_out A B (qr c 3) j)) $$ O3
  iintro O3
  iapply (step_ws A B K c 24 74 75 rfl rfl rfl rfl) $$ HR HL HS
  iintro ⟨HS, W24⟩
  iapply (runs_ret c)
  iapply Hk
  iframe HS H1 H3 O1 O3 W24

theorem part53 {Q} (w1 w2 w3) :
    records A B K ⊢ iprop(levAts L lv -∗ St c 75 -∗ ((St c 78 ∗ sendPay A B (sendIx 25) (sendRd 25) c ∗ accP c (qr c 2) 256 fullShare (FIN A B)) -∗ Q (k0_pay19 (rows 256 (qr c 2) (FIN A B))))
      -∗ Runs c (onBufs k0_part53 c w1 w2 w3) Q) := by
  unfold onBufs
  rw [k0_part53_eq_skeleton]
  unfold k0_part53_skel
  simp only [Prog.lift, Prog.bind_op, Prog.bind_ret, Prog.pure_eq_ret]
  iintro #HR #HL HS Hk
  iapply (step_rv A B K c 24 75 76 rfl rfl rfl rfl) $$ HR HL HS
  iintro ⟨HS, V24⟩
  iapply (step_ws A B K c 25 76 77 rfl rfl rfl rfl) $$ HR HL HS
  iintro ⟨HS, W25⟩
  iapply (step_rv A B K c 25 77 78 rfl rfl rfl rfl) $$ HR HL HS
  iintro ⟨HS, V25⟩
  ihave V24 := (Entails.of_eq (recvPay_end A B c 24 (by decide) (a := qr c 2) (n := 128) (by revert c; decide) rfl)) $$ V24
  ihave V25 := (Entails.of_eq (recvPay_end A B c 25 (by decide) (a := qr c 2 + 128) (n := 128) (by revert c; decide) rfl)) $$ V25
  ihave H := (acc_halves c (qr c 2) fullShare (FIN A B)).2 $$ [V24 V25]
  · iframe V24 V25
  iapply (load_acc c (off5_1 c) (by omega)) $$ H
  iintro H
  iapply (runs_ret c)
  iapply Hk
  iframe HS W25 H

end

end Cert.Allred

end
-- ==== Proof.Body.lean ====
/-
# The body, whole
-/
module

public import proofs.«01_k».proof.Proof.Parts2
public import proofs.«01_k».proof.Proof.Parts3
public import proofs.«01_k».proof.Proof.Parts4

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

section
variable (c : Dev nD)

theorem acc_cut (a n : ℕ) {q l r : PosShare TreeShare} (hl : q.left = l) (hr : q.right = r) (g : S1024x1024.Idx → F .bf16) :
    accP (F := F) c a n q g ⊣⊢ iprop(accP c a n l g ∗ accP c a n r g) := by subst hl hr; exact acc_share c a n q g
theorem acc_as (a n : ℕ) {q q' : PosShare TreeShare} (h : q = q') (g : S1024x1024.Idx → F .bf16) :
    accP (F := F) c a n q g ⊢ accP c a n q' g := by subst h; exact .rfl

theorem runs_bind {α β : Type} {p : Prog (TpuEff nD τ sig (Elt F) Λ₀ .tc) α} {k : α → Prog (TpuEff nD τ sig (Elt F) Λ₀ .tc) β} {Q : β → sProp 𝕄} :
    Runs c p (fun r => Runs c (k r) Q) ⊢ Runs c (p >>= k) Q := by
  unfold Runs
  rw [wp_bind]

/-- What is handed to a neighbour to fill, per direction. -/
theorem land_0 (f : S2x128x1024.Idx → F .bf16) (g : S2x256x1024.Idx → F .bf16) : iprop(t1P c 0 f ∗ t2P c 0 0 256 g) ⊢ landing (F := F) 0 c := by
  unfold landing
  iintro ⟨H, H'⟩
  isplitl [H]
  · iexists f; iexact H
  · iexists g; iexact H'
theorem land_1 (f : S2x128x1024.Idx → F .bf16) (g : S2x256x1024.Idx → F .bf16) : iprop(t1P c 1 f ∗ t2P c 1 0 256 g) ⊢ landing (F := F) 1 c := by
  unfold landing
  iintro ⟨H, H'⟩
  isplitl [H]
  · iexists f; iexact H
  · iexists g; iexact H'
theorem land_2 (f : S3x64x1024.Idx → F .bf16) : zP c 0 f ⊢ landing (F := F) 2 c := by
  unfold landing; iintro H; iexists f; iexact H
theorem land_3 (f : S3x64x1024.Idx → F .bf16) : zP c 1 f ⊢ landing (F := F) 3 c := by
  unfold landing; iintro H; iexists f; iexact H
theorem land_4 (f : S3x64x1024.Idx → F .bf16) : zP c 2 f ⊢ landing (F := F) 4 c := by
  unfold landing; iintro H; iexists f; iexact H
theorem land_0_iff : landing (F := F) 0 c ⊢ iprop((∃ f, t1P (F := F) c 0 f) ∗ ∃ f, t2P (F := F) c 0 0 256 f) := .rfl
theorem land_1_iff : landing (F := F) 1 c ⊢ iprop((∃ f, t1P (F := F) c 1 f) ∗ ∃ f, t2P (F := F) c 1 0 256 f) := .rfl
theorem land_2_iff : landing (F := F) 2 c ⊢ iprop(∃ f, zP (F := F) c 0 f) := .rfl
theorem land_3_iff : landing (F := F) 3 c ⊢ iprop(∃ f, zP (F := F) c 1 f) := .rfl
theorem land_4_iff : landing (F := F) 4 c ⊢ iprop(∃ f, zP (F := F) c 2 f) := .rfl
theorem any_acc (a n : ℕ) (f : S1024x1024.Idx → F .bf16) : accP c a n fullShare f ⊢ iprop(∃ f, accP (F := F) c a n fullShare f) := by
  iintro H; iexists f; iexact H
theorem any_out (a : ℕ) (f : S1024x1024.Idx → F .f32) : outP c a 256 f ⊢ iprop(∃ f, outP (F := F) c a 256 f) := by
  iintro H; iexists f; iexact H
end

section
variable (A : Dev nD → S1024x512.Idx → F .f32) (B : Dev nD → S512x1024.Idx → F .f32) (K : Dev nD × Fin 41 → ℕ) (c : Dev nD)

theorem slotP_0 : slotP A B 0 c = t1P c 0 (t1C A B c) := rfl
theorem slotP_1 : slotP A B 1 c = t1P c 1 (t1C A B c) := rfl
theorem slotP_up (m : Fin 26) (i : ℕ) (h : 2 ≤ m.val ∧ m.val < 6) (hi : mp m = i) : slotP A B m c = t2P c 0 (pr c i) 64 (t2C A B c) := by
  subst hi; unfold slotP; rw [if_neg (by omega), if_neg (by omega), if_pos h.2]
theorem slotP_dn (m : Fin 26) (i : ℕ) (h : 6 ≤ m.val ∧ m.val < 10) (hi : mp m = i) : slotP A B m c = t2P c 1 (pr c i) 64 (t2C A B c) := by
  subst hi; unfold slotP; rw [if_neg (by omega), if_neg (by omega), if_neg (by omega), if_pos h.2]
theorem slotP_z (m : Fin 26) (k : ℕ) (h : m.val = 10 + k) : slotP A B m c = zP c k (zC A B c) := by
  unfold slotP; rw [if_neg (by omega), if_neg (by omega), if_neg (by omega), if_neg (by omega), show m.val - 10 = k by omega]
/-- The rows a message of finished rows read, named. -/
theorem acc_at (m : Fin 26) {a n : ℕ} (ha : mrow m c = a) (hn : mlen m = n) :
    accP c (mrow m c) (mlen m) (share m) (FIN A B) = accP c a n (share m) (FIN A B) := by rw [ha, hn]

/-- The whole body: from its buffers, its part of the protocol and what it owes, to the result and its buffers back. -/
theorem body {Q : PUnit → sProp 𝕄} (f0 : S1024x1024.Idx → F .bf16) (f1 : S2x128x1024.Idx → F .bf16) (f2 : S2x256x1024.Idx → F .bf16) (f3 : S3x64x1024.Idx → F .bf16) (fo : S1024x1024.Idx → F .f32) :
    records A B K ⊢ iprop(levAts L lv -∗ St₀ c 0 -∗ aPts c (A c) -∗ bPts c (B c) -∗ (((c : Thread nD τ).loc cc0_stg2_0) ↦{fullShare} fo)
      -∗ (((c : Thread nD τ).loc cc0_scratch0) ↦{fullShare} f0) -∗ (((c : Thread nD τ).loc cc0_scratch1) ↦{fullShare} f1)
      -∗ (((c : Thread nD τ).loc cc0_scratch2) ↦{fullShare} f2) -∗ (((c : Thread nD τ).loc cc0_scratch3) ↦{fullShare} f3)
      -∗ ((St c 78 ∗ atPos ER (barCell c) 1 ∅ 0 ∗ aPts c (A c) ∗ bPts c (B c) ∗ (((c : Thread nD τ).loc cc0_stg2_0) ↦{fullShare} outAt A B)
        ∗ (((c : Thread nD τ).loc cc0_scratch0) ↦{fullShare} FIN A B) ∗ (((c : Thread nD τ).loc cc0_scratch1) ↦{fullShare} t1C A B c)
        ∗ (((c : Thread nD τ).loc cc0_scratch2) ↦{fullShare} t2C A B c) ∗ (((c : Thread nD τ).loc cc0_scratch3) ↦{fullShare} zC A B c)) -∗ Q ⟨⟩)
      -∗ Runs c (onBufs cc0_body) Q) := by
  unfold onBufs
  rw [cc0_body_eq_skeleton]
  unfold cc0_body_skel
  iintro #HR #HL HS HA HB HO HX HT1 HT2 HZ Hk
  icases (acc_quarters c fullShare f0).1 $$ HX with ⟨Q0, Q1, Q2, Q3⟩
  icases (acc_halves c (qr c 2) fullShare f0).1 $$ Q2 with ⟨Q2a, Q2b⟩
  icases (t1_blocks c f1).1 $$ HT1 with ⟨T10, T11⟩
  icases (t2_blocks c f2).1 $$ HT2 with ⟨T20, T21⟩
  icases (z_blocks c f3).1 $$ HZ with ⟨Z0, Z1, Z2⟩
  icases (out_quarters c fo).1 $$ HO with ⟨O0, O1, O2, O3⟩
  iapply (runs_bind c)
  iapply (part1 c)
  iintro %r %hr
  obtain ⟨d0, v19, v29, v30, v33, v34, v35, v36⟩ := r
  obtain rfl : c = d0 := hr.symm
  clear hr
  iapply (runs_bind c)
  iapply (part2 c _ _ _ _ _ _ _)
  iintro %r
  obtain ⟨v42, v55, v68, v71, v72, v73, c0_i32_39⟩ := r
  ihave L0 := (land_0 c _ _) $$ [T10 T20]
  · iframe T10 T20
  ihave L1 := (land_1 c _ _) $$ [T11 T21]
  · iframe T11 T21
  ihave L2 := (land_2 c _) $$ Z0
  ihave L3 := (land_3 c _) $$ Z1
  ihave L4 := (land_4 c _) $$ Z2
  iapply (runs_bind c)
  iapply (part3 A B K c _ _ _ _ _ _ _ _ _) $$ HR HS L0 L1 L4 L3
  iintro %r %hr HS
  obtain ⟨v81, v94, v95, v104, c0_i32_63⟩ := r
  obtain rfl : v95 = SemArray.scalar (sig.barrier 0 rfl) := hr
  ihave Q2b := (any_acc c _ _ _) $$ Q2b
  iapply (runs_bind c)
  iapply (part4 A B K c _ _ _) $$ HR HL HS L2 HA HB Q2b
  iintro %r ⟨⟨HS, Hbar, L0, L1, L2, L3, L4⟩, HA, HB, Q2b⟩
  obtain ⟨v132, v133, v138⟩ := r
  icases (land_0_iff (up c)) $$ L0 with ⟨T1u, T2u⟩
  icases (land_1_iff (dn c)) $$ L1 with ⟨T1d, T2d⟩
  ihave L2 := (land_2_iff (zr 0 c)) $$ L2
  ihave L3 := (land_3_iff (zr 1 c)) $$ L3
  ihave L4 := (land_4_iff (zr 2 c)) $$ L4
  iapply (runs_bind c)
  iapply (part5 A B K c _ _ _ _ _ f0) $$ HR HS HA HB Q2b T1u Q2a
  iintro %r %hr ⟨HS, HA, HB, Q2a⟩
  obtain ⟨v171, v173⟩ := r
  obtain rfl : v171 = k0_pay2 (arows 128 (qr c 2) (A c)) (B c) := hr
  iapply (runs_bind c)
  iapply (part6 A B K c _ _ _ f0) $$ HR HS Q2a T1d
  iintro %r HS
  obtain ⟨v201, v206, v207⟩ := r
  iapply (runs_bind c)
  iapply (part7 A B c _ _ _ _ f0 f0) $$ HA HB Q1 Q3
  iintro %r ⟨HA, HB, Q1, Q3⟩
  iapply (runs_bind c)
  iapply (part8 A B K c _ _ _) $$ HR HL HS
  iintro %r ⟨HS, V0, V1⟩
  obtain ⟨v268, c4_i32_179, v269⟩ := r
  icases (Entails.of_eq (recvPay_at A B c 0 (by decide) (d := dn c) (a := qr c 1 + 128) (n := 128) rfl (by revert c; decide) rfl)) $$ V0 with ⟨T10, E25⟩
  icases (Entails.of_eq (recvPay_at A B c 1 (by decide) (d := up c) (a := qr c 3) (n := 128) rfl (by revert c; decide) rfl)) $$ V1 with ⟨T11, E24⟩
  ihave T10 := (Entails.of_eq (slotP_0 A B c)) $$ T10
  ihave T11 := (Entails.of_eq (slotP_1 A B c)) $$ T11
  icases (acc_halves c (qr c 1) fullShare (PP A B c)).1 $$ Q1 with ⟨Q1a, Q1b⟩
  icases (acc_halves c (qr c 3) fullShare (PP A B c)).1 $$ Q3 with ⟨Q3a, Q3b⟩
  iapply (runs_bind c)
  iapply (part9 A B c _ _ _ _) $$ Q1b T10
  iintro %r ⟨T10, Q1b⟩
  obtain ⟨v303, c4_i32_202, v304, c1_i32_204⟩ := r
  iapply (runs_bind c)
  iapply (part10 A B c _ _ _ _ _ _) $$ Q3a T11
  iintro %r ⟨T11, Q3a⟩
  obtain ⟨v338, v339, c4_i32_225, v340⟩ := r
  ihave Q1a := (Entails.of_eq (acc_PP_GG A B c fullShare (Or.inr (Or.inl ⟨rfl, rfl⟩)))) $$ Q1a
  ihave Q3b := (Entails.of_eq (acc_PP_GG A B c fullShare (Or.inr (Or.inr ⟨rfl, rfl⟩)))) $$ Q3b
  ihave Q1 := (acc_halves c (qr c 1) fullShare (GG A B c)).2 $$ [Q1a Q1b]
  · iframe Q1a Q1b
  ihave Q3 := (acc_halves c (qr c 3) fullShare (GG A B c)).2 $$ [Q3a Q3b]
  · iframe Q3a Q3b
  icases (acc_pieces c (qr c 1) fullShare (GG A B c)).1 $$ Q1 with ⟨P2, P3, P4, P5⟩
  icases (acc_pieces c (qr c 3) fullShare (GG A B c)).1 $$ Q3 with ⟨P6, P7, P8, P9⟩
  icases (t2_any c (up c) 0) $$ T2u with ⟨D2, D3, D4, D5⟩
  icases (t2_any c (dn c) 1) $$ T2d with ⟨D6, D7, D8, D9⟩
  iapply (runs_bind c)
  iapply (part11 c _ _ _ _ _ _)
  iintro %r
  obtain ⟨v375, v376, c4_i32_248, c0_i32_249⟩ := r
  iapply (runs_bind c)
  iapply (part12 c _ _ _ _ _ _)
  iintro %r
  iapply (runs_bind c)
  iapply (part13 A B K c _ _ _ _) $$ HR HS P2 D2 P6 D6
  iintro %r HS
  obtain ⟨v442, v444, v445, v446, c0_i32_296⟩ := r
  iapply (runs_bind c)
  iapply (part14 c _ _ _ _ _ _ _)
  iintro %r
  obtain ⟨v479, v481, v482, v483⟩ := r
  iapply (runs_bind c)
  iapply (part15 A B K c _ _ _ _ _ _ _) $$ HR HS P3 D3
  iintro %r HS
  iapply (runs_bind c)
  iapply (part16 A B K c _ _) $$ HR HS P7 D7
  iintro %r HS
  obtain ⟨v549, v550, v551, v552, v553⟩ := r
  iapply (runs_bind c)
  iapply (part17 c _ _ _ _ _ _ _)
  iintro %r
  obtain ⟨v586, v587, v588, v589, c0_i32_390⟩ := r
  iapply (runs_bind c)
  iapply (part18 A B K c _ _ _ _ _ _ _ _ _) $$ HR HS P4 D4 P8 D8
  iintro %r HS
  obtain ⟨v615, v618, v623, v624⟩ := r
  iapply (runs_bind c)
  iapply (part19 c _ _ _ _ _ _)
  iintro %r
  obtain ⟨v652, v654, v655, v660⟩ := r
  iapply (runs_bind c)
  iapply (part20 A B K c _ _ _ _ _ _) $$ HR HS P5 D5
  iintro %r HS
  ihave Q0 := (any_acc c _ _ _) $$ Q0
  iapply (runs_bind c)
  iapply (part21 A B K c _ _) $$ HR HS P9 D9 HA HB Q0
  iintro %r ⟨HS, HA, HB, Q0⟩
  ihave Q0 := (Entails.of_eq (acc_PP_GG A B c fullShare (Or.inl ⟨rfl, rfl⟩))) $$ Q0
  icases (acc_pieces c (qr c 0) fullShare (GG A B c)).1 $$ Q0 with ⟨S0, S1, S2, S3⟩
  iapply (runs_bind c)
  iapply (part22 A B K c _ _ _ _) $$ HR HL HS
  iintro %r ⟨HS, V2, V6⟩
  obtain ⟨v752, v754, v755, v756, v757, v758⟩ := r
  icases (Entails.of_eq (recvPay_at A B c 2 (by decide) (d := dn c) (a := qr c 0 + pr c 0) (n := 64) rfl (by revert c; decide) rfl)) $$ V2 with ⟨U00, E20⟩
  ihave U00 := (Entails.of_eq (slotP_up A B c 2 0 (by decide) rfl)) $$ U00
  icases (Entails.of_eq (recvPay_at A B c 6 (by decide) (d := up c) (a := qr c 0 + pr c 0) (n := 64) rfl (by revert c; decide) rfl)) $$ V6 with ⟨U10, E16⟩
  ihave U10 := (Entails.of_eq (slotP_dn A B c 6 0 (by decide) rfl)) $$ U10
  iapply (runs_bind c)
  iapply (part23 A B c _ _ _ _ _ _ _) $$ S0 U00
  iintro %r %hr ⟨S0, U00⟩
  obtain ⟨v775, v793, v794, c4_i32_531, v795, c1_i32_533⟩ := r
  obtain rfl := hr
  iapply (runs_bind c)
  iapply (part24 A B K c _ _ _ _ _ _) $$ HR HL HS S0 U10
  iintro %r ⟨HS, U10, S0, V3⟩
  icases (Entails.of_eq (recvPay_at A B c 3 (by decide) (d := dn c) (a := qr c 0 + pr c 1) (n := 64) rfl (by revert c; decide) rfl)) $$ V3 with ⟨U01, E23⟩
  ihave U01 := (Entails.of_eq (slotP_up A B c 3 1 (by decide) rfl)) $$ U01
  iapply (runs_bind c)
  iapply (part25 A B K c _ _ _) $$ HR HL HS
  iintro %r ⟨HS, V7⟩
  icases (Entails.of_eq (recvPay_at A B c 7 (by decide) (d := up c) (a := qr c 0 + pr c 1) (n := 64) rfl (by revert c; decide) rfl)) $$ V7 with ⟨U11, E19⟩
  ihave U11 := (Entails.of_eq (slotP_dn A B c 7 1 (by decide) rfl)) $$ U11
  iapply (runs_bind c)
  iapply (part26 A B c _ _) $$ S1 U01 U11
  iintro %r ⟨U01, U11, S1⟩
  iapply (runs_bind c)
  iapply (part27 A B K c _ _) $$ HR HL HS S1 L2
  iintro %r ⟨HS, V4⟩
  icases (Entails.of_eq (recvPay_at A B c 4 (by decide) (d := dn c) (a := qr c 0 + pr c 2) (n := 64) rfl (by revert c; decide) rfl)) $$ V4 with ⟨U02, E22⟩
  ihave U02 := (Entails.of_eq (slotP_up A B c 4 2 (by decide) rfl)) $$ U02
  iapply (runs_bind c)
  iapply (part28 A B K c _ _ _) $$ HR HL HS S2
  iintro %r %hr ⟨HS, V8, S2⟩
  obtain ⟨v956, v958, v959, c4_i32_654, v960, c1_i32_656⟩ := r
  obtain rfl := hr
  icases (Entails.of_eq (recvPay_at A B c 8 (by decide) (d := up c) (a := qr c 0 + pr c 2) (n := 64) rfl (by revert c; decide) rfl)) $$ V8 with ⟨U12, E18⟩
  ihave U12 := (Entails.of_eq (slotP_dn A B c 8 2 (by decide) rfl)) $$ U12
  iapply (runs_bind c)
  iapply (part29 A B c _ _ _ _ _ _ _) $$ S2 U02 U12
  iintro %r ⟨U02, U12, S2⟩
  iapply (runs_bind c)
  iapply (part30 A B K c _ _) $$ HR HL HS S2 L3
  iintro %r ⟨HS, V5⟩
  icases (Entails.of_eq (recvPay_at A B c 5 (by decide) (d := dn c) (a := qr c 0 + pr c 3) (n := 64) rfl (by revert c; decide) rfl)) $$ V5 with ⟨U03, E21⟩
  ihave U03 := (Entails.of_eq (slotP_up A B c 5 3 (by decide) rfl)) $$ U03
  iapply (runs_bind c)
  iapply (part31 A B K c _ _) $$ HR HL HS S3
  iintro %r %hr ⟨HS, V9, S3⟩
  obtain ⟨v1051, v1053, v1056, v1057, v1058, v1059, v1060⟩ := r
  obtain rfl := hr
  icases (Entails.of_eq (recvPay_at A B c 9 (by decide) (d := up c) (a := qr c 0 + pr c 3) (n := 64) rfl (by revert c; decide) rfl)) $$ V9 with ⟨U13, E17⟩
  ihave U13 := (Entails.of_eq (slotP_dn A B c 9 3 (by decide) rfl)) $$ U13
  iapply (runs_bind c)
  iapply (part32 A B c _ _ _ _ _ _ _ _) $$ S3 U03 U13
  iintro %r ⟨U03, U13, S3⟩
  iapply (runs_bind c)
  iapply (part33 A B K c _ _) $$ HR HL HS S3 L4
  iintro %r ⟨HS, V10, V11⟩
  icases (Entails.of_eq (recvPay_at A B c 10 (by decide) (d := zr 2 c) (a := qr c 0 + pr c 0) (n := 64) rfl (by revert c; decide) rfl)) $$ V10 with ⟨Z0, E15⟩
  ihave Z0 := (Entails.of_eq (slotP_z A B c 10 0 rfl)) $$ Z0
  icases (Entails.of_eq (recvPay_at A B c 11 (by decide) (d := zr 1 c) (a := qr c 0 + pr c 0) (n := 64) rfl (by revert c; decide) rfl)) $$ V11 with ⟨Z1, E14⟩
  ihave Z1 := (Entails.of_eq (slotP_z A B c 11 1 rfl)) $$ Z1
  iapply (runs_bind c)
  iapply (part34 A B K c _ _ _) $$ HR HL HS
  iintro %r ⟨HS, V12⟩
  obtain ⟨v1145, v1147, v1148, v1149, v1152⟩ := r
  icases (Entails.of_eq (recvPay_at A B c 12 (by decide) (d := zr 0 c) (a := qr c 0 + pr c 0) (n := 64) rfl (by revert c; decide) rfl)) $$ V12 with ⟨Z2, E13⟩
  ihave Z2 := (Entails.of_eq (slotP_z A B c 12 2 rfl)) $$ Z2
  iapply (runs_bind c)
  iapply (part35 A B c _ _ _ _ _ _ _) $$ S0 Z0 Z1 Z2
  iintro %r %hr ⟨S0, Z0, Z1, Z2⟩
  obtain ⟨v1170, v1181, v1183, v1184, v1185, v1186, v1187⟩ := r
  obtain rfl := hr
  iapply (runs_bind c)
  iapply (part36 A B c _ _ _ _ _ _ _ _) $$ S0
  iintro %r S0
  obtain ⟨v1222, v1223, v1224, v1225⟩ := r
  icases (acc_keep c (qr c 0 + pr c 0) 64 (FIN A B)).1 $$ S0 with ⟨S0, S0K⟩
  icases (acc_cut c (qr c 0 + pr c 0) 64 (q := qM) (l := share 13) (r := qM.right) rfl rfl (FIN A B)).1 $$ S0 with ⟨P13, S0⟩
  icases (acc_cut c (qr c 0 + pr c 0) 64 (q := qM.right) (l := share 14) (r := qM.right.right) rfl rfl (FIN A B)).1 $$ S0 with ⟨P14, S0⟩
  icases (acc_cut c (qr c 0 + pr c 0) 64 (q := qM.right.right) (l := share 15) (r := qM.right.right.right) rfl rfl (FIN A B)).1 $$ S0 with ⟨P15, S0⟩
  icases (acc_cut c (qr c 0 + pr c 0) 64 (q := qM.right.right.right) (l := share 16) (r := share 20) rfl rfl (FIN A B)).1 $$ S0 with ⟨P16, P20⟩
  iapply (runs_bind c)
  iapply (part37 A B K c _ _ _ _ _ _ _) $$ HR HS P13 E13
  iintro %r HS
  iapply (runs_bind c)
  iapply (part38 c _ _ _ _)
  iintro %r
  iapply (runs_bind c)
  iapply (part39 A B K c _ _ _) $$ HR HS P14 E14
  iintro %r HS
  obtain ⟨v1330, v1331, v1332, v1333, v1334⟩ := r
  iapply (runs_bind c)
  iapply (part40 A B K c _ _ _ _ _ _ _ _) $$ HR HS P15 E15
  iintro %r HS
  obtain ⟨v1360, v1371⟩ := r
  iapply (runs_bind c)
  iapply (part41 A B K c _ _ _ _) $$ HR HL HS P16 E16 P20 E20
  iintro %r ⟨HS, W13⟩
  iapply (runs_bind c)
  iapply (part42 A B K c _ _ _ _) $$ HR HL HS
  iintro %r ⟨HS, V13⟩
  ihave S3 := (Entails.of_eq (recvPay_end A B c 13 (by decide) (a := qr c 0 + pr c 3) (n := 64) (by revert c; decide) rfl)) $$ V13
  icases (acc_keep c (qr c 0 + pr c 3) 64 (FIN A B)).1 $$ S3 with ⟨S3, S3K⟩
  icases (acc_cut c (qr c 0 + pr c 3) 64 (q := qM) (l := share 17) (r := share 21) rfl rfl (FIN A B)).1 $$ S3 with ⟨P17, P21⟩
  iapply (runs_bind c)
  iapply (part43 A B K c _ _ _ _) $$ HR HL HS P17 E17 P21 E21
  iintro %r ⟨HS, W14, V14⟩
  obtain ⟨v1460, v1462, v1463, v1468⟩ := r
  ihave S2 := (Entails.of_eq (recvPay_end A B c 14 (by decide) (a := qr c 0 + pr c 2) (n := 64) (by revert c; decide) rfl)) $$ V14
  icases (acc_keep c (qr c 0 + pr c 2) 64 (FIN A B)).1 $$ S2 with ⟨S2, S2K⟩
  icases (acc_cut c (qr c 0 + pr c 2) 64 (q := qM) (l := share 18) (r := share 22) rfl rfl (FIN A B)).1 $$ S2 with ⟨P18, P22⟩
  iapply (runs_bind c)
  iapply (part44 A B K c _ _ _ _ _ _) $$ HR HS P18 E18 P22 E22
  iintro %r HS
  iapply (runs_bind c)
  iapply (part45 A B K c _ _ _ _) $$ HR HL HS
  iintro %r ⟨HS, W15, V15⟩
  obtain ⟨v1534, c0_i32_1068⟩ := r
  ihave S1 := (Entails.of_eq (recvPay_end A B c 15 (by decide) (a := qr c 0 + pr c 1) (n := 64) (by revert c; decide) rfl)) $$ V15
  icases (acc_keep c (qr c 0 + pr c 1) 64 (FIN A B)).1 $$ S1 with ⟨S1, S1K⟩
  icases (acc_cut c (qr c 0 + pr c 1) 64 (q := qM) (l := share 19) (r := share 23) rfl rfl (FIN A B)).1 $$ S1 with ⟨P19, P23⟩
  ihave Q0 := (acc_pieces c (qr c 0) qK (FIN A B)).2 $$ [S0K S1K S2K S3K]
  · iframe S0K S1K S2K S3K
  ihave O0 := (any_out c _ _) $$ O0
  iapply (runs_bind c)
  iapply (part46 A B K c _ _ _ _) $$ HR HS P19 E19 P23 E23 Q0 O0
  iintro %r ⟨HS, Q0, O0⟩
  iapply (runs_bind c)
  iapply (part47 A B K c _ _) $$ HR HL HS
  iintro %r ⟨HS, W16, V16, W20, V20, W17, V17⟩
  iapply (runs_bind c)
  iapply (part48 A B K c _ _) $$ HR HL HS
  iintro %r ⟨HS, W21, V21, W18, V18, W22⟩
  iapply (runs_bind c)
  iapply (part49 A B K c _ _ _ _) $$ HR HL HS
  iintro %r ⟨HS, V22, W19, V19, W23, V23⟩
  obtain ⟨v1646, c4_i32_1175, v1647⟩ := r
  ihave G30 := (Entails.of_eq (recvPay_end A B c 16 (by decide) (a := qr c 3 + pr c 0) (n := 64) (by revert c; decide) rfl)) $$ V16
  ihave G33 := (Entails.of_eq (recvPay_end A B c 17 (by decide) (a := qr c 3 + pr c 3) (n := 64) (by revert c; decide) rfl)) $$ V17
  ihave G32 := (Entails.of_eq (recvPay_end A B c 18 (by decide) (a := qr c 3 + pr c 2) (n := 64) (by revert c; decide) rfl)) $$ V18
  ihave G31 := (Entails.of_eq (recvPay_end A B c 19 (by decide) (a := qr c 3 + pr c 1) (n := 64) (by revert c; decide) rfl)) $$ V19
  ihave G10 := (Entails.of_eq (recvPay_end A B c 20 (by decide) (a := qr c 1 + pr c 0) (n := 64) (by revert c; decide) rfl)) $$ V20
  ihave G13 := (Entails.of_eq (recvPay_end A B c 21 (by decide) (a := qr c 1 + pr c 3) (n := 64) (by revert c; decide) rfl)) $$ V21
  ihave G12 := (Entails.of_eq (recvPay_end A B c 22 (by decide) (a := qr c 1 + pr c 2) (n := 64) (by revert c; decide) rfl)) $$ V22
  ihave G11 := (Entails.of_eq (recvPay_end A B c 23 (by decide) (a := qr c 1 + pr c 1) (n := 64) (by revert c; decide) rfl)) $$ V23
  ihave Q1 := (acc_pieces c (qr c 1) fullShare (FIN A B)).2 $$ [G10 G11 G12 G13]
  · iframe G10 G11 G12 G13
  icases (acc_keep c (qr c 1) 256 (FIN A B)).1 $$ Q1 with ⟨Q1, Q1K⟩
  icases (acc_halves c (qr c 1) qM (FIN A B)).1 $$ Q1 with ⟨Q1a, Q1b⟩
  ihave Q3 := (acc_pieces c (qr c 3) fullShare (FIN A B)).2 $$ [G30 G31 G32 G33]
  · iframe G30 G31 G32 G33
  icases (acc_keep c (qr c 3) 256 (FIN A B)).1 $$ Q3 with ⟨Q3, Q3K⟩
  icases (acc_halves c (qr c 3) qM (FIN A B)).1 $$ Q3 with ⟨Q3a, Q3b⟩
  ihave Q3a := (acc_as c (qr c 3) 128 (q := qM) (q' := share 24) rfl (FIN A B)) $$ Q3a
  ihave Q1b := (acc_as c (qr c 1 + 128) 128 (q := qM) (q' := share 25) rfl (FIN A B)) $$ Q1b
  iapply (runs_bind c)
  iapply (part50 c _ _ _ _)
  iintro %r
  obtain ⟨v1683, c128_i32_1200⟩ := r
  iapply (runs_bind c)
  iapply (part51 A B K c _ _ _ _ _) $$ HR HS Q3a E24 Q1b E25
  iintro %r HS
  obtain ⟨v1714, v1715, c4_i32_1224, v1716⟩ := r
  ihave O1 := (any_out c _ _) $$ O1
  ihave O3 := (any_out c _ _) $$ O3
  iapply (runs_bind c)
  iapply (part52 A B K c _ _ _ _) $$ HR HL HS Q1K Q3K O1 O3
  iintro %r ⟨HS, Q1K, Q3K, O1, O3, W24⟩
  iapply (runs_bind c)
  iapply (part53 A B K c _ _ _) $$ HR HL HS
  iintro ⟨HS, W25, Q2⟩
  iapply (load_out c (off5_1 c) (by omega)) $$ O2
  iintro O2
  iapply (store_out c (off5_1 c) (fun j => pay16_out A B (qr c 2) j)) $$ O2
  iintro O2
  ihave W13 := (Entails.of_eq ((sendPay_last A B c 13 (by decide)).trans (acc_at A B c 13 (a := qr c 0 + pr c 0) (n := 64) (by revert c; decide) rfl))) $$ W13
  ihave W14 := (Entails.of_eq ((sendPay_last A B c 14 (by decide)).trans (acc_at A B c 14 (a := qr c 0 + pr c 0) (n := 64) (by revert c; decide) rfl))) $$ W14
  ihave W15 := (Entails.of_eq ((sendPay_last A B c 15 (by decide)).trans (acc_at A B c 15 (a := qr c 0 + pr c 0) (n := 64) (by revert c; decide) rfl))) $$ W15
  ihave W16 := (Entails.of_eq ((sendPay_last A B c 16 (by decide)).trans (acc_at A B c 16 (a := qr c 0 + pr c 0) (n := 64) (by revert c; decide) rfl))) $$ W16
  ihave W17 := (Entails.of_eq ((sendPay_last A B c 17 (by decide)).trans (acc_at A B c 17 (a := qr c 0 + pr c 3) (n := 64) (by revert c; decide) rfl))) $$ W17
  ihave W18 := (Entails.of_eq ((sendPay_last A B c 18 (by decide)).trans (acc_at A B c 18 (a := qr c 0 + pr c 2) (n := 64) (by revert c; decide) rfl))) $$ W18
  ihave W19 := (Entails.of_eq ((sendPay_last A B c 19 (by decide)).trans (acc_at A B c 19 (a := qr c 0 + pr c 1) (n := 64) (by revert c; decide) rfl))) $$ W19
  ihave W20 := (Entails.of_eq ((sendPay_last A B c 20 (by decide)).trans (acc_at A B c 20 (a := qr c 0 + pr c 0) (n := 64) (by revert c; decide) rfl))) $$ W20
  ihave W21 := (Entails.of_eq ((sendPay_last A B c 21 (by decide)).trans (acc_at A B c 21 (a := qr c 0 + pr c 3) (n := 64) (by revert c; decide) rfl))) $$ W21
  ihave W22 := (Entails.of_eq ((sendPay_last A B c 22 (by decide)).trans (acc_at A B c 22 (a := qr c 0 + pr c 2) (n := 64) (by revert c; decide) rfl))) $$ W22
  ihave W23 := (Entails.of_eq ((sendPay_last A B c 23 (by decide)).trans (acc_at A B c 23 (a := qr c 0 + pr c 1) (n := 64) (by revert c; decide) rfl))) $$ W23
  ihave W24 := (Entails.of_eq ((sendPay_last A B c 24 (by decide)).trans (acc_at A B c 24 (a := qr c 3) (n := 128) (by revert c; decide) rfl))) $$ W24
  ihave W25 := (Entails.of_eq ((sendPay_last A B c 25 (by decide)).trans (acc_at A B c 25 (a := qr c 1 + 128) (n := 128) (by revert c; decide) rfl))) $$ W25
  ihave W24 := (acc_as c (qr c 3) 128 (q := share 24) (q' := qM) rfl (FIN A B)) $$ W24
  ihave W25 := (acc_as c (qr c 1 + 128) 128 (q := share 25) (q' := qM) rfl (FIN A B)) $$ W25
  ihave W16 := (acc_cut c (qr c 0 + pr c 0) 64 (q := qM.right.right.right) (l := share 16) (r := share 20) rfl rfl (FIN A B)).2 $$ [W16 W20]
  · iframe W16 W20
  ihave W15 := (acc_cut c (qr c 0 + pr c 0) 64 (q := qM.right.right) (l := share 15) (r := qM.right.right.right) rfl rfl (FIN A B)).2 $$ [W15 W16]
  · iframe W15 W16
  ihave W14 := (acc_cut c (qr c 0 + pr c 0) 64 (q := qM.right) (l := share 14) (r := qM.right.right) rfl rfl (FIN A B)).2 $$ [W14 W15]
  · iframe W14 W15
  ihave W13 := (acc_cut c (qr c 0 + pr c 0) 64 (q := qM) (l := share 13) (r := qM.right) rfl rfl (FIN A B)).2 $$ [W13 W14]
  · iframe W13 W14
  ihave W17 := (acc_cut c (qr c 0 + pr c 3) 64 (q := qM) (l := share 17) (r := share 21) rfl rfl (FIN A B)).2 $$ [W17 W21]
  · iframe W17 W21
  ihave W18 := (acc_cut c (qr c 0 + pr c 2) 64 (q := qM) (l := share 18) (r := share 22) rfl rfl (FIN A B)).2 $$ [W18 W22]
  · iframe W18 W22
  ihave W19 := (acc_cut c (qr c 0 + pr c 1) 64 (q := qM) (l := share 19) (r := share 23) rfl rfl (FIN A B)).2 $$ [W19 W23]
  · iframe W19 W23
  ihave W := (acc_pieces c (qr c 0) qM (FIN A B)).2 $$ [W13 W19 W18 W17]
  · iframe W13 W19 W18 W17
  ihave Q0 := (acc_keep c (qr c 0) 256 (FIN A B)).2 $$ [W Q0]
  · iframe W Q0
  ihave Q1 := (acc_halves c (qr c 1) qM (FIN A B)).2 $$ [Q1a W25]
  · iframe Q1a W25
  ihave Q1 := (acc_keep c (qr c 1) 256 (FIN A B)).2 $$ [Q1 Q1K]
  · iframe Q1 Q1K
  ihave Q3 := (acc_halves c (qr c 3) qM (FIN A B)).2 $$ [W24 Q3b]
  · iframe W24 Q3b
  ihave Q3 := (acc_keep c (qr c 3) 256 (FIN A B)).2 $$ [Q3 Q3K]
  · iframe Q3 Q3K
  ihave HX := (acc_quarters c fullShare (FIN A B)).2 $$ [Q0 Q1 Q2 Q3]
  · iframe Q0 Q1 Q2 Q3
  ihave HT1 := (t1_blocks c (t1C A B c)).2 $$ [T10 T11]
  · iframe T10 T11
  ihave U0 := (t2_pieces c c 0 (t2C A B c)).2 $$ [U00 U01 U02 U03]
  · iframe U00 U01 U02 U03
  ihave U1 := (t2_pieces c c 1 (t2C A B c)).2 $$ [U10 U11 U12 U13]
  · iframe U10 U11 U12 U13
  ihave HT2 := (t2_blocks c (t2C A B c)).2 $$ [U0 U1]
  · iframe U0 U1
  ihave HZ := (z_blocks c (zC A B c)).2 $$ [Z0 Z1 Z2]
  · iframe Z0 Z1 Z2
  ihave HO := (out_quarters c (outAt A B)).2 $$ [O0 O1 O2 O3]
  · iframe O0 O1 O2 O3
  iapply (runs_ret c)
  iapply Hk
  iframe HS Hbar HA HB HO HX HT1 HT2 HZ

end

end Cert.Allred

end
-- ==== Proof.Deal.lean ====
/-
# What the launch deals to the devices

The kernel's semaphores and the runtime's barrier, all at zero, become the cells of the schedule; the tokens of
every cell's duties, made on the device that owns the cell, go to the device that performs the duty; and the
credit of the launch is what the others owe each device.
-/
module

public import proofs.«01_k».proof.Proof.Meet
public import proofs.«01_k».proof.Proof.Gen.KernelIdeal.Launch
public import Idealize.ShloMosaic.Lib.Pipeline.Launch

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The cells -/

theorem cls_csem_inj : Function.Injective csem := by decide +kernel
theorem kcell_inj : Function.Injective (kcell : Dev nD × Fin 41 → GSem nD τ sig) := by
  rintro ⟨c, k⟩ ⟨c', k'⟩ h
  have h1 : c = c' := congrArg (fun g : GSem nD τ sig => g.1.1) h
  have h2 : csem k = csem k' := congrArg Prod.snd h
  rw [h1, cls_csem_inj h2]
def allCells : Finset (GSem nD τ sig) := Finset.univ.map ⟨kcell, kcell_inj⟩

/-- The forty-one semaphores of a device: the barrier, the send cells, the receive cells. -/
def cellE : Unit ⊕ (Fin 14 ⊕ Fin 26) ≃ Fin 41 :=
  Equiv.ofBijective (Sum.elim (fun _ => 0) (Sum.elim sI rI)) (by decide +kernel)
def ownE : Fin 14 ⊕ Fin 26 ≃ Fin 40 := finSumFinEquiv

theorem cells_split (Φ : SemLoc sig → sProp 𝕄) : bigSep Finset.univ (fun k => Φ (csem k))
    = iprop(Φ (.reg barS) ∗ bigSep Finset.univ (fun j => Φ (.dma (ssem j))) ∗ bigSep Finset.univ (fun m => Φ (.dma (rsem m)))) := by
  rw [bigSep_univ_equiv cellE, bigSep_univ_sum, bigSep_univ_sum]
  have hb : bigSep Finset.univ (fun a : Unit => Φ (csem (cellE (.inl a)))) = Φ (.reg barS) := by
    rw [Finset.univ_unique, bigSep_singleton, ← csem_b]; rfl
  have hs : (fun j : Fin 14 => Φ (csem (cellE (.inr (.inl j))))) = fun j => Φ (.dma (ssem j)) := funext fun j => by rw [← csem_s]; rfl
  have hr : (fun m : Fin 26 => Φ (csem (cellE (.inr (.inr m))))) = fun m => Φ (.dma (rsem m)) := funext fun m => by rw [← csem_r]; rfl
  rw [hb, hs, hr]; rfl

theorem osem_s (j : Fin 14) : osem (ownE (.inl j)) = .dma (ssem j) := by revert j; decide
theorem osem_r (m : Fin 26) : osem (ownE (.inr m)) = .dma (rsem m) := by revert m; decide

theorem ownSemFacts : Pipeline.OwnSemFacts cfg0.spec osem := by decide +kernel

abbrev own0 (c : Dev nD) : sProp 𝕄 := Pipeline.ownSems0 (Ix := Unit) (Name := ℕ) (U := UU) (Lvl := ℕ) (Val := Elt F) (τ := τ) osem c

theorem own_eq (c : Dev nD) : own0 (F := F) c
    = iprop(bigSep Finset.univ (fun j => semVal (sCell c j) 0) ∗ bigSep Finset.univ (fun m => semVal (rCell c m) 0)) := by
  unfold own0 Pipeline.ownSems0
  rw [bigSep_univ_equiv ownE, bigSep_univ_sum]
  simp only [osem_s, osem_r]; rfl
theorem unscoped_eq (c : Dev nD) : (unscopedSems0 c : sProp 𝕄) = semVal (barCell c) 0 := by
  unfold unscopedSems0; rw [bigSep_eq_bigSepL_of_eq [SemLoc.reg barS] (by decide +kernel) (by decide)]; rfl

theorem sems_eq (c : Dev nD) : iprop(own0 (F := F) c ∗ unscopedSems0 c) ⊢ bigSep Finset.univ (fun k : Fin 41 => semVal (kcell (c, k)) 0) := by
  rw [own_eq, unscoped_eq, cells_split (fun sm => semVal ((c : Thread nD τ), sm) 0)]
  iintro ⟨⟨HS, HV⟩, HB⟩
  iframe HB HS HV

/-! ## The tokens -/

abbrev TokIx : Type := Fin 5 ⊕ (Fin 26 ⊕ Fin 26)
/-- The duties counted on a device's own cells: the barrier's five, each send, each arrival. -/
def tokOf (ci : Dev nD × TokIx) : GSem nD τ sig × ℕ × Fin 5 := match ci.2 with
  | .inl d => (barCell ci.1, 0, d)
  | .inr (.inl m) => (sCell ci.1 (sendIx m), sendRd m, 0)
  | .inr (.inr m) => (rCell ci.1 m, 0, 0)
theorem send_inj (m m' : Fin 26) (h : sendIx m = sendIx m' ∧ sendRd m = sendRd m') : m = m' := by revert m m'; decide +kernel
theorem tokOf_inj : Function.Injective tokOf := by
  rintro ⟨c, i⟩ ⟨c', i'⟩ h
  have h1 : c = c' := by
    have := congrArg (fun x : GSem nD τ sig × ℕ × Fin 5 => x.1.1.1) h
    rcases i with d | m | m <;> rcases i' with d' | m' | m' <;> exact this
  subst h1
  have h2 := congrArg (fun x : GSem nD τ sig × ℕ × Fin 5 => (cls x.1.2, x.2.1, x.2.2)) h
  have h3 : i = i' := by
    rcases i with d | m | m <;> rcases i' with d' | m' | m' <;> simp only [tokOf, cls_bar, cls_s, cls_r, Prod.mk.injEq] at h2
    · rw [h2.2.2]
    · exact absurd h2.1 (by simp)
    · exact absurd h2.1 (by simp)
    · exact absurd h2.1 (by simp)
    · rw [send_inj m m' ⟨Cls.snd.inj h2.1, h2.2.1⟩]
    · exact absurd h2.1 (by simp)
    · exact absurd h2.1 (by simp)
    · exact absurd h2.1 (by simp)
    · rw [Cls.rcv.inj h2.1]
  rw [h3]
def allToks : Finset (GSem nD τ sig × ℕ × Fin 5) := Finset.univ.map ⟨tokOf, tokOf_inj⟩

abbrev barTok (x : Dev nD × Fin 5) : sProp 𝕄 := dutyTok ER (barCell x.1) 0 x.2
abbrev rcvTok (x : Dev nD × Fin 26) : sProp 𝕄 := dutyTok ER (rCell x.1 x.2) 0 0
abbrev sndToks (c : Dev nD) : sProp 𝕄 := bigSep Finset.univ fun m => dutyTok ER (sCell c (sendIx m)) (sendRd m) 0
/-- The tokens of a device's own cells. -/
def toks (c : Dev nD) : sProp 𝕄 :=
  iprop(bigSep Finset.univ (fun d => barTok (F := F) (c, d)) ∗ sndToks (F := F) c ∗ bigSep Finset.univ (fun m => rcvTok (F := F) (c, m)))
/-- The tokens a device holds once they are dealt: of what it does itself. -/
def dealt (c : Dev nD) : sProp 𝕄 :=
  iprop(bigSep Finset.univ (fun i => barTok (F := F) (back (sigD i) c, sigD i)) ∗ sndToks (F := F) c ∗ bigSep Finset.univ (fun m => rcvTok (F := F) (tgt m c, m)))

/-- Who signals whom, and who sends to whom. -/
def sigE : Dev nD × Fin 5 ≃ Dev nD × Fin 5 where
  toFun x := (back (sigD x.2) x.1, sigD x.2)
  invFun x := (go x.2 x.1, sigD x.2)
  left_inv := by rintro ⟨c, i⟩; exact Prod.ext (go_back _ _) (show sigD (sigD i) = i by revert i; decide)
  right_inv := by
    rintro ⟨c, i⟩
    have : sigD (sigD i) = i := by revert i; decide
    exact Prod.ext (by show back (sigD (sigD i)) (go i c) = c; rw [this]; exact back_go _ _) this
def sendE : Dev nD × Fin 26 ≃ Dev nD × Fin 26 where
  toFun x := (tgt x.2 x.1, x.2)
  invFun x := (frm x.2 x.1, x.2)
  left_inv := by rintro ⟨c, m⟩; exact Prod.ext (back_go _ _) rfl
  right_inv := by rintro ⟨c, m⟩; exact Prod.ext (go_back _ _) rfl

theorem toks_dealt : bigSep Finset.univ (fun c : Dev nD => toks (F := F) c) ⊢ bigSep Finset.univ fun c : Dev nD => dealt (F := F) c := by
  unfold toks dealt
  rw [bigSep_sep', bigSep_sep', bigSep_sep', bigSep_sep', ← bigSep_univ_prod (barTok (F := F)), ← bigSep_univ_prod (rcvTok (F := F)),
    bigSep_univ_equiv sigE (barTok (F := F)), bigSep_univ_equiv sendE (rcvTok (F := F)), bigSep_univ_prod, bigSep_univ_prod]
  exact .rfl

section
variable (A : Dev nD → S1024x512.Idx → F .f32) (B : Dev nD → S512x1024.Idx → F .f32)

/-- What a device is dealt first, and what it starts from once every cell's invariant is in place. -/
def share₀ (c : Dev nD) : sProp 𝕄 :=
  iprop((bigSep Finset.univ fun k : Fin 41 => roundState ER (Rd A B) (kcell (c, k)) 0)
    ∗ (bigSep Finset.univ fun k : Fin 41 => iprop(atPos ER (kcell (c, k)) 0 ∅ 0 ∗ reached ER (kcell (c, k)) 0)) ∗ toks (F := F) c)
def own₁ (c : Dev nD) : sProp 𝕄 := iprop((bigSep Finset.univ fun k : Fin 41 => atPos ER (kcell (c, k)) 0 ∅ 0) ∗ dealt (F := F) c)
def share₁ (c : Dev nD) : sProp 𝕄 := iprop(∃ K, records A B K ∗ own₁ (F := F) c)

theorem fund : BI.own (ER (initOf allCells allToks)) ⊢ (|==> bigSep Finset.univ (share₀ A B) : sProp 𝕄) := by
  have hX (Φ : GSem nD τ sig → sProp 𝕄) : bigSep allCells Φ = bigSep Finset.univ fun c : Dev nD => bigSep Finset.univ fun k : Fin 41 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => by rw [bigSep_univ_sum, bigSep_univ_sum]; rfl
  iintro HX
  imod (Rounds.fund ER (Rd A B) allCells allToks) $$ HX with ⟨Hst, Hr, Hat, Htok⟩
  imodintro
  ihave Hst := (Entails.of_eq (hX fun g => roundState ER (Rd A B) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold share₀; simp only [bigSep_sep']
  iframe Hst Hat Hr Htok

theorem alloc (c : Dev nD) : iprop(own0 (F := F) c ∗ unscopedSems0 c ∗ share₀ A B c)
    ⊢ |={Set.univ}=> iprop((bigSep Finset.univ fun k : Fin 41 => iprop(∃ κ : ℕ, cellInv ER (Rd A B) κ (kcell (c, k))))
        ∗ (bigSep Finset.univ fun k : Fin 41 => iprop(atPos ER (kcell (c, k)) 0 ∅ 0 ∗ reached ER (kcell (c, k)) 0)) ∗ toks (F := F) c) := by
  have hi : iprop((bigSep Finset.univ fun k : Fin 41 => semVal (kcell (c, k)) 0) ∗ bigSep Finset.univ fun k : Fin 41 => roundState ER (Rd A B) (kcell (c, k)) 0)
      ⊢ (|={Set.univ}=> bigSep Finset.univ fun k : Fin 41 => iprop(∃ κ : ℕ, cellInv ER (Rd A B) κ (kcell (c, k))) : sProp 𝕄) := by
    rw [← bigSep_sep']
    exact (bigSep_mono fun k _ => (Rounds.body_intro ER (Rd A B) (kcell (c, k))).trans inv_alloc).trans (bigSep_fupd _ _)
  unfold share₀
  iintro ⟨Ho, Hu, Hst, Hat, Htok⟩
  ihave Hv := (sems_eq (F := F) c) $$ [Ho Hu]
  · iframe Ho Hu
  imod hi $$ [Hv Hst] with Hinv
  · iframe Hv Hst
  imodintro
  iframe Hinv Hat Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem share₁_intro (K : Dev nD × Fin 41 → ℕ) (c : Dev nD) : iprop(records A B K ∗ own₁ (F := F) c) ⊢ share₁ A B c := by
  unfold share₁; iintro ⟨HR, HO⟩; iexists K; iframe HR HO

theorem gather : (bigSep Finset.univ fun c : Dev nD => iprop((bigSep Finset.univ fun k : Fin 41 => iprop(∃ κ : ℕ, cellInv ER (Rd A B) κ (kcell (c, k))))
        ∗ (bigSep Finset.univ fun k : Fin 41 => iprop(atPos ER (kcell (c, k)) 0 ∅ 0 ∗ reached ER (kcell (c, k)) 0)) ∗ toks (F := F) c) : sProp 𝕄)
    ⊢ bigSep Finset.univ (share₁ A B) := by
  simp only [bigSep_sep']
  rw [← bigSep_univ_prod (fun ck : Dev nD × Fin 41 => iprop(∃ κ : ℕ, cellInv ER (Rd A B) κ (kcell ck))),
    ← bigSep_univ_prod (fun ck : Dev nD × Fin 41 => (reached ER (kcell ck) 0 : sProp 𝕄))]
  iintro ⟨HI, ⟨Hat, #HR⟩, Htok⟩
  ihave HK := (BI.bigSep_exists_pi Finset.univ (fun (ck : Dev nD × Fin 41) (κ : ℕ) => (cellInv ER (Rd A B) κ (kcell ck) : sProp 𝕄))) $$ HI
  icases HK with ⟨%K, #HI⟩
  ihave Htk := (toks_dealt (F := F)) $$ Htok
  iapply (with_persistent (R := records A B K) fun c _ => share₁_intro A B K c)
  isplitr
  · unfold records; rw [bigSep_sep']
    isplitl; · iexact HI
    iexact HR
  · unfold own₁; rw [bigSep_sep']
    iframe Hat Htk

theorem glob : (bigSep Finset.univ fun c => iprop(own0 (F := F) c ∗ unscopedSems0 c ∗ share₀ A B c) : sProp 𝕄)
    ⊢ |={Set.univ}=> bigSep Finset.univ (share₁ A B) :=
  ((bigSep_mono fun c _ => alloc A B c).trans (bigSep_fupd _ _)).trans (BI.fupd_mono (gather A B))

end

/-! ## The credit -/

abbrev O₀ (c : Dev nD) : CellTallies nD τ sig Unit := owed₀ c 0

theorem rcell_eq {a b : Dev nD} {m m' : Fin 26} (h : rCell a m = rCell b m') : a = b ∧ m = m' := by
  refine ⟨congrArg (fun g : GSem nD τ sig => g.1.1) h, ?_⟩
  have := congrArg (fun g : GSem nD τ sig => cls g.2) h
  simp only [cls_r] at this; exact Cls.rcv.inj this
theorem bcell_eq {a b : Dev nD} (h : barCell a = barCell b) : a = b := congrArg (fun g : GSem nD τ sig => g.1.1) h
theorem rcell_ne {a b : Dev nD} {m : Fin 26} : rCell a m ≠ barCell b := fun h => by
  have := congrArg (fun g : GSem nD τ sig => cls g.2) h
  simp only [cls_r, cls_bar] at this; cases this

theorem sum_tally {ι : Type} (s : Finset ι) (g : ι → GSem nD τ sig) (a : ι → ℕ) (g' : GSem nD τ sig) :
    (∑ i ∈ s, (tallyAt (g i) () (a i) : CellTallies nD τ sig Unit)) g' () = ∑ i ∈ s, if g' = g i then a i else 0 := by
  rw [Finset.sum_apply, Finsupp.finset_sum_apply]
  exact Finset.sum_congr rfl fun i _ => by rw [tallyAt_apply]; simp

theorem owes_bar (d c : Dev nD) : O₀ d (barCell c) () = ∑ i : Fin 5, if go (sigD i) c = d then 1 else 0 := by
  unfold O₀ owed₀ owed
  rw [Pi.add_apply, Finsupp.add_apply, sum_tally, sum_tally, Finset.sum_eq_zero (fun m _ => if_neg (fun h => rcell_ne h.symm)), zero_add, later_zero]
  refine Finset.sum_congr rfl fun i _ => ?_
  by_cases h : go (sigD i) c = d
  · rw [if_pos h, if_pos (by rw [← h, back_go])]
  · rw [if_neg h, if_neg (fun h' => h (by rw [bcell_eq h', go_back]))]
theorem unsent_zero : unsent 0 = Finset.univ := by decide +kernel
theorem owes_rcv (d c : Dev nD) (m : Fin 26) : O₀ d (rCell c m) () = if frm m c = d then amt m else 0 := by
  unfold O₀ owed₀ owed
  rw [Pi.add_apply, Finsupp.add_apply, sum_tally, sum_tally, Finset.sum_eq_zero (s := later 0) (fun m _ => if_neg (fun h => rcell_ne h)), add_zero,
    unsent_zero, Finset.sum_eq_single m (fun m' _ hm => if_neg (fun h => hm (rcell_eq h).2.symm)) (fun h => absurd (Finset.mem_univ m) h)]
  by_cases h : frm m c = d
  · rw [if_pos h, if_pos (by rw [← h]; show _ = rCell (go (dir m) (back (dir m) c)) m; rw [go_back])]
  · rw [if_neg h, if_neg (fun h' => h (by rw [(rcell_eq h').1]; exact back_go _ _))]

theorem launch_bar (c : Dev nD) :
    tallyOn (barCell c) (launchCredit (Pipeline.owing O₀) 0 (barCell c)) = (tallyAt (barCell c) () 5 : CellTallies nD τ sig Unit) := by
  unfold tallyAt; refine congrArg _ (Finsupp.ext fun u => ?_); cases u
  rw [Pipeline.launchCredit_owing, Finsupp.single_eq_same, Finset.sum_congr rfl fun d _ => owes_bar d c, Finset.sum_comm,
    Finset.sum_congr rfl fun i _ => Finset.sum_ite_eq Finset.univ (go (sigD i) c) fun _ => 1]
  simp
theorem launch_rcv (c : Dev nD) (m : Fin 26) :
    tallyOn (rCell c m) (launchCredit (Pipeline.owing O₀) 0 (rCell c m)) = (tallyAt (rCell c m) () (amt m) : CellTallies nD τ sig Unit) := by
  unfold tallyAt; refine congrArg _ (Finsupp.ext fun u => ?_); cases u
  rw [Pipeline.launchCredit_owing, Finsupp.single_eq_same, Finset.sum_congr rfl fun d _ => owes_rcv d c m, Finset.sum_ite_eq Finset.univ (frm m c) fun _ => amt m,
    if_pos (Finset.mem_univ _)]

theorem rsem_inj : Function.Injective fun m : Fin 26 => (SemLoc.dma (rsem m) : SemLoc sig) := fun m m' h => by
  have := congrArg cls h
  simp only [cls_r] at this; exact Cls.rcv.inj this
theorem creds (c : Dev nD) : (Pipeline.launchCred O₀ c : sProp 𝕄)
    ⊢ iprop(cred (tallyAt (barCell c) () 5) ∗ bigSep Finset.univ (fun m => cred (tallyAt (rCell c m) () (amt m)))) := by
  unfold Pipeline.launchCred
  rw [bigSep_univ_at _ (SemLoc.reg barS), launch_bar]
  refine sep_mono_right ?_
  refine (bigSep_subset (t := Finset.univ.map ⟨_, rsem_inj⟩) fun sm hs => ?_).trans ?_
  · obtain ⟨m, -, rfl⟩ := Finset.mem_map.mp hs
    refine Finset.mem_erase.mpr ⟨fun h => ?_, Finset.mem_univ _⟩
    have := congrArg cls h
    simp only [Function.Embedding.coeFn_mk, cls_r, cls_bar] at this; cases this
  · rw [bigSep_map]
    exact Entails.of_eq (bigSep_congr fun m _ => by rw [← launch_rcv]; rfl)

end Cert.Allred

end
-- ==== Proof.Run.lean ====
/-
# The run

Every device's body, from the launch to the end of the program: what it starts from, that its cells are all
closed when it is done, and what the memory holds then.
-/
module

public import proofs.«01_k».proof.Proof.Body
public import proofs.«01_k».proof.Proof.Deal
public import Idealize.ShloMosaic.Lib.Pipeline.CollectiveSegs
public import proofs.«01_k».proof.Proof.Gen.KernelIdeal.Points
public import proofs.«01_k».proof.Proof.Gen.KernelIdeal.Skeleton

@[expose] public section

noncomputable section

namespace Cert.Allred

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-! ## The end of a device's share -/

theorem unsent_end : unsent 78 = ∅ := by decide +kernel
theorem flying_zero : flying 0 = ∅ := by decide +kernel
theorem unrecv_zero : unrecv 0 = Finset.univ := by decide +kernel
theorem recvd_zero : recvd 0 = ∅ := by decide +kernel
theorem recvd_end : recvd 78 = Finset.univ := by decide +kernel
theorem owed_end (c : Dev nD) : owed c 78 = 0 := by unfold owed; rw [unsent_end, Finset.sum_empty]

section
variable (A : Dev nD → S1024x512.Idx → F .f32) (B : Dev nD → S512x1024.Idx → F .f32) (K : Dev nD × Fin 41 → ℕ) (c : Dev nD)

theorem close_s (j : Fin 14) : iprop(records A B K ∗ (atPos ER (sCell c j) (posR j 78) ∅ 0 ∗ reached ER (sCell c j) (posR j 78)))
    ⊢ (|={Set.univ}=> semVal (sCell c j) 0 : sProp 𝕄) := by
  rw [posR_end]
  iintro ⟨HR, Hat, -⟩
  ihave ⟨HI, -⟩ := (rec_s A B K c j) $$ HR
  imod (Rounds.cell_close ER (Rd A B) (Set.mem_univ (K (c, sI j))) (fun h => h) (R := rounds j) (later_s A B c j)) $$ [HI Hat] with Hz
  · iframe HI Hat
  imodintro; iexact Hz
theorem close_r (m : Fin 26) : iprop(records A B K ∗ atPos ER (rCell c m) 1 ∅ 0) ⊢ (|={Set.univ}=> semVal (rCell c m) 0 : sProp 𝕄) := by
  iintro ⟨HR, Hat⟩
  ihave ⟨HI, -⟩ := (rec_r A B K c m) $$ HR
  imod (Rounds.cell_close ER (Rd A B) (Set.mem_univ (K (c, rI m))) (fun h => h) (R := 1) (later_r A B c m)) $$ [HI Hat] with Hz
  · iframe HI Hat
  imodintro; iexact Hz
theorem close_b : iprop(records A B K ∗ atPos ER (barCell c) 1 ∅ 0) ⊢ (|={Set.univ}=> semVal (barCell c) 0 : sProp 𝕄) := by
  iintro ⟨HR, Hat⟩
  ihave ⟨HI, -⟩ := (rec_b A B K c) $$ HR
  imod (Rounds.cell_close ER (Rd A B) (Set.mem_univ (K (c, 0))) (fun h => h) (R := 1) (later_bar A B c)) $$ [HI Hat] with Hz
  · iframe HI Hat
  imodintro; iexact Hz

/-- Every message sent and seen, every semaphore of the device is back at zero and nothing is owed. -/
theorem close : iprop(records A B K ∗ St (F := F) c 78 ∗ atPos ER (barCell c) 1 ∅ 0)
    ⊢ (|={Set.univ}=> ((∃ W, owes (c : Thread nD τ) 0 W) ∗ semVal (barCell c) 0 ∗ own0 (F := F) c) : sProp 𝕄) := by
  unfold St stPos stDone
  rw [owed_end, recvd_end, own_eq]
  iintro ⟨#HR, ⟨%W, HO, -, -, Hs, -, Hd⟩, Hb⟩
  imod (close_b A B K c) $$ [Hb] with HB
  · iframe HR Hb
  imod ((with_persistent (R := records A B K) fun j _ => close_s A B K c j).trans (bigSep_fupd _ _)) $$ [Hs] with HS
  · iframe HR Hs
  imod ((with_persistent (R := records A B K) fun m _ => close_r A B K c m).trans (bigSep_fupd _ _)) $$ [Hd] with HV
  · iframe HR Hd
  imodintro
  isplitl [HO]
  · iexists W; iexact HO
  iframe HB HS HV

/-! ## The start -/

/-- What a device has at launch besides its buffers and its debt. -/
def start : sProp 𝕄 :=
  iprop(share₁ A B c ∗ (cred (tallyAt (barCell c) () 5) ∗ bigSep Finset.univ (fun m => cred (tallyAt (rCell c m) () (amt m)))) ∗ levAts L lv)

theorem st_intro (W : Waits sig Unit) : iprop(records A B K ∗ own₁ (F := F) c ∗ owes (c : Thread nD τ) (O₀ c) W
    ∗ cred (tallyAt (barCell c) () 5) ∗ bigSep Finset.univ (fun m => cred (tallyAt (rCell c m) () (amt m)))) ⊢ St₀ (F := F) c 0 := by
  unfold own₁ dealt St₀ stTok stFly stPos stRcv stDone
  rw [unsent_zero, flying_zero, unrecv_zero, recvd_zero, later_zero, cells_split (fun sm => atPos ER ((c : Thread nD τ), sm) 0 ∅ 0),
    bigSep_sep' Finset.univ (fun m => (dutyTok ER (sCell c (sendIx m)) (sendRd m) 0 : sProp 𝕄)) (fun m => dutyTok ER (rCell (tgt m c) m) 0 0),
    bigSep_sep' Finset.univ (fun m => (atPos ER (rCell c m) 0 ∅ 0 : sProp 𝕄)) (fun m => cred (tallyAt (rCell c m) () (amt m)))]
  simp only [posR_zero]
  iintro ⟨#HR, ⟨⟨Hb, Hs, Hr⟩, Hbt, Hst, Hrt⟩, HO, Hcb, Hcr⟩
  iexists W
  isplitl [HO]; · iexact HO
  isplitl [Hs Hr Hst Hrt Hcr]
  · isplitl [Hst Hrt]; · iframe Hst Hrt
    isplitr; · rw [bigSep_empty]; iempintro
    isplitl [Hs]
    · iapply (with_persistent (R := records A B K) (Φ := fun j => atPos ER (sCell c j) 0 ∅ 0) fun j _ => show _ ⊢ iprop(atPos ER (sCell c j) 0 ∅ 0 ∗ reached ER (sCell c j) 0) by
        iintro ⟨HR, Ha⟩
        ihave ⟨-, Hr⟩ := (rec_s A B K c j) $$ HR
        iframe Ha Hr)
      isplitr; · iexact HR
      iexact Hs
    isplitl [Hr Hcr]
    · isplitl [Hr]; · iexact Hr
      iexact Hcr
    rw [bigSep_empty]; iempintro
  isplitl [Hb Hcb]
  · isplitl [Hb]; · iexact Hb
    iexact Hcb
  iexact Hbt

end

/-! ## The pipeline's data -/

section
variable (m : (ℓ : Loc nD τ sig) → Buf (Elt F) ℓ) (ρ : Dev nD → PrngReg)

abbrev s₀ : MemSt nD τ sig (Elt F) := ⟨m, fun _ => 0, ρ⟩
/-- The operands of a device, as its staging buffers hold them. -/
def opA (c : Dev nD) : S1024x512.Idx → F .f32 := (win0_0.blk (0 : Fin 1)).view.read (Elt F) (m ((c : Thread nD τ).loc main_arg0))
def opB (c : Dev nD) : S512x1024.Idx → F .f32 := (win0_1.blk (0 : Fin 1)).view.read (Elt F) (m ((c : Thread nD τ).loc main_arg1))

/-- The kernel's own buffers on a device, whatever they hold. -/
def scr (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

def before (c : Dev nD) : sProp 𝕄 := iprop(start (opA m) (opB m) c ∗ scr (F := F) c)
def after (c : Dev nD) : sProp 𝕄 := iprop(scr (F := F) c ∗ semVal (barCell c) 0 ∗ own0 (F := F) c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m c
    | ⟨1, _⟩ => opB m c
    | ⟨2, _⟩ => outAt (opA m) (opB m)
  Φ t := match t with
    | ⟨0, _⟩ => before m c
    | ⟨_ + 1, _⟩ => after (F := F) c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(before m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(after (F := F) c ∗ (dats m ρ 0 c).owesAt () t0_0.succ ∗ stg c cc0_stg0_0 (opA m c) ∗ stg c cc0_stg1_0 (opB m c)
    ∗ stg c cc0_stg2_0 (outAt (opA m) (opB m)))

theorem sound (c : Dev nD) : bodyPre m ρ c ⊢ Runs c (onBufs cc0_body) (fun _ => bodyPost m ρ c) := by
  unfold bodyPre before start share₁ scr
  iintro ⟨⟨⟨⟨%K, #HR, Hown⟩, ⟨Hcb, Hcr⟩, #HL⟩, ⟨%f0, S0⟩, ⟨%f1, S1⟩, ⟨%f2, S2⟩, ⟨%f3, S3⟩⟩, Ho, ⟨%d0, %g0, %hg0, HA⟩, ⟨%d1, %g1, %hg1, HB⟩, ⟨%d2, %g2, %hg2, HO⟩⟩
  have h0 : g0 = opA m c := by rw [hg0]; unfold Dat.before; rw [if_pos (fetch0_0 t0_0)]; rfl
  have h1 : g1 = opB m c := by rw [hg1]; unfold Dat.before; rw [if_pos (fetch0_1 t0_0)]; rfl
  subst h0 h1
  unfold Dat.owesAt Pipeline.owesWithin
  icases Ho with ⟨%W, %hW, Hd⟩
  rw [show (dats m ρ 0 c).owed t0_0.castSucc = O₀ c from rfl]
  ihave HS := (st_intro (opA m) (opB m) K c W) $$ [Hown Hcb Hcr Hd]
  · iframe HR Hown Hcb Hcr Hd
  iapply (wp_fupd frame (wpE (defs₀ (F := F)) 𝒱₀ (c : Thread nD τ) none) Set.univ (onBufs cc0_body) (fun _ => bodyPost m ρ c))
  iapply (body (opA m) (opB m) K c f0 f1 f2 f3 g2) $$ HR HL HS HA HB HO S0 S1 S2 S3
  iintro ⟨HS, Hb, HA, HB, HO, S0, S1, S2, S3⟩
  imod (close (opA m) (opB m) K c) $$ [HS Hb] with ⟨⟨%W', Hd⟩, Hb, Hown⟩
  · iframe HR HS Hb
  imodintro
  unfold bodyPost after scr Dat.owesAt Pipeline.owesWithin
  rw [show (dats m ρ 0 c).owed t0_0.succ = 0 from rfl]
  isplitl [S0 S1 S2 S3 Hb Hown]
  · isplitl [S0 S1 S2 S3]
    · isplitl [S0]; · iexists _; iexact S0
      isplitl [S1]; · iexists _; iexact S1
      isplitl [S2]; · iexists _; iexact S2
      iexists _; iexact S3
    iframe Hb Hown
  isplitl [Hd]
  · iexists W'; isplitr; · ipureintro; exact fun _ _ => Or.inl trivial
    iexact Hd
  isplitl [HA]
  · iexists _; isplitr; · (ipureintro; rfl)
    iexact HA
  isplitl [HB]
  · iexists _; isplitr; · (ipureintro; rfl)
    iexact HB
  iexists _; isplitr; · (ipureintro; rfl)
  iexact HO

set_option maxRecDepth 16000 in
theorem obligation (c : Dev nD) : BodyObligation (dats (F := F) m ρ 0 c) (defs₀ (F := F)) 𝒱₀ () Set.univ := fun t => by
  rw [fin_N0 t]
  rw [bigSep_W0, bigSep_W0]
  simp only [owns_whole]
  show bodyPre m ρ c ⊢ wp frame (wpE (defs₀ (F := F)) 𝒱₀ c none) Set.univ (onBufs cc0_body) (fun _ => bodyPost m ρ c)
  exact sound m ρ c

/-! ## The launch -/

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ share₁ (opA m) (opB m) c)
      ⊢ |={Set.univ}=> iprop(start (opA m) (opB m) c ∗ emp) := by
  iintro ⟨-, HL, Hc, -, HG⟩
  ihave Hc := (creds (F := F) c) $$ Hc
  imodintro
  unfold start
  isplitl
  · iframe HG Hc HL
  · iempintro

theorem enter (c : Dev nD) :
    iprop(start (opA m) (opB m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scopedRest0_eq]
  unfold before scr
  iintro ⟨Hs, -, Hr⟩
  iframe Hs Hr

theorem leave (c : Dev nD) :
    (dats m ρ 0 c).Φ (Fin.last cfg0.N) ⊢ iprop(unscopedSems0 c ∗ own0 (F := F) c ∗ Pipeline.scopedRest cfg0.spec c) := by
  rw [show (dats m ρ 0 c).Φ (Fin.last cfg0.N) = after (F := F) c from rfl, scopedRest0_eq, unscoped_eq]
  unfold after scr
  iintro ⟨Hr, Hb, Hown⟩
  iframe Hb Hown Hr

theorem owed₀_pos {c : Dev nD} {g : GSem nD τ sig} {u : Unit} (h : 0 < owed₀ c 0 g u) : g.1.2 = .tc ∧ 0 < lv g () := by
  unfold owed₀ at h
  rw [Pi.add_apply, Finsupp.add_apply] at h
  rcases Nat.eq_zero_or_pos (owed c 0 g u) with h0 | h0
  · rw [h0, Nat.zero_add] at h
    obtain ⟨i, -, rfl⟩ := sum_tally_pos (later 0) (fun i => barCell (back (sigD i) c)) (fun _ => 1) h
    exact ⟨rfl, by rw [lv_bar]; exact Nat.one_pos⟩
  · obtain ⟨k, -, rfl⟩ := owed_pos h0
    exact ⟨rfl, by rw [lv_r]; exact Nat.lt_of_succ_lt (levT_pos k)⟩

/-- A staging buffer's semaphore is waited on below every level owed. -/
theorem stage_wait (c : Dev nD) (sm : SemLoc sig) (h : lv ((c : Thread nD τ), sm) () = 0) (O : CellTallies nD τ sig Unit) (hO : O = O₀ c ∨ O = 0) :
    (levAts L lv : sProp 𝕄) ⊢ MayWait (c : Thread nD τ) sm () O := by
  have hp {g : GSem nD τ sig} {u : Unit} (hg : 0 < O g u) : g.1.2 = .tc ∧ 0 < lv g () := by
    rcases hO with rfl | rfl
    · exact owed₀_pos hg
    · exact absurd hg (Nat.lt_irrefl 0)
  exact MayOwe.of_cut (L := L) (lev := lv) 0 (fun p hp => by rw [Finset.mem_singleton.mp hp, L_tc]; exact Finset.mem_singleton_self _)
    (fun g u hg => by unfold L; rw [if_pos (hp hg).1]; exact Finset.mem_singleton_self _)
    (fun p hp => by rw [Finset.mem_singleton.mp hp]; exact h.le)
    (fun g u hg => (hp hg).2)

theorem waits (c : Dev nD) : (levAts L lv : sProp 𝕄) ⊢ Pipeline.cellsWaits cfgs (dats m ρ) () 0 c :=
  Pipeline.cellsWaits_intro cfgs (dats m ρ) () 0 c fun w s t =>
    stage_wait c _ (by fin_cases w <;> fin_cases s <;> rfl) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution of the sixteen kernels ends, every semaphore back at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := share₀ (opA m) (opB m)) (G' := share₁ (opA m) (opB m)) (u₀ := u₀)
    (hu₀ := by
      unfold u₀
      iintro Hu
      ihave H := (ownU_pair _ _) $$ Hu
      icases H with ⟨HP, HX⟩
      imod (fund (opA m) (opB m)) $$ HX with HG
      imodintro
      isplitl [HP] <;> iassumption)
    (hglob := glob (opA m) (opB m))
    (hA := fun _ _ => rfl) (hpf := fun _ k => k.elim0)
    (X := start (opA m) (opB m)) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_a (c : Dev nD) : finalA m ρ c (0 : Fin 3) = m ((c : Thread nD τ).loc main_arg0) := (dats (F := F) m ρ 0 c).arrAt_in (0 : Fin 3) rfl _
theorem final_b (c : Dev nD) : finalA m ρ c (1 : Fin 3) = m ((c : Thread nD τ).loc main_arg1) := (dats (F := F) m ρ 0 c).arrAt_in (1 : Fin 3) rfl _
theorem final_out (c : Dev nD) : (win0_2.blk (0 : Fin 1)).view.read (Elt F) (finalA m ρ c (2 : Fin 3)) = outAt (opA m) (opB m) := by
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

end

end Cert.Allred

end
-- ==== Proof.Ref.lean ====
/-
# The reference's run

The reference is four host operations in a row on one device: the product of the whole operands, the constant
zero, that constant spread over the result's shape, and the larger of the two. Its result is `refAt` of the
operands; the operands' buffers keep what they held. The program has no semaphores at all.
-/
module

public import Idealize.ShloMosaic.Lib.StableHlo.Run
public import Idealize.ShloMosaic.Lib.Quiescent
public import proofs.«01_k».proof.Proof.Gen.ReferenceIdeal

@[expose] public section

noncomputable section

namespace Cert.AllredRef

open Cert.ReferenceIdeal Cert.ReferenceIdeal.Gen
open Idealize.ShloMosaic Idealize.ShloMosaic.TcCoe Idealize.ShloMosaic.StableHlo Idealize.SL.Sem

variable {F : FTy → Type} [FloatOps F]

/-- The result from the two whole operands. -/
def refAt (X : FVec F S1024x8192 .f32) (Y : FVec F S8192x1024 .f32) : FVec F S1024x1024 .f32 :=
  maximumf (Host.dotGeneral dot_S1024x8192_S8192x1024_S1024x1024_1_0_0_1_n_n none X Y)
    (broadcastInDim S1024x1024 ![] bcast_S_S1024x1024 (constant S_ .f32 0x00000000#32))

/-- The program's operations. -/
abbrev ops : List (HloOp τ sig (Elt F)) :=
  [ binary main_arg0 main_arg1 main_v0 (fun l r => Host.dotGeneral dot_S1024x8192_S8192x1024_S1024x1024_1_0_0_1_n_n none l r),
    nullary main_cst (constant S_ .f32 0x00000000#32),
    unary main_cst main_v1 (broadcastInDim S1024x1024 ![] bcast_S_S1024x1024),
    binary main_v0 main_v1 main_v2 maximumf ]

theorem main_ops (c : Dev nD) : main (F := F) c = seq ops := rfl

theorem at_v2 (V : Valuation τ sig (Elt F)) :
    after ops V (main_v2 : DevRef τ sig) = refAt (V (main_arg0 : DevRef τ sig)) (V (main_arg1 : DevRef τ sig)) := by
  after_results
  rfl
theorem at_arg0 (V : Valuation τ sig (Elt F)) : after ops V (main_arg0 : DevRef τ sig) = V (main_arg0 : DevRef τ sig) := by after_results
theorem at_arg1 (V : Valuation τ sig (Elt F)) : after ops V (main_arg1 : DevRef τ sig) = V (main_arg1 : DevRef τ sig) := by after_results

/-- From any memory, every fair run ends with the result at `refAt` of the operands, the operands as they were, and
every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = refAt (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono
    (fun r h => ⟨fun c => ⟨(h c main_v2).trans (at_v2 _), (h c main_arg0).trans (at_arg0 _), (h c main_arg1).trans (at_arg1 _)⟩,
      sem_eq_zero_of_no_sems (by decide) r.2⟩)
    (run_seq (by decide) (by decide) defs main (fun _ => ops) main_ops
      (fun _ => ⟨binary_bufs_sub .., nullary_bufs_sub .., unary_bufs_sub .., binary_bufs_sub ..⟩) m ρ)

end Cert.AllredRef

end
-- ==== Proof.Sum.lean ====
/-
# The value over the extended reals

Over the extended reals a cast is the identity and addition commutes and associates, so the order in which the
devices' products meet does not matter: the result is the sum of all sixteen products, rectified. Each product is a
sum over its device's 512 contraction indices; the reference sums over all 8192 at once.
-/
module

public import proofs.«01_k».proof.Proof.Contents
public import proofs.«01_k».proof.Proof.Ref
public import Idealize.ShloMosaic.Lib.MatmulPlain
public import Idealize.ShloMosaic.Lib.StackMember
public import Idealize.ShloMosaic.Lib.Layout
public import Idealize.ShloMosaic.Lib.IdealHost

@[expose] public section

noncomputable section

namespace Cert.Allred

open Cert.KernelIdeal Cert.KernelIdeal.Gen
open Idealize.ShloMosaic Idealize.ShloMosaic.TcCoe Idealize.ShloMosaic.ValueIdx

variable (A : Dev nD → S1024x512.Idx → Ideal .f32) (B : Dev nD → S512x1024.Idx → Ideal .f32)

/-- Device `c`'s product, entry by entry. -/
def prod (c : Dev nD) (i : S1024x1024.Idx) : EReal := ∑ k : Fin 512, A c (ix2 (i 0) k) * B c (ix2 k (i 1))

theorem shapeCast_same {s : Shape} {α : Type} (v : s.Idx → α) (h) : shapeCast s v h = v := by
  funext j
  exact congrArg v (by simp)

theorem pay1_prod (a : S128x512.Idx → Ideal .f32) (b : S512x1024.Idx → Ideal .f32) (r : Fin 128) (l : Fin 1024) :
    k0_pay1 (F := Ideal) a b (ix2 r l) = ∑ k : Fin 512, a (ix2 r k) * b (ix2 k l) := by
  unfold k0_pay1
  simp only [shapeCast_same, matmul]
  exact (Ideal.matmul_plain_apply (M := 128) (K := 512) (N := 1024) _ _ _ _ r l).trans (by
    rw [constant_apply, Ideal.ofBits_zero_f32, zero_add])

theorem pay4_prod (a : S256x512.Idx → Ideal .f32) (b : S512x1024.Idx → Ideal .f32) (r : Fin 256) (l : Fin 1024) :
    k0_pay4 (F := Ideal) a b (ix2 r l) = ∑ k : Fin 512, a (ix2 r k) * b (ix2 k l) := by
  unfold k0_pay4
  simp only [shapeCast_same, matmul]
  exact (Ideal.matmul_plain_apply (M := 256) (K := 512) (N := 1024) _ _ _ _ r l).trans (by
    rw [constant_apply, Ideal.ofBits_zero_f32, zero_add])

theorem PP_prod (c : Dev nD) (i : S1024x1024.Idx) : PP (F := Ideal) A B c i = prod A B c i := by
  have hi : (i 0).val < 1024 := (i 0).isLt
  unfold PP prod
  split
  · refine (pay1_prod _ _ _ _).trans (Finset.sum_congr rfl fun k _ => ?_)
    refine congrArg (· * _) (congrArg (A c) ?_)
    refine Shape.idx_ext₂ ?_ rfl
    show (128 * ((i 0).val / 128) + (i 0).val % 128) % 1024 = (i 0).val
    omega
  · refine (pay4_prod _ _ _ _).trans (Finset.sum_congr rfl fun k _ => ?_)
    refine congrArg (· * _) (congrArg (A c) ?_)
    refine Shape.idx_ext₂ ?_ rfl
    show (256 * ((i 0).val / 256) + (i 0).val % 256) % 1024 = (i 0).val
    omega

/-- On the quarter it finishes a device's plane adds up to the plane's four products. -/
theorem SS_prod (c : Dev nD) (i : S1024x1024.Idx) (h : (i 0).val / 256 = c.val % 4) :
    SS (F := Ideal) A B c i = prod A B c i + prod A B (dn c) i + prod A B (up c) i + prod A B (up (up c)) i := by
  have hu : (up c).val % 4 = (c.val % 4 + 1) % 4 := by clear h; revert c; decide
  have hd : (dn c).val % 4 = (c.val % 4 + 3) % 4 := by clear h; revert c; decide
  have e : dn (dn c) = up (up c) := by clear h hu hd; revert c; decide
  have h0 : GG (F := Ideal) A B c i = prod A B c i := by
    unfold GG
    rw [if_neg (by omega), if_neg (by omega), PP_prod]
  unfold SS
  rw [h0]
  by_cases hh : 128 ≤ (i 0).val % 256
  · have h1 : GG (F := Ideal) A B (dn c) i = prod A B (dn c) i + prod A B (up (up c)) i := by
      unfold GG
      rw [if_pos (by omega), PP_prod, PP_prod, e]
      rfl
    have h2 : GG (F := Ideal) A B (up c) i = prod A B (up c) i := by
      unfold GG
      rw [if_neg (by omega), if_neg (by omega), PP_prod]
    rw [h1, h2]
    show prod A B c i + (_ + _) + _ = _
    ac_rfl
  · have h1 : GG (F := Ideal) A B (dn c) i = prod A B (dn c) i := by
      unfold GG
      rw [if_neg (by omega), if_neg (by omega), PP_prod]
    have h2 : GG (F := Ideal) A B (up c) i = prod A B (up c) i + prod A B (up (up c)) i := by
      unfold GG
      rw [if_neg (by omega), if_pos (by omega), PP_prod, PP_prod]
      rfl
    rw [h1, h2]
    show prod A B c i + _ + (_ + _) = _
    ac_rfl

/-- A device's plane. -/
def plane (c : Dev nD) : List (Dev nD) := [c, dn c, up c, up (up c)]

theorem planes (c : Dev nD) : (plane c ++ plane (zr 2 c) ++ plane (zr 1 c) ++ plane (zr 0 c)).Perm (List.finRange 16) := by revert c; decide

/-- The four planes' sums are the sum over all devices. -/
theorem sum_planes {M : Type} [AddCommMonoid M] (f : Dev nD → M) (c : Dev nD) :
    ((f c + f (dn c) + f (up c) + f (up (up c))) + (f (zr 2 c) + f (dn (zr 2 c)) + f (up (zr 2 c)) + f (up (up (zr 2 c))))
      + (f (zr 1 c) + f (dn (zr 1 c)) + f (up (zr 1 c)) + f (up (up (zr 1 c)))))
      + (f (zr 0 c) + f (dn (zr 0 c)) + f (up (zr 0 c)) + f (up (up (zr 0 c)))) = ∑ d : Fin 16, f d := by
  rw [Fin.sum_univ_def, ← ((planes c).map f).sum_eq]
  simp only [plane, List.map_append, List.sum_append, List.map_cons, List.map_nil, List.sum_cons, List.sum_nil, add_zero, add_assoc]

/-- The result, entry by entry. -/
theorem outAt_sum (i : S1024x1024.Idx) : outAt (F := Ideal) A B i = max (∑ d : Fin 16, prod A B d i) 0 := by
  have hi : (i 0).val < 1024 := (i 0).isLt
  have hz : ∀ k c, (zr k c).val % 4 = c.val % 4 := by decide
  have ho : (i 0).val / 256 = (own (i 0).val).val % 4 := by
    show _ = (4 * ((i 0).val % 256 / 64) + (i 0).val / 256) % 16 % 4
    omega
  show max (SS (F := Ideal) A B _ i + SS (F := Ideal) A B _ i + SS (F := Ideal) A B _ i + SS (F := Ideal) A B _ i) _ = _
  rw [SS_prod _ _ _ _ ho, SS_prod _ _ _ _ (ho.trans (hz 2 _).symm), SS_prod _ _ _ _ (ho.trans (hz 1 _).symm), SS_prod _ _ _ _ (ho.trans (hz 0 _).symm),
    sum_planes (fun d => prod A B d i)]
  exact congrArg (max _) Ideal.ofBits_zero_bf16

/-! ## The reference -/

open Cert.AllredRef in
theorem refAt_sum (X : Cert.ReferenceIdeal.S1024x8192.Idx → Ideal .f32) (Y : Cert.ReferenceIdeal.S8192x1024.Idx → Ideal .f32) (i : S1024x1024.Idx) :
    refAt (F := Ideal) X Y i = max (∑ k : Fin 8192, X (ix2 (i 0) k) * Y (ix2 k (i 1))) 0 := by
  unfold refAt
  rw [maximumf_apply]
  refine congrArg₂ max ?_ ?_
  · conv_lhs => rw [eq_ix2 i]
    exact StackMember.dotGeneral_plain_apply (m := 1024) (k := 8192) (n := 1024) _ X Y (i 0) (i 1)
  · exact Ideal.ofBits_zero_f32

/-- A sum over 8192 indices, sixteen stretches of 512. -/
theorem sum_blocks {M : Type} [AddCommMonoid M] (f : Fin 8192 → M) :
    ∑ k : Fin 8192, f k = ∑ d : Fin 16, ∑ k : Fin 512, f ⟨d.val * 512 + k.val, by omega⟩ := by
  rw [← Fintype.sum_prod_type' (fun (d : Fin 16) (k : Fin 512) => f ⟨d.val * 512 + k.val, by omega⟩),
    ← Equiv.sum_comp (finProdFinEquiv (m := 16) (n := 512)) f]
  refine Finset.sum_congr rfl fun p _ => congrArg f (Fin.ext ?_)
  show p.2.val + 512 * p.1.val = p.1.val * 512 + p.2.val
  omega

/-- The two agree when every device holds its block of the reference's operands. -/
theorem out_ref (X : Cert.ReferenceIdeal.S1024x8192.Idx → Ideal .f32) (Y : Cert.ReferenceIdeal.S8192x1024.Idx → Ideal .f32)
    (hA : ∀ (c : Fin 16) (r : Fin 1024) (k : Fin 512), A c (ix2 r k) = X (ix2 r ⟨c.val * 512 + k.val, by omega⟩))
    (hB : ∀ (c : Fin 16) (k : Fin 512) (l : Fin 1024), B c (ix2 k l) = Y (ix2 ⟨c.val * 512 + k.val, by omega⟩ l)) :
    outAt (F := Ideal) A B = Cert.AllredRef.refAt (F := Ideal) X Y := by
  funext i
  rw [outAt_sum, refAt_sum, sum_blocks]
  refine congrArg (max · 0) (Finset.sum_congr rfl fun d _ => Finset.sum_congr rfl fun k _ => ?_)
  rw [hA d (i 0) k, hB d k (i 1)]

end Cert.Allred

end
-- ==== Proof.Whole.lean ====
/-
# The kernel's run over the extended reals

What the memory holds after the run, said of the whole arrays: the operands' buffers as they were, and every device's
result at the reference's value of the operands its blocks were cut from.
-/
module

public import proofs.«01_k».proof.Proof.Run
public import proofs.«01_k».proof.Proof.Sum

@[expose] public section

noncomputable section

namespace Cert.Allred

open Cert.KernelIdeal Cert.KernelIdeal.Gen
open Idealize.ShloMosaic Idealize.ShloMosaic.TcCoe Idealize.ShloMosaic.ValueIdx Idealize.SL.Sem

section
variable {F : FTy → Type} [FloatOps F] (m : (ℓ : Loc nD τ sig) → Buf (Elt F) ℓ) (ρ : Dev nD → PrngReg)

/-- A device's first operand is its buffer, whole; -/
theorem opA_whole (c : Dev nD) : opA m c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by rw [congrFun hz a]; simp) _
/-- so is its second, -/
theorem opB_whole (c : Dev nD) : opB m c = m ((c : Thread nD τ).loc main_arg1) := by
  have hz : (fun a => win0_1.index (0 : Fin 1) a * main_arg1.ty.shape.size a) = fun _ => 0 := funext fun a => by fin_cases a <;> decide
  exact Memref.read_access_unit_zero (Elt F) main_arg1 hz (fun a => by rw [congrFun hz a]; simp) _
/-- and its result fills its buffer. -/
theorem out_whole (c : Dev nD) : finalA m ρ c (2 : Fin 3) = outAt (opA m) (opB m) := by
  have hz : (fun a => win0_2.index (0 : Fin 1) a * main_v1.ty.shape.size a) = fun _ => 0 := funext fun a => by fin_cases a <;> decide
  exact (Memref.read_access_unit_zero (Elt F) main_v1 hz (fun a => by rw [congrFun hz a]; simp) _).symm.trans (final_out m ρ c)

/-- The run, as every claim reads it. -/
theorem run_whole : θ_run defs (onTc (τ := τ) (main (F := F))) ⟨m, fun _ => 0, ρ⟩ fun r =>
    (∀ c : Dev nD, r.2.mem ((c : Thread nD τ).loc main_v1) = outAt (opA m) (opB m)
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun _ h => ⟨fun c => ⟨(h.1 c (2 : Fin 3)).trans (out_whole m ρ c), (h.1 c (0 : Fin 3)).trans (final_a m ρ c),
    (h.1 c (1 : Fin 3)).trans (final_b m ρ c)⟩, h.2⟩) (run_main m ρ)

end

/-- When every device holds its blocks of `X` and `Y`, the result is the reference's. -/
theorem out_blocks (m : (ℓ : Loc nD τ sig) → Buf (Elt Ideal) ℓ) (X : Cert.ReferenceIdeal.S1024x8192.Idx → Ideal .f32)
    (Y : Cert.ReferenceIdeal.S8192x1024.Idx → Ideal .f32)
    (h : ∀ c : Dev nD, m ((c : Thread nD τ).loc main_arg0) = Layout.block ⟨2, ![1024, 512]⟩ ⟨2, ![1024, 8192]⟩ 1 16 c X
      ∧ m ((c : Thread nD τ).loc main_arg1) = Layout.block ⟨2, ![512, 1024]⟩ ⟨2, ![8192, 1024]⟩ 0 16 c Y) :
    outAt (opA m) (opB m) = Cert.AllredRef.refAt (F := Ideal) X Y := by
  refine out_ref _ _ X Y (fun c r k => ?_) (fun c k l => ?_)
  · rw [opA_whole, (h c).1]
    exact congrArg X (Shape.idx_ext₂ rfl rfl)
  · rw [opB_whole, (h c).2]
    exact congrArg Y (Shape.idx_ext₂ rfl rfl)

end Cert.Allred

end
-- ==== Proof.lean ====
/-
# The claims

The kernel's run is proved once, for any float values: read at the machine's it is the kernel's frame, over the extended
reals the idealized kernel's frame, and beside the reference's run the equality of the two results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Whole
public import Idealize.ShloMosaic.Adequacy
public import Idealize.ShloMosaic.Init

@[expose] public section

noncomputable section

namespace Cert.Proof

open Idealize.ShloMosaic Idealize.SL.Sem

/-- The two programs call the same body. -/
theorem bodies : Cert.Kernel.defs₀ (F := Bits) = Cert.KernelIdeal.defs₀ (F := Bits) := by
  refine congrArg Defs.onTc (funext fun l => ?_)
  obtain rfl : l = (0 : Fin 1) := Fin.eq_zero l
  exact funext fun _ => rfl

/-- The kernel ends, leaves its operands alone and every counter at zero; -/
theorem frame_kernel : Cert.quiescent_Kernel := fun m ρ _ => by
  have e : Cert.Kernel.defs (F := Bits) = Cert.KernelIdeal.defs (F := Bits) := congrArg (Pipeline.defs Cert.KernelIdeal.pcfgs) bodies
  rw [e]
  exact (θ_run Cert.KernelIdeal.defs _ _).mono (fun _ h => ⟨fun c => (h.1 c).2, h.2⟩) (Cert.Allred.run_whole (F := Bits) m ρ)

/-- so does the idealized kernel, -/
theorem frame_ideal : Cert.quiescent_KernelIdeal := fun m ρ _ =>
  (θ_run Cert.KernelIdeal.defs _ _).mono (fun _ h => ⟨fun c => (h.1 c).2, h.2⟩) (Cert.Allred.run_whole (F := Ideal) m ρ)

/-- and the reference. -/
theorem frame_ref : Cert.quiescent_ReferenceIdeal := fun m ρ _ =>
  (θ_run Cert.ReferenceIdeal.defs _ _).mono (fun _ h => ⟨fun c => (h.1 c).2, h.2⟩) (Cert.AllredRef.run_ref (F := Ideal) m ρ)

/-- Every device ends with the reference's result. -/
theorem value : Cert.algebraic_KernelIdeal_ReferenceIdeal := fun m ρ m' ρ' _ hm =>
  ⟨_, (θ_run Cert.KernelIdeal.defs _ _).mono (fun _ h c => ⟨(h.1 c).1.trans (Cert.Allred.out_blocks m _ _ hm), (h.1 c).2⟩)
      (Cert.Allred.run_whole (F := Ideal) m ρ),
    (θ_run Cert.ReferenceIdeal.defs _ _).mono (fun _ h => h.1 0) (Cert.AllredRef.run_ref (F := Ideal) m' ρ')⟩

theorem claim : Cert.Claim := ⟨Cert.Kernel.Gen.facts, Cert.KernelIdeal.Gen.facts, Cert.ReferenceIdeal.Gen.facts,
  frame_kernel, frame_ideal, frame_ref, trivial, value⟩

end Cert.Proof

end
